-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF1800000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)) (v5 : (c : Dev Cert.Kernel3Ideal.nD) → Buf (Elt Ideal) ((c.tc : Thread Cert.Kernel3Ideal.nD Cert.Kernel3Ideal.τ).loc Cert.Kernel3Ideal.main_v3_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_v3_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v18) = v4 c
          ∧ r.2.mem ((c.tc : Thread Cert.Reference3Ideal.nD Cert.Reference3Ideal.τ).loc Cert.Reference3Ideal.main_v20) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v19) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "mask" .f32 0xF1800000#32 ⊥

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S1 : Shape := ⟨1, ![1]⟩
abbrev S2x8x16384x128 : Shape := ⟨4, ![2, 8, 16384, 128]⟩
abbrev S2x8x128x16384 : Shape := ⟨4, ![2, 8, 128, 16384]⟩
abbrev S2x16384x512 : Shape := ⟨3, ![2, 16384, 512]⟩
abbrev S1x4x512x128 : Shape := ⟨4, ![1, 4, 512, 128]⟩
abbrev S1x4x128x16384 : Shape := ⟨4, ![1, 4, 128, 16384]⟩
abbrev S1x4x16384x128 : Shape := ⟨4, ![1, 4, 16384, 128]⟩
abbrev S1x512x256 : Shape := ⟨3, ![1, 512, 256]⟩
abbrev S4x512x128 : Shape := ⟨3, ![4, 512, 128]⟩
abbrev S4x1x16384 : Shape := ⟨3, ![4, 1, 16384]⟩
abbrev S512x512 : Shape := ⟨2, ![512, 512]⟩
abbrev S1x1x16x16384 : Shape := ⟨4, ![1, 1, 16, 16384]⟩
abbrev S16x16384 : Shape := ⟨2, ![16, 16384]⟩
abbrev S16384 : Shape := ⟨1, ![16384]⟩
abbrev S1x16384 : Shape := ⟨2, ![1, 16384]⟩
abbrev S1x1x16384 : Shape := ⟨3, ![1, 1, 16384]⟩
abbrev S512x128 : Shape := ⟨2, ![512, 128]⟩
abbrev S1x1x128 : Shape := ⟨3, ![1, 1, 128]⟩
abbrev S1x128 : Shape := ⟨2, ![1, 128]⟩
abbrev S1x1 : Shape := ⟨2, ![1, 1]⟩
abbrev S1x1x1 : Shape := ⟨3, ![1, 1, 1]⟩
abbrev S1x1x512x128 : Shape := ⟨4, ![1, 1, 512, 128]⟩
abbrev S1x1x128x512 : Shape := ⟨4, ![1, 1, 128, 512]⟩
abbrev S128x512 : Shape := ⟨2, ![128, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 5
  | .vmem => 9
  | .smem => 1
  | _ => 0

abbrev bufTy : (tb : Table) → Fin (tcTables nBuf tb) → BufTy
  | .hbm, ⟨0, _⟩ => ⟨S1, .f32⟩
  | .hbm, ⟨1, _⟩ => ⟨S2x8x16384x128, .bf16⟩
  | .hbm, ⟨2, _⟩ => ⟨S2x8x128x16384, .bf16⟩
  | .hbm, ⟨3, _⟩ => ⟨S2x8x16384x128, .bf16⟩
  | .hbm, ⟨4, _⟩ => ⟨S2x16384x512, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x4x128x16384, .bf16⟩
  | .local _ .vmem, ⟨3, _⟩ => ⟨S1x4x16384x128, .bf16⟩
  | .local _ .vmem, ⟨4, _⟩ => ⟨S1x512x256, .bf16⟩
  | .local _ .vmem, ⟨5, _⟩ => ⟨S1x512x256, .bf16⟩
  | .local _ .vmem, ⟨6, _⟩ => ⟨S4x512x128, .f32⟩
  | .local _ .vmem, ⟨7, _⟩ => ⟨S4x512x128, .f32⟩
  | .local _ .vmem, ⟨8, _⟩ => ⟨S4x1x16384, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c512_i32_8 : BitVec 32 := 512#32
  let v24 : BitVec 32 := Scalar.muli arg2 c512_i32_8
  v24
def k0_off1 (i : grid0.Coords) : Fin 3 → Nat :=
  let c0_9 : Index := 0#32
  let c0_10 : Index := 0#32
  let arg2 : BitVec 32 := BitVec.ofNat 32 (i 2).val
  let c512_i32_8 : BitVec 32 := 512#32
  let v24 : BitVec 32 := Scalar.muli arg2 c512_i32_8
  let v25 : BitVec 32 := v24
  let v26 : Index := Scalar.indexCast v25
  ![0, 0, v26.toNat]
def k0_mult2 (i : grid0.Coords) : BitVec 32 :=
  let arg2 : BitVec 32 := BitVec.ofNat 32 (i 2).val
  let c512_i32_19 : BitVec 32 := 512#32
  let v47 : BitVec 32 := Scalar.muli arg2 c512_i32_19
  v47
def k0_off2 (i : grid0.Coords) : Fin 3 → Nat :=
  let c1 : Index := 1#32
  let c0_20 : Index := 0#32
  let arg2 : BitVec 32 := BitVec.ofNat 32 (i 2).val
  let c512_i32_19 : BitVec 32 := 512#32
  let v47 : BitVec 32 := Scalar.muli arg2 c512_i32_19
  let v48 : BitVec 32 := v47
  let v49 : Index := Scalar.indexCast v48
  ![1, 0, v49.toNat]
def k0_mult3 (i : grid0.Coords) : BitVec 32 :=
  let arg2 : BitVec 32 := BitVec.ofNat 32 (i 2).val
  let c512_i32_30 : BitVec 32 := 512#32
  let v71 : BitVec 32 := Scalar.muli arg2 c512_i32_30
  v71
def k0_off3 (i : grid0.Coords) : Fin 3 → Nat :=
  let c2 : Index := 2#32
  let c0_31 : Index := 0#32
  let arg2 : BitVec 32 := BitVec.ofNat 32 (i 2).val
  let c512_i32_30 : BitVec 32 := 512#32
  let v71 : BitVec 32 := Scalar.muli arg2 c512_i32_30
  let v72 : BitVec 32 := v71
  let v73 : Index := Scalar.indexCast v72
  ![2, 0, v73.toNat]
def k0_mult4 (i : grid0.Coords) : BitVec 32 :=
  let arg2 : BitVec 32 := BitVec.ofNat 32 (i 2).val
  let c512_i32_41 : BitVec 32 := 512#32
  let v95 : BitVec 32 := Scalar.muli arg2 c512_i32_41
  v95
def k0_off4 (i : grid0.Coords) : Fin 3 → Nat :=
  let c3 : Index := 3#32
  let c0_42 : Index := 0#32
  let arg2 : BitVec 32 := BitVec.ofNat 32 (i 2).val
  let c512_i32_41 : BitVec 32 := 512#32
  let v95 : BitVec 32 := Scalar.muli arg2 c512_i32_41
  let v96 : BitVec 32 := v95
  let v97 : Index := Scalar.indexCast v96
  ![3, 0, v97.toNat]
@[reducible] def k0_t1_loop (i : grid0.Coords) (v46 : BitVec 32) (v69 : BitVec 32) (v93 : BitVec 32) (v117 : BitVec 32) : Scf.Loop 32 :=
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_54 : BitVec 32 := 1#32
  ⟨v118, v123, c1_i32_54⟩

def k0_mult5 (i : grid0.Coords) (v46 : BitVec 32) (v69 : BitVec 32) (v93 : BitVec 32) (v117 : BitVec 32) (k0_t1 : Fin (k0_t1_loop i v46 v69 v93 v117).trips) : BitVec 32 :=
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  v320
def k0_off5 (i : grid0.Coords) (v46 : BitVec 32) (v69 : BitVec 32) (v93 : BitVec 32) (v117 : BitVec 32) (k0_t1 : Fin (k0_t1_loop i v46 v69 v93 v117).trips) : Fin 4 → Nat :=
  let c0_188 : Index := 0#32
  let c0_189 : Index := 0#32
  let c0_190 : Index := 0#32
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  let v321 : BitVec 32 := v320
  let v324 : Index := Scalar.indexCast v321
  ![0, 0, 0, v324.toNat]
def k0_off6 (i : grid0.Coords) (v46 : BitVec 32) (v69 : BitVec 32) (v93 : BitVec 32) (v117 : BitVec 32) (k0_t1 : Fin (k0_t1_loop i v46 v69 v93 v117).trips) : Fin 4 → Nat :=
  let c0_196 : Index := 0#32
  let c1_197 : Index := 1#32
  let c0_198 : Index := 0#32
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  let v321 : BitVec 32 := v320
  let v330 : Index := Scalar.indexCast v321
  ![0, 1, 0, v330.toNat]
def k0_off7 (i : grid0.Coords) (v46 : BitVec 32) (v69 : BitVec 32) (v93 : BitVec 32) (v117 : BitVec 32) (k0_t1 : Fin (k0_t1_loop i v46 v69 v93 v117).trips) : Fin 4 → Nat :=
  let c0_204 : Index := 0#32
  let c2_205 : Index := 2#32
  let c0_206 : Index := 0#32
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  let v321 : BitVec 32 := v320
  let v336 : Index := Scalar.indexCast v321
  ![0, 2, 0, v336.toNat]
def k0_off8 (i : grid0.Coords) (v46 : BitVec 32) (v69 : BitVec 32) (v93 : BitVec 32) (v117 : BitVec 32) (k0_t1 : Fin (k0_t1_loop i v46 v69 v93 v117).trips) : Fin 4 → Nat :=
  let c0_212 : Index := 0#32
  let c3_213 : Index := 3#32
  let c0_214 : Index := 0#32
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  let v321 : BitVec 32 := v320
  let v342 : Index := Scalar.indexCast v321
  ![0, 3, 0, v342.toNat]
def k0_off9 (i : grid0.Coords) (v46 : BitVec 32) (v69 : BitVec 32) (v93 : BitVec 32) (v117 : BitVec 32) (k0_t1 : Fin (k0_t1_loop i v46 v69 v93 v117).trips) : Fin 4 → Nat :=
  let c0_216 : Index := 0#32
  let c0_217 : Index := 0#32
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  let v321 : BitVec 32 := v320
  let v346 : Index := Scalar.indexCast v321
  let c0_218 : Index := 0#32
  ![0, 0, v346.toNat, 0]
def k0_off10 (i : grid0.Coords) (v46 : BitVec 32) (v69 : BitVec 32) (v93 : BitVec 32) (v117 : BitVec 32) (k0_t1 : Fin (k0_t1_loop i v46 v69 v93 v117).trips) : Fin 4 → Nat :=
  let c0_219 : Index := 0#32
  let c1_220 : Index := 1#32
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  let v321 : BitVec 32 := v320
  let v349 : Index := Scalar.indexCast v321
  let c0_221 : Index := 0#32
  ![0, 1, v349.toNat, 0]
def k0_off11 (i : grid0.Coords) (v46 : BitVec 32) (v69 : BitVec 32) (v93 : BitVec 32) (v117 : BitVec 32) (k0_t1 : Fin (k0_t1_loop i v46 v69 v93 v117).trips) : Fin 4 → Nat :=
  let c0_222 : Index := 0#32
  let c2_223 : Index := 2#32
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  let v321 : BitVec 32 := v320
  let v352 : Index := Scalar.indexCast v321
  let c0_224 : Index := 0#32
  ![0, 2, v352.toNat, 0]
def k0_off12 (i : grid0.Coords) (v46 : BitVec 32) (v69 : BitVec 32) (v93 : BitVec 32) (v117 : BitVec 32) (k0_t1 : Fin (k0_t1_loop i v46 v69 v93 v117).trips) : Fin 4 → Nat :=
  let c0_225 : Index := 0#32
  let c3_226 : Index := 3#32
  let v70 : BitVec 32 := Scalar.minsi v46 v69
  let v94 : BitVec 32 := Scalar.minsi v70 v93
  let v118 : BitVec 32 := Scalar.minsi v94 v117
  let c1_i32_54 : BitVec 32 := 1#32
  let arg11 : BitVec 32 := Scf.iv v118 c1_i32_54 k0_t1
  let c512_i32_183 : BitVec 32 := 512#32
  let v320 : BitVec 32 := Scalar.muli arg11 c512_i32_183
  let v321 : BitVec 32 := v320
  let v355 : Index := Scalar.indexCast v321
  let c0_227 : Index := 0#32
  ![0, 3, v355.toNat, 0]
@[reducible] def k0_t2_loop (i : grid0.Coords) (v46 : BitVec 32) (v69 : BitVec 32) (v93 : BitVec 32) (v117 : BitVec 32) : Scf.Loop 32 :=
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let v120 : BitVec 32 := Scalar.addi v118 v119
  let c1_i32_55 : BitVec 32 := 1#32
  ⟨v123, v120, c1_i32_55⟩
def k0_mult6 (i : grid0.Coords) (v46 : BitVec 32) (v69 : BitVec 32) (v93 : BitVec 32) (v117 : BitVec 32) (k0_t2 : Fin (k0_t2_loop i v46 v69 v93 v117).trips) : BitVec 32 :=
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  v320
def k0_off13 (i : grid0.Coords) (v46 : BitVec 32) (v69 : BitVec 32) (v93 : BitVec 32) (v117 : BitVec 32) (k0_t2 : Fin (k0_t2_loop i v46 v69 v93 v117).trips) : Fin 4 → Nat :=
  let c0_188 : Index := 0#32
  let c0_189 : Index := 0#32
  let c0_190 : Index := 0#32
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  let v321 : BitVec 32 := v320
  let v324 : Index := Scalar.indexCast v321
  ![0, 0, 0, v324.toNat]
def k0_off14 (i : grid0.Coords) (v46 : BitVec 32) (v69 : BitVec 32) (v93 : BitVec 32) (v117 : BitVec 32) (k0_t2 : Fin (k0_t2_loop i v46 v69 v93 v117).trips) : Fin 4 → Nat :=
  let c0_196 : Index := 0#32
  let c1_197 : Index := 1#32
  let c0_198 : Index := 0#32
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  let v321 : BitVec 32 := v320
  let v330 : Index := Scalar.indexCast v321
  ![0, 1, 0, v330.toNat]
def k0_off15 (i : grid0.Coords) (v46 : BitVec 32) (v69 : BitVec 32) (v93 : BitVec 32) (v117 : BitVec 32) (k0_t2 : Fin (k0_t2_loop i v46 v69 v93 v117).trips) : Fin 4 → Nat :=
  let c0_204 : Index := 0#32
  let c2_205 : Index := 2#32
  let c0_206 : Index := 0#32
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  let v321 : BitVec 32 := v320
  let v336 : Index := Scalar.indexCast v321
  ![0, 2, 0, v336.toNat]
def k0_off16 (i : grid0.Coords) (v46 : BitVec 32) (v69 : BitVec 32) (v93 : BitVec 32) (v117 : BitVec 32) (k0_t2 : Fin (k0_t2_loop i v46 v69 v93 v117).trips) : Fin 4 → Nat :=
  let c0_212 : Index := 0#32
  let c3_213 : Index := 3#32
  let c0_214 : Index := 0#32
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  let v321 : BitVec 32 := v320
  let v342 : Index := Scalar.indexCast v321
  ![0, 3, 0, v342.toNat]
def k0_off17 (i : grid0.Coords) (v46 : BitVec 32) (v69 : BitVec 32) (v93 : BitVec 32) (v117 : BitVec 32) (k0_t2 : Fin (k0_t2_loop i v46 v69 v93 v117).trips) : Fin 4 → Nat :=
  let c0_216 : Index := 0#32
  let c0_217 : Index := 0#32
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  let v321 : BitVec 32 := v320
  let v346 : Index := Scalar.indexCast v321
  let c0_218 : Index := 0#32
  ![0, 0, v346.toNat, 0]
def k0_off18 (i : grid0.Coords) (v46 : BitVec 32) (v69 : BitVec 32) (v93 : BitVec 32) (v117 : BitVec 32) (k0_t2 : Fin (k0_t2_loop i v46 v69 v93 v117).trips) : Fin 4 → Nat :=
  let c0_219 : Index := 0#32
  let c1_220 : Index := 1#32
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  let v321 : BitVec 32 := v320
  let v349 : Index := Scalar.indexCast v321
  let c0_221 : Index := 0#32
  ![0, 1, v349.toNat, 0]
def k0_off19 (i : grid0.Coords) (v46 : BitVec 32) (v69 : BitVec 32) (v93 : BitVec 32) (v117 : BitVec 32) (k0_t2 : Fin (k0_t2_loop i v46 v69 v93 v117).trips) : Fin 4 → Nat :=
  let c0_222 : Index := 0#32
  let c2_223 : Index := 2#32
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  let v321 : BitVec 32 := v320
  let v352 : Index := Scalar.indexCast v321
  let c0_224 : Index := 0#32
  ![0, 2, v352.toNat, 0]
def k0_off20 (i : grid0.Coords) (v46 : BitVec 32) (v69 : BitVec 32) (v93 : BitVec 32) (v117 : BitVec 32) (k0_t2 : Fin (k0_t2_loop i v46 v69 v93 v117).trips) : Fin 4 → Nat :=
  let c0_225 : Index := 0#32
  let c3_226 : Index := 3#32
  let v70 : BitVec 32 := Scalar.minsi v46 v69
  let v94 : BitVec 32 := Scalar.minsi v70 v93
  let v118 : BitVec 32 := Scalar.minsi v94 v117
  let arg2 : BitVec 32 := BitVec.ofNat 32 (i 2).val
  let v119 : BitVec 32 := Scalar.subi arg2 v118
  let c1_i32_53 : BitVec 32 := 1#32
  let v121 : BitVec 32 := Scalar.divsi v119 c1_i32_53
  let v122 : BitVec 32 := Scalar.muli v121 c1_i32_53
  let v123 : BitVec 32 := Scalar.addi v118 v122
  let c1_i32_55 : BitVec 32 := 1#32
  let arg11 : BitVec 32 := Scf.iv v123 c1_i32_55 k0_t2
  let c512_i32_183 : BitVec 32 := 512#32
  let v320 : BitVec 32 := Scalar.muli arg11 c512_i32_183
  let v321 : BitVec 32 := v320
  let v355 : Index := Scalar.indexCast v321
  let c0_227 : Index := 0#32
  ![0, 3, v355.toNat, 0]

def k0_chk1 (i : grid0.Coords) (v46 : BitVec 32) (v69 : BitVec 32) (v93 : BitVec 32) (v117 : BitVec 32) : Prop :=
  ((k0_t1_loop i v46 v69 v93 v117).OK) ∧
  (∀ k0_t1 : Fin (k0_t1_loop i v46 v69 v93 v117).trips, 512 ∣ (k0_mult5 i v46 v69 v93 v117 k0_t1).toNat) ∧
  (∀ k0_t1 : Fin (k0_t1_loop i v46 v69 v93 v117).trips, ∀ a, (k0_off5 i v46 v69 v93 v117 k0_t1) a + S1x1x128x512.size a ≤ S1x4x128x16384.size a) ∧
  (∀ k0_t1 : Fin (k0_t1_loop i v46 v69 v93 v117).trips, ∀ a, (k0_off6 i v46 v69 v93 v117 k0_t1) a + S1x1x128x512.size a ≤ S1x4x128x16384.size a) ∧
  (∀ k0_t1 : Fin (k0_t1_loop i v46 v69 v93 v117).trips, ∀ a, (k0_off7 i v46 v69 v93 v117 k0_t1) a + S1x1x128x512.size a ≤ S1x4x128x16384.size a) ∧
  (∀ k0_t1 : Fin (k0_t1_loop i v46 v69 v93 v117).trips, ∀ a, (k0_off8 i v46 v69 v93 v117 k0_t1) a + S1x1x128x512.size a ≤ S1x4x128x16384.size a) ∧
  (∀ k0_t1 : Fin (k0_t1_loop i v46 v69 v93 v117).trips, ∀ a, (k0_off9 i v46 v69 v93 v117 k0_t1) a + S1x1x512x128.size a ≤ S1x4x16384x128.size a) ∧
  (∀ k0_t1 : Fin (k0_t1_loop i v46 v69 v93 v117).trips, ∀ a, (k0_off10 i v46 v69 v93 v117 k0_t1) a + S1x1x512x128.size a ≤ S1x4x16384x128.size a) ∧
  (∀ k0_t1 : Fin (k0_t1_loop i v46 v69 v93 v117).trips, ∀ a, (k0_off11 i v46 v69 v93 v117 k0_t1) a + S1x1x512x128.size a ≤ S1x4x16384x128.size a) ∧
  (∀ k0_t1 : Fin (k0_t1_loop i v46 v69 v93 v117).trips, ∀ a, (k0_off12 i v46 v69 v93 v117 k0_t1) a + S1x1x512x128.size a ≤ S1x4x16384x128.size a) ∧
  ((k0_t2_loop i v46 v69 v93 v117).OK) ∧
  (∀ k0_t2 : Fin (k0_t2_loop i v46 v69 v93 v117).trips, 512 ∣ (k0_mult6 i v46 v69 v93 v117 k0_t2).toNat) ∧
  (∀ k0_t2 : Fin (k0_t2_loop i v46 v69 v93 v117).trips, ∀ a, (k0_off13 i v46 v69 v93 v117 k0_t2) a + S1x1x128x512.size a ≤ S1x4x128x16384.size a) ∧
  (∀ k0_t2 : Fin (k0_t2_loop i v46 v69 v93 v117).trips, ∀ a, (k0_off14 i v46 v69 v93 v117 k0_t2) a + S1x1x128x512.size a ≤ S1x4x128x16384.size a) ∧
  (∀ k0_t2 : Fin (k0_t2_loop i v46 v69 v93 v117).trips, ∀ a, (k0_off15 i v46 v69 v93 v117 k0_t2) a + S1x1x128x512.size a ≤ S1x4x128x16384.size a) ∧
  (∀ k0_t2 : Fin (k0_t2_loop i v46 v69 v93 v117).trips, ∀ a, (k0_off16 i v46 v69 v93 v117 k0_t2) a + S1x1x128x512.size a ≤ S1x4x128x16384.size a) ∧
  (∀ k0_t2 : Fin (k0_t2_loop i v46 v69 v93 v117).trips, ∀ a, (k0_off17 i v46 v69 v93 v117 k0_t2) a + S1x1x512x128.size a ≤ S1x4x16384x128.size a) ∧
  (∀ k0_t2 : Fin (k0_t2_loop i v46 v69 v93 v117).trips, ∀ a, (k0_off18 i v46 v69 v93 v117 k0_t2) a + S1x1x512x128.size a ≤ S1x4x16384x128.size a) ∧
  (∀ k0_t2 : Fin (k0_t2_loop i v46 v69 v93 v117).trips, ∀ a, (k0_off19 i v46 v69 v93 v117 k0_t2) a + S1x1x512x128.size a ≤ S1x4x16384x128.size a) ∧
  (∀ k0_t2 : Fin (k0_t2_loop i v46 v69 v93 v117).trips, ∀ a, (k0_off20 i v46 v69 v93 v117 k0_t2) a + S1x1x512x128.size a ≤ S1x4x16384x128.size a)
theorem k0_t1_ok : ∀ (i : grid0.Coords) (v46 : BitVec 32) (v69 : BitVec 32) (v93 : BitVec 32) (v117 : BitVec 32) (k0_hw1 : k0_chk1 i v46 v69 v93 v117), (k0_t1_loop i v46 v69 v93 v117).OK := fun i v46 v69 v93 v117 k0_hw1 => k0_hw1.1
theorem k0_mult5_dvd : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), 512 ∣ (k0_mult5 i v46 v69 v93 v117 k0_t1).toNat := fun i v46 v69 v93 v117 k0_hw1 k0_t1 => k0_hw1.2.1 k0_t1
theorem k0_off5_inb : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), ∀ a, (k0_off5 i v46 v69 v93 v117 k0_t1) a + S1x1x128x512.size a ≤ S1x4x128x16384.size a := fun i v46 v69 v93 v117 k0_hw1 k0_t1 => k0_hw1.2.2.1 k0_t1
theorem k0_off6_inb : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), ∀ a, (k0_off6 i v46 v69 v93 v117 k0_t1) a + S1x1x128x512.size a ≤ S1x4x128x16384.size a := fun i v46 v69 v93 v117 k0_hw1 k0_t1 => k0_hw1.2.2.2.1 k0_t1
theorem k0_off7_inb : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), ∀ a, (k0_off7 i v46 v69 v93 v117 k0_t1) a + S1x1x128x512.size a ≤ S1x4x128x16384.size a := fun i v46 v69 v93 v117 k0_hw1 k0_t1 => k0_hw1.2.2.2.2.1 k0_t1
theorem k0_off8_inb : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), ∀ a, (k0_off8 i v46 v69 v93 v117 k0_t1) a + S1x1x128x512.size a ≤ S1x4x128x16384.size a := fun i v46 v69 v93 v117 k0_hw1 k0_t1 => k0_hw1.2.2.2.2.2.1 k0_t1
theorem k0_off9_inb : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), ∀ a, (k0_off9 i v46 v69 v93 v117 k0_t1) a + S1x1x512x128.size a ≤ S1x4x16384x128.size a := fun i v46 v69 v93 v117 k0_hw1 k0_t1 => k0_hw1.2.2.2.2.2.2.1 k0_t1
theorem k0_off10_inb : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), ∀ a, (k0_off10 i v46 v69 v93 v117 k0_t1) a + S1x1x512x128.size a ≤ S1x4x16384x128.size a := fun i v46 v69 v93 v117 k0_hw1 k0_t1 => k0_hw1.2.2.2.2.2.2.2.1 k0_t1
theorem k0_off11_inb : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), ∀ a, (k0_off11 i v46 v69 v93 v117 k0_t1) a + S1x1x512x128.size a ≤ S1x4x16384x128.size a := fun i v46 v69 v93 v117 k0_hw1 k0_t1 => k0_hw1.2.2.2.2.2.2.2.2.1 k0_t1
theorem k0_off12_inb : ∀ (i : grid0.Coords) (v46 : BitVec 32) (v69 : BitVec 32) (v93 : BitVec 32) (v117 : BitVec 32) (k0_hw1 : k0_chk1 i v46 v69 v93 v117) (k0_t1 : Fin (k0_t1_loop i v46 v69 v93 v117).trips), ∀ a, (k0_off12 i v46 v69 v93 v117 k0_t1) a + S1x1x512x128.size a ≤ S1x4x16384x128.size a := fun i v46 v69 v93 v117 k0_hw1 k0_t1 => k0_hw1.2.2.2.2.2.2.2.2.2.1 k0_t1
theorem k0_t2_ok : ∀ (i : grid0.Coords) (v46 : BitVec 32) (v69 : BitVec 32) (v93 : BitVec 32) (v117 : BitVec 32) (k0_hw1 : k0_chk1 i v46 v69 v93 v117), (k0_t2_loop i v46 v69 v93 v117).OK := fun i v46 v69 v93 v117 k0_hw1 => k0_hw1.2.2.2.2.2.2.2.2.2.2.1
theorem k0_mult6_dvd : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), 512 ∣ (k0_mult6 i v46 v69 v93 v117 k0_t2).toNat := fun i v46 v69 v93 v117 k0_hw1 k0_t2 => k0_hw1.2.2.2.2.2.2.2.2.2.2.2.1 k0_t2
theorem k0_off13_inb : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), ∀ a, (k0_off13 i v46 v69 v93 v117 k0_t2) a + S1x1x128x512.size a ≤ S1x4x128x16384.size a := fun i v46 v69 v93 v117 k0_hw1 k0_t2 => k0_hw1.2.2.2.2.2.2.2.2.2.2.2.2.1 k0_t2
theorem k0_off14_inb : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), ∀ a, (k0_off14 i v46 v69 v93 v117 k0_t2) a + S1x1x128x512.size a ≤ S1x4x128x16384.size a := fun i v46 v69 v93 v117 k0_hw1 k0_t2 => k0_hw1.2.2.2.2.2.2.2.2.2.2.2.2.2.1 k0_t2
theorem k0_off15_inb : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), ∀ a, (k0_off15 i v46 v69 v93 v117 k0_t2) a + S1x1x128x512.size a ≤ S1x4x128x16384.size a := fun i v46 v69 v93 v117 k0_hw1 k0_t2 => k0_hw1.2.2.2.2.2.2.2.2.2.2.2.2.2.2.1 k0_t2
theorem k0_off16_inb : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), ∀ a, (k0_off16 i v46 v69 v93 v117 k0_t2) a + S1x1x128x512.size a ≤ S1x4x128x16384.size a := fun i v46 v69 v93 v117 k0_hw1 k0_t2 => k0_hw1.2.2.2.2.2.2.2.2.2.2.2.2.2.2.2.1 k0_t2
theorem k0_off17_inb : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), ∀ a, (k0_off17 i v46 v69 v93 v117 k0_t2) a + S1x1x512x128.size a ≤ S1x4x16384x128.size a := fun i v46 v69 v93 v117 k0_hw1 k0_t2 => k0_hw1.2.2.2.2.2.2.2.2.2.2.2.2.2.2.2.2.1 k0_t2
theorem k0_off18_inb : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), ∀ a, (k0_off18 i v46 v69 v93 v117 k0_t2) a + S1x1x512x128.size a ≤ S1x4x16384x128.size a := fun i v46 v69 v93 v117 k0_hw1 k0_t2 => k0_hw1.2.2.2.2.2.2.2.2.2.2.2.2.2.2.2.2.2.1 k0_t2
theorem k0_off19_inb : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), ∀ a, (k0_off19 i v46 v69 v93 v117 k0_t2) a + S1x1x512x128.size a ≤ S1x4x16384x128.size a := fun i v46 v69 v93 v117 k0_hw1 k0_t2 => k0_hw1.2.2.2.2.2.2.2.2.2.2.2.2.2.2.2.2.2.2.1 k0_t2
theorem k0_off20_inb : ∀ (i : grid0.Coords) (v46 : BitVec 32) (v69 : BitVec 32) (v93 : BitVec 32) (v117 : BitVec 32) (k0_hw1 : k0_chk1 i v46 v69 v93 v117) (k0_t2 : Fin (k0_t2_loop i v46 v69 v93 v117).trips), ∀ a, (k0_off20 i v46 v69 v93 v117 k0_t2) a + S1x1x512x128.size a ≤ S1x4x16384x128.size a := fun i v46 v69 v93 v117 k0_hw1 k0_t2 => k0_hw1.2.2.2.2.2.2.2.2.2.2.2.2.2.2.2.2.2.2.2 k0_t2

def k0_mult7 (i : grid0.Coords) : BitVec 32 :=
  let arg2 : BitVec 32 := BitVec.ofNat 32 (i 2).val
  let c512_i32_56 : BitVec 32 := 512#32
  let v124 : BitVec 32 := Scalar.muli arg2 c512_i32_56
  v124
def k0_off21 (i : grid0.Coords) : Fin 4 → Nat :=
  let c0_61 : Index := 0#32
  let c0_62 : Index := 0#32
  let c0_63 : Index := 0#32
  let arg2 : BitVec 32 := BitVec.ofNat 32 (i 2).val
  let c512_i32_56 : BitVec 32 := 512#32
  let v124 : BitVec 32 := Scalar.muli arg2 c512_i32_56
  let v125 : BitVec 32 := v124
  let v128 : Index := Scalar.indexCast v125
  ![0, 0, 0, v128.toNat]
def k0_off22 (i : grid0.Coords) : Fin 4 → Nat :=
  let c0_70 : Index := 0#32
  let c1_71 : Index := 1#32
  let c0_72 : Index := 0#32
  let arg2 : BitVec 32 := BitVec.ofNat 32 (i 2).val
  let c512_i32_56 : BitVec 32 := 512#32
  let v124 : BitVec 32 := Scalar.muli arg2 c512_i32_56
  let v125 : BitVec 32 := v124
  let v136 : Index := Scalar.indexCast v125
  ![0, 1, 0, v136.toNat]
def k0_off23 (i : grid0.Coords) : Fin 4 → Nat :=
  let c0_79 : Index := 0#32
  let c2_80 : Index := 2#32
  let c0_81 : Index := 0#32
  let arg2 : BitVec 32 := BitVec.ofNat 32 (i 2).val
  let c512_i32_56 : BitVec 32 := 512#32
  let v124 : BitVec 32 := Scalar.muli arg2 c512_i32_56
  let v125 : BitVec 32 := v124
  let v144 : Index := Scalar.indexCast v125
  ![0, 2, 0, v144.toNat]
def k0_off24 (i : grid0.Coords) : Fin 4 → Nat :=
  let c0_88 : Index := 0#32
  let c3_89 : Index := 3#32
  let c0_90 : Index := 0#32
  let arg2 : BitVec 32 := BitVec.ofNat 32 (i 2).val
  let c512_i32_56 : BitVec 32 := 512#32
  let v124 : BitVec 32 := Scalar.muli arg2 c512_i32_56
  let v125 : BitVec 32 := v124
  let v152 : Index := Scalar.indexCast v125
  ![0, 3, 0, v152.toNat]
def k0_off25 (i : grid0.Coords) : Fin 4 → Nat :=
  let c0_93 : Index := 0#32
  let c0_94 : Index := 0#32
  let arg2 : BitVec 32 := BitVec.ofNat 32 (i 2).val
  let c512_i32_56 : BitVec 32 := 512#32
  let v124 : BitVec 32 := Scalar.muli arg2 c512_i32_56
  let v125 : BitVec 32 := v124
  let v158 : Index := Scalar.indexCast v125
  let c0_95 : Index := 0#32
  ![0, 0, v158.toNat, 0]
def k0_off26 (i : grid0.Coords) : Fin 4 → Nat :=
  let c0_96 : Index := 0#32
  let c1_97 : Index := 1#32
  let arg2 : BitVec 32 := BitVec.ofNat 32 (i 2).val
  let c512_i32_56 : BitVec 32 := 512#32
  let v124 : BitVec 32 := Scalar.muli arg2 c512_i32_56
  let v125 : BitVec 32 := v124
  let v161 : Index := Scalar.indexCast v125
  let c0_98 : Index := 0#32
  ![0, 1, v161.toNat, 0]
def k0_off27 (i : grid0.Coords) : Fin 4 → Nat :=
  let c0_99 : Index := 0#32
  let c2_100 : Index := 2#32
  let arg2 : BitVec 32 := BitVec.ofNat 32 (i 2).val
  let c512_i32_56 : BitVec 32 := 512#32
  let v124 : BitVec 32 := Scalar.muli arg2 c512_i32_56
  let v125 : BitVec 32 := v124
  let v164 : Index := Scalar.indexCast v125
  let c0_101 : Index := 0#32
  ![0, 2, v164.toNat, 0]
def k0_off28 (i : grid0.Coords) : Fin 4 → Nat :=
  let c0_102 : Index := 0#32
  let c3_103 : Index := 3#32
  let arg2 : BitVec 32 := BitVec.ofNat 32 (i 2).val
  let c512_i32_56 : BitVec 32 := 512#32
  let v124 : BitVec 32 := Scalar.muli arg2 c512_i32_56
  let v125 : BitVec 32 := v124
  let v167 : Index := Scalar.indexCast v125
  let c0_104 : Index := 0#32
  ![0, 3, v167.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x4x128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x4x16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S1 : Shape := ⟨1, ![1]⟩
abbrev S2x8x16384x128 : Shape := ⟨4, ![2, 8, 16384, 128]⟩
abbrev S2x8x128x16384 : Shape := ⟨4, ![2, 8, 128, 16384]⟩
abbrev S2x8x1x16384 : Shape := ⟨4, ![2, 8, 1, 16384]⟩
abbrev S2x8x16384 : Shape := ⟨3, ![2, 8, 16384]⟩
abbrev S2x8x32 : Shape := ⟨3, ![2, 8, 32]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S2x8x1x32 : Shape := ⟨4, ![2, 8, 1, 32]⟩
abbrev S2x8x32x1 : Shape := ⟨4, ![2, 8, 32, 1]⟩
abbrev S2x8x32x32 : Shape := ⟨4, ![2, 8, 32, 32]⟩
abbrev S_ : Shape := ⟨0, ![]⟩
abbrev S1x1x32x32 : Shape := ⟨4, ![1, 1, 32, 32]⟩
abbrev S2x2x4x32 : Shape := ⟨4, ![2, 2, 4, 32]⟩
abbrev S2x2x32 : Shape := ⟨3, ![2, 2, 32]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x32x512 : Shape := ⟨4, ![2, 8, 32, 512]⟩
abbrev S2x8x16384x1 : Shape := ⟨4, ![2, 8, 16384, 1]⟩
abbrev S1x1x1x16384 : Shape := ⟨4, ![1, 1, 1, 16384]⟩
abbrev S2x8x16384x16384 : Shape := ⟨4, ![2, 8, 16384, 16384]⟩
abbrev S1x1x16384x16384 : Shape := ⟨4, ![1, 1, 16384, 16384]⟩
abbrev S2x8x16384x64 : Shape := ⟨4, ![2, 8, 16384, 64]⟩
abbrev S2x16384x8x64 : Shape := ⟨4, ![2, 16384, 8, 64]⟩
abbrev S2x16384x512 : Shape := ⟨3, ![2, 16384, 512]⟩

abbrev nBuf : Space → Nat
  | .hbm => 92
  | .vmem => 0
  | .smem => 0
  | _ => 0

abbrev bufTy : (tb : Table) → Fin (tcTables nBuf tb) → BufTy
  | .hbm, ⟨0, _⟩ => ⟨S1, .f32⟩
  | .hbm, ⟨1, _⟩ => ⟨S2x8x16384x128, .bf16⟩
  | .hbm, ⟨2, _⟩ => ⟨S2x8x128x16384, .bf16⟩
  | .hbm, ⟨3, _⟩ => ⟨S2x8x16384x128, .bf16⟩
  | .hbm, ⟨4, _⟩ => ⟨S2x8x16384x128, .f32⟩
  | .hbm, ⟨5, _⟩ => ⟨S2x8x128x16384, .f32⟩
  | .hbm, ⟨6, _⟩ => ⟨S2x8x16384x128, .f32⟩
  | .hbm, ⟨7, _⟩ => ⟨S2x8x1x16384, .f32⟩
  | .hbm, ⟨8, _⟩ => ⟨S2x8x16384, .f32⟩
  | .hbm, ⟨9, _⟩ => ⟨S2x8x1x16384, .f32⟩
  | .hbm, ⟨10, _⟩ => ⟨S2x8x16384, .f32⟩
  | .hbm, ⟨11, _⟩ => ⟨S2x8x16384, .f32⟩
  | .hbm, ⟨12, _⟩ => ⟨S2x8x1x16384, .f32⟩
  | .hbm, ⟨13, _⟩ => ⟨S2x8x16384, .f32⟩
  | .hbm, ⟨14, _⟩ => ⟨S2x8x16384, .f32⟩
  | .hbm, ⟨15, _⟩ => ⟨S2x8x16384, .f32⟩
  | .hbm, ⟨16, _⟩ => ⟨S2x8x32, .f32⟩
  | .hbm, ⟨17, _⟩ => ⟨S2x8x32, .f32⟩
  | .hbm, ⟨18, _⟩ => ⟨S32, .i32⟩
  | .hbm, ⟨19, _⟩ => ⟨S1x32, .i32⟩
  | .hbm, ⟨20, _⟩ => ⟨S32x1, .i32⟩
  | .hbm, ⟨21, _⟩ => ⟨S32x32, .i32⟩
  | .hbm, ⟨22, _⟩ => ⟨S32x32, .i32⟩
  | .hbm, ⟨23, _⟩ => ⟨S32x32, .i1⟩
  | .hbm, ⟨24, _⟩ => ⟨S2x8x1x32, .f32⟩
  | .hbm, ⟨25, _⟩ => ⟨S2x8x32x1, .f32⟩
  | .hbm, ⟨26, _⟩ => ⟨S2x8x32x32, .f32⟩
  | .hbm, ⟨27, _⟩ => ⟨S2x8x32x32, .f32⟩
  | .hbm, ⟨28, _⟩ => ⟨S2x8x32x32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x8x32x32, .f32⟩
  | .hbm, ⟨35, _⟩ => ⟨S2x8x32x32, .i1⟩
  | .hbm, ⟨36, _⟩ => ⟨S1x1x32x32, .i1⟩
  | .hbm, ⟨37, _⟩ => ⟨S2x8x32x32, .i1⟩
  | .hbm, ⟨38, _⟩ => ⟨S2x8x32x32, .i1⟩
  | .hbm, ⟨39, _⟩ => ⟨S_, .i32⟩
  | .hbm, ⟨40, _⟩ => ⟨S_, .i32⟩
  | .hbm, ⟨41, _⟩ => ⟨S2x8x32x32, .i32⟩
  | .hbm, ⟨42, _⟩ => ⟨S2x8x32x32, .i32⟩
  | .hbm, ⟨43, _⟩ => ⟨S2x8x32x32, .i32⟩
  | .hbm, ⟨44, _⟩ => ⟨S2x8x32x32, .i32⟩
  | .hbm, ⟨45, _⟩ => ⟨S_, .i32⟩
  | .hbm, ⟨46, _⟩ => ⟨S2x8x32, .i32⟩
  | .hbm, ⟨47, _⟩ => ⟨S2x2x4x32, .i32⟩
  | .hbm, ⟨48, _⟩ => ⟨S_, .i32⟩
  | .hbm, ⟨49, _⟩ => ⟨S2x2x32, .i32⟩
  | .hbm, ⟨50, _⟩ => ⟨S2x2x4x32, .i32⟩
  | .hbm, ⟨51, _⟩ => ⟨S2x8x32, .i32⟩
  | .hbm, ⟨52, _⟩ => ⟨S16384, .i32⟩
  | .hbm, ⟨53, _⟩ => ⟨S1x16384, .i32⟩
  | .hbm, ⟨54, _⟩ => ⟨S16384x1, .i32⟩
  | .hbm, ⟨55, _⟩ => ⟨S16384x16384, .i32⟩
  | .hbm, ⟨56, _⟩ => ⟨S16384x16384, .i32⟩
  | .hbm, ⟨57, _⟩ => ⟨S16384x16384, .i1⟩
  | .hbm, ⟨58, _⟩ => ⟨S1x16384, .i32⟩
  | .hbm, ⟨59, _⟩ => ⟨S2x8x32x512, .i32⟩
  | .hbm, ⟨60, _⟩ => ⟨S2x8x16384, .i32⟩
  | .hbm, ⟨61, _⟩ => ⟨S2x8x16384x1, .i32⟩
  | .hbm, ⟨62, _⟩ => ⟨S_, .i32⟩
  | .hbm, ⟨63, _⟩ => ⟨S2x8x16384x1, .i32⟩
  | .hbm, ⟨64, _⟩ => ⟨S2x8x16384x1, .i32⟩
  | .hbm, ⟨65, _⟩ => ⟨S1x1x1x16384, .i32⟩
  | .hbm, ⟨66, _⟩ => ⟨S2x8x16384x16384, .i32⟩
  | .hbm, ⟨67, _⟩ => ⟨S2x8x16384x16384, .i32⟩
  | .hbm, ⟨68, _⟩ => ⟨S2x8x16384x16384, .i1⟩
  | .hbm, ⟨69, _⟩ => ⟨S1x1x16384x16384, .i1⟩
  | .hbm, ⟨70, _⟩ => ⟨S2x8x16384x16384, .i1⟩
  | .hbm, ⟨71, _⟩ => ⟨S2x8x16384x16384, .i1⟩
  | .hbm, ⟨72, _⟩ => ⟨S2x8x16384x16384, .f32⟩
  | .hbm, ⟨73, _⟩ => ⟨S_, .f32⟩
  | .hbm, ⟨74, _⟩ => ⟨S_, .f32⟩
  | .hbm, ⟨75, _⟩ => ⟨S2x8x16384x16384, .f32⟩
  | .hbm, ⟨76, _⟩ => ⟨S2x8x16384x16384, .f32⟩
  | .hbm, ⟨77, _⟩ => ⟨S_, .f32⟩
  | .hbm, ⟨78, _⟩ => ⟨S2x8x16384, .f32⟩
  | .hbm, ⟨79, _⟩ => ⟨S2x8x16384x1, .f32⟩
  | .hbm, ⟨80, _⟩ => ⟨S2x8x16384x16384, .f32⟩
  | .hbm, ⟨81, _⟩ => ⟨S2x8x16384x16384, .f32⟩
  | .hbm, ⟨82, _⟩ => ⟨S_, .f32⟩
  | .hbm, ⟨83, _⟩ => ⟨S2x8x16384x16384, .f32⟩
  | .hbm, ⟨84, _⟩ => ⟨S2x8x16384x16384, .f32⟩
  | .hbm, ⟨85, _⟩ => ⟨S2x8x16384x128, .f32⟩
  | .hbm, ⟨86, _⟩ => ⟨S2x8x16384x64, .f32⟩
  | .hbm, ⟨87, _⟩ => ⟨S2x8x16384x64, .f32⟩
  | .hbm, ⟨88, _⟩ => ⟨S2x8x16384x64, .f32⟩
  | .hbm, ⟨89, _⟩ => ⟨S2x16384x8x64, .f32⟩
  | .hbm, ⟨90, _⟩ => ⟨S2x16384x512, .f32⟩
  | .hbm, ⟨91, _⟩ => ⟨S2x16384x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_c_1 : Ref sig .tc := ⟨.hbm, 40, rfl⟩
abbrev main_call0_v0 : Ref sig .tc := ⟨.hbm, 41, rfl⟩
abbrev main_call0_v1 : Ref sig .tc := ⟨.hbm, 42, rfl⟩
abbrev main_v33 : Ref sig .tc := ⟨.hbm, 43, rfl⟩
abbrev main_v34 : Ref sig .tc := ⟨.hbm, 44, rfl⟩
abbrev main_c_2 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_call1_v0 : Ref sig .tc := ⟨.hbm, 74, rfl⟩
abbrev main_call1_v1 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x5632, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x3144 : Shape := ⟨2, ![1024, 3144]⟩
abbrev S_ : Shape := ⟨0, ![]⟩
abbrev S1024x3200 : Shape := ⟨2, ![1024, 3200]⟩
abbrev S1x1024 : Shape := ⟨2, ![1, 1024]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 14
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3144, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S1x1024, .f32⟩
  | .hbm, ⟨8, _⟩ => ⟨S32768x1024, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x1024 : Shape := ⟨2, ![32768, 1024]⟩
abbrev S1024 : Shape := ⟨1, ![1024]⟩
abbrev S1024x3144 : Shape := ⟨2, ![1024, 3144]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3144 : Shape := ⟨2, ![32768, 3144]⟩
abbrev S32768x512 : Shape := ⟨2, ![32768, 512]⟩
abbrev S32768x72 : Shape := ⟨2, ![32768, 72]⟩
abbrev S32768x128 : Shape := ⟨2, ![32768, 128]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3144, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3144, .f32⟩
  | .hbm, ⟨20, _⟩ => ⟨S32768x1024, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x72, .f32⟩
  | .hbm, ⟨26, _⟩ => ⟨S_, .i32⟩
  | .hbm, ⟨27, _⟩ => ⟨S_, .f32⟩
  | .hbm, ⟨28, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x2568 : Shape := ⟨2, ![1024, 2568]⟩
abbrev S1024x1536 : Shape := ⟨2, ![1024, 1536]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S1024x2688 : Shape := ⟨2, ![1024, 2688]⟩
abbrev S1x1024 : Shape := ⟨2, ![1, 1024]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩

abbrev nBuf : Space → Nat
  | .hbm => 17
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2568, .f32⟩
  | .hbm, ⟨3, _⟩ => ⟨S1024x1536, .f32⟩
  | .hbm, ⟨4, _⟩ => ⟨S1024x1024, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x2688, .f32⟩
  | .hbm, ⟨10, _⟩ => ⟨S1024x2688, .bf16⟩
  | .hbm, ⟨11, _⟩ => ⟨S1x1024, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x1024, .f32⟩
  | .hbm, ⟨16, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1024 : Shape := ⟨2, ![32768, 1024]⟩
abbrev S1024 : Shape := ⟨1, ![1024]⟩
abbrev S1024x2568 : Shape := ⟨2, ![1024, 2568]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2568 : Shape := ⟨2, ![32768, 2568]⟩
abbrev S32768x512 : Shape := ⟨2, ![32768, 512]⟩
abbrev S32768x8 : Shape := ⟨2, ![32768, 8]⟩
abbrev S32768x128 : Shape := ⟨2, ![32768, 128]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2568, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2568, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x8, .f32⟩
  | .hbm, ⟨24, _⟩ => ⟨S32768x1024, .f32⟩
  | .hbm, ⟨25, _⟩ => ⟨S_, .i32⟩
  | .hbm, ⟨26, _⟩ => ⟨S_, .f32⟩
  | .hbm, ⟨27, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S2x16384x512 : Shape := ⟨3, ![2, 16384, 512]⟩
abbrev S2x512x16384 : Shape := ⟨3, ![2, 512, 16384]⟩
abbrev S2x16384x16384 : Shape := ⟨3, ![2, 16384, 16384]⟩
abbrev S1x256x512 : Shape := ⟨3, ![1, 256, 512]⟩
abbrev S1x512x16384 : Shape := ⟨3, ![1, 512, 16384]⟩
abbrev S1x16384x512 : Shape := ⟨3, ![1, 16384, 512]⟩
abbrev S1x256x16384 : Shape := ⟨3, ![1, 256, 16384]⟩
abbrev S8x256x128 : Shape := ⟨3, ![8, 256, 128]⟩
abbrev S1x256x128 : Shape := ⟨3, ![1, 256, 128]⟩
abbrev S256x128 : Shape := ⟨2, ![256, 128]⟩
abbrev S512x128 : Shape := ⟨2, ![512, 128]⟩
abbrev S256x512 : Shape := ⟨2, ![256, 512]⟩
abbrev S1x128x512 : Shape := ⟨3, ![1, 128, 512]⟩
abbrev S128x512 : Shape := ⟨2, ![128, 512]⟩
abbrev S1x512x128 : Shape := ⟨3, ![1, 512, 128]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x16384x512, .bf16⟩
  | .hbm, ⟨1, _⟩ => ⟨S2x512x16384, .bf16⟩
  | .hbm, ⟨2, _⟩ => ⟨S2x16384x512, .bf16⟩
  | .hbm, ⟨3, _⟩ => ⟨S2x16384x16384, .i8⟩
  | .hbm, ⟨4, _⟩ => ⟨S2x16384x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x512x16384, .bf16⟩
  | .local _ .vmem, ⟨3, _⟩ => ⟨S1x16384x512, .bf16⟩
  | .local _ .vmem, ⟨4, _⟩ => ⟨S1x256x16384, .i8⟩
  | .local _ .vmem, ⟨5, _⟩ => ⟨S1x256x16384, .i8⟩
  | .local _ .vmem, ⟨6, _⟩ => ⟨S1x256x512, .bf16⟩
  | .local _ .vmem, ⟨7, _⟩ => ⟨S1x256x512, .bf16⟩
  | .local _ .vmem, ⟨8, _⟩ => ⟨S8x256x128, .f32⟩
  | .local _ .vmem, ⟨9, _⟩ => ⟨S8x256x128, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 64], ![false, false]⟩

@[reducible] def k0_t1_loop (i : grid0.Coords) : Scf.Loop 32 :=
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_38 : BitVec 32 := 1#32
  ⟨c0_i32_36, v76, c1_i32_38⟩
def k0_mult1 (i : grid0.Coords) (k0_t1 : Fin (k0_t1_loop i).trips) : BitVec 32 :=
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  v138
def k0_off1 (i : grid0.Coords) (k0_t1 : Fin (k0_t1_loop i).trips) : Fin 3 → Nat :=
  let c0_82 : Index := 0#32
  let c0_83 : Index := 0#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v140 : Index := Scalar.indexCast v139
  ![0, 0, v140.toNat]
def k0_off2 (i : grid0.Coords) (k0_t1 : Fin (k0_t1_loop i).trips) : Fin 3 → Nat :=
  let c0_87 : Index := 0#32
  let c0_88 : Index := 0#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v150 : Index := Scalar.indexCast v139
  ![0, 0, v150.toNat]
def k0_off3 (i : grid0.Coords) (k0_t1 : Fin (k0_t1_loop i).trips) : Fin 3 → Nat :=
  let c0_90 : Index := 0#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v156 : Index := Scalar.indexCast v139
  let c0_91 : Index := 0#32
  ![0, v156.toNat, 0]
def k0_off4 (i : grid0.Coords) (k0_t1 : Fin (k0_t1_loop i).trips) : Fin 3 → Nat :=
  let c0_97 : Index := 0#32
  let c128_98 : Index := 128#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v172 : Index := Scalar.indexCast v139
  ![0, 128, v172.toNat]
def k0_off5 (i : grid0.Coords) (k0_t1 : Fin (k0_t1_loop i).trips) : Fin 3 → Nat :=
  let c0_100 : Index := 0#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v178 : Index := Scalar.indexCast v139
  let c128_101 : Index := 128#32
  ![0, v178.toNat, 128]
def k0_off6 (i : grid0.Coords) (k0_t1 : Fin (k0_t1_loop i).trips) : Fin 3 → Nat :=
  let c0_107 : Index := 0#32
  let c256_108 : Index := 256#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v194 : Index := Scalar.indexCast v139
  ![0, 256, v194.toNat]
def k0_off7 (i : grid0.Coords) (k0_t1 : Fin (k0_t1_loop i).trips) : Fin 3 → Nat :=
  let c0_110 : Index := 0#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v200 : Index := Scalar.indexCast v139
  let c256_111 : Index := 256#32
  ![0, v200.toNat, 256]
def k0_off8 (i : grid0.Coords) (k0_t1 : Fin (k0_t1_loop i).trips) : Fin 3 → Nat :=
  let c0_117 : Index := 0#32
  let c384_118 : Index := 384#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v216 : Index := Scalar.indexCast v139
  ![0, 384, v216.toNat]
def k0_off9 (i : grid0.Coords) (k0_t1 : Fin (k0_t1_loop i).trips) : Fin 3 → Nat :=
  let c0_120 : Index := 0#32
  let c0_i32_36 : BitVec 32 := 0#32
  let c1_i32_38 : BitVec 32 := 1#32
  let arg9 : BitVec 32 := Scf.iv c0_i32_36 c1_i32_38 k0_t1
  let c512_i32_81 : BitVec 32 := 512#32
  let v138 : BitVec 32 := Scalar.muli arg9 c512_i32_81
  let v139 : BitVec 32 := v138
  let v222 : Index := Scalar.indexCast v139
  let c384_121 : Index := 384#32
  ![0, v222.toNat, 384]
@[reducible] def k0_t2_loop (i : grid0.Coords) : Scf.Loop 32 :=
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let v73 : BitVec 32 := Scalar.addi c0_i32_36 v72
  let c1_i32_39 : BitVec 32 := 1#32
  ⟨v76, v73, c1_i32_39⟩
def k0_mult2 (i : grid0.Coords) (k0_t2 : Fin (k0_t2_loop i).trips) : BitVec 32 :=
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  v138
def k0_off10 (i : grid0.Coords) (k0_t2 : Fin (k0_t2_loop i).trips) : Fin 3 → Nat :=
  let c0_82 : Index := 0#32
  let c0_83 : Index := 0#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v140 : Index := Scalar.indexCast v139
  ![0, 0, v140.toNat]
def k0_off11 (i : grid0.Coords) (k0_t2 : Fin (k0_t2_loop i).trips) : Fin 3 → Nat :=
  let c0_87 : Index := 0#32
  let c0_88 : Index := 0#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v150 : Index := Scalar.indexCast v139
  ![0, 0, v150.toNat]
def k0_off12 (i : grid0.Coords) (k0_t2 : Fin (k0_t2_loop i).trips) : Fin 3 → Nat :=
  let c0_90 : Index := 0#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v156 : Index := Scalar.indexCast v139
  let c0_91 : Index := 0#32
  ![0, v156.toNat, 0]
def k0_off13 (i : grid0.Coords) (k0_t2 : Fin (k0_t2_loop i).trips) : Fin 3 → Nat :=
  let c0_97 : Index := 0#32
  let c128_98 : Index := 128#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v172 : Index := Scalar.indexCast v139
  ![0, 128, v172.toNat]
def k0_off14 (i : grid0.Coords) (k0_t2 : Fin (k0_t2_loop i).trips) : Fin 3 → Nat :=
  let c0_100 : Index := 0#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v178 : Index := Scalar.indexCast v139
  let c128_101 : Index := 128#32
  ![0, v178.toNat, 128]
def k0_off15 (i : grid0.Coords) (k0_t2 : Fin (k0_t2_loop i).trips) : Fin 3 → Nat :=
  let c0_107 : Index := 0#32
  let c256_108 : Index := 256#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v194 : Index := Scalar.indexCast v139
  ![0, 256, v194.toNat]
def k0_off16 (i : grid0.Coords) (k0_t2 : Fin (k0_t2_loop i).trips) : Fin 3 → Nat :=
  let c0_110 : Index := 0#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v200 : Index := Scalar.indexCast v139
  let c256_111 : Index := 256#32
  ![0, v200.toNat, 256]
def k0_off17 (i : grid0.Coords) (k0_t2 : Fin (k0_t2_loop i).trips) : Fin 3 → Nat :=
  let c0_117 : Index := 0#32
  let c384_118 : Index := 384#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v216 : Index := Scalar.indexCast v139
  ![0, 384, v216.toNat]
def k0_off18 (i : grid0.Coords) (k0_t2 : Fin (k0_t2_loop i).trips) : Fin 3 → Nat :=
  let c0_120 : Index := 0#32
  let c0_i32_36 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v72 : BitVec 32 := Scalar.subi v20 c0_i32_36
  let c1_i32_37 : BitVec 32 := 1#32
  let v74 : BitVec 32 := Scalar.divsi v72 c1_i32_37
  let v75 : BitVec 32 := Scalar.muli v74 c1_i32_37
  let v76 : BitVec 32 := Scalar.addi c0_i32_36 v75
  let c1_i32_39 : BitVec 32 := 1#32
  let arg9 : BitVec 32 := Scf.iv v76 c1_i32_39 k0_t2
  let c512_i32_81 : BitVec 32 := 512#32
  let v138 : BitVec 32 := Scalar.muli arg9 c512_i32_81
  let v139 : BitVec 32 := v138
  let v222 : Index := Scalar.indexCast v139
  let c384_121 : Index := 384#32
  ![0, v222.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16384x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x16384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S2x16384x512 : Shape := ⟨3, ![2, 16384, 512]⟩
abbrev S2x512x16384 : Shape := ⟨3, ![2, 512, 16384]⟩
abbrev S2x16384x16384 : Shape := ⟨3, ![2, 16384, 16384]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S2x16384x8x64 : Shape := ⟨4, ![2, 16384, 8, 64]⟩
abbrev S2x8x64x16384 : Shape := ⟨4, ![2, 8, 64, 16384]⟩
abbrev S2x8x16384x16384 : Shape := ⟨4, ![2, 8, 16384, 16384]⟩
abbrev S2x1x16384x16384 : Shape := ⟨4, ![2, 1, 16384, 16384]⟩
abbrev S2x8x16384 : Shape := ⟨3, ![2, 8, 16384]⟩
abbrev S2x8x16384x1 : Shape := ⟨4, ![2, 8, 16384, 1]⟩
abbrev S2x16384x8 : Shape := ⟨3, ![2, 16384, 8]⟩
abbrev S2x16384x8x1 : Shape := ⟨4, ![2, 16384, 8, 1]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x512x16384, .bf16⟩
  | .hbm, ⟨2, _⟩ => ⟨S2x16384x512, .bf16⟩
  | .hbm, ⟨3, _⟩ => ⟨S2x16384x16384, .i8⟩
  | .hbm, ⟨4, _⟩ => ⟨S16384, .i32⟩
  | .hbm, ⟨5, _⟩ => ⟨S_, .i8⟩
  | .hbm, ⟨6, _⟩ => ⟨S2x16384x16384, .i8⟩
  | .hbm, ⟨7, _⟩ => ⟨S2x16384x16384, .i1⟩
  | .hbm, ⟨8, _⟩ => ⟨S1x16384, .i32⟩
  | .hbm, ⟨9, _⟩ => ⟨S_, .i32⟩
  | .hbm, ⟨10, _⟩ => ⟨S_, .i32⟩
  | .hbm, ⟨11, _⟩ => ⟨S1x16384, .i32⟩
  | .hbm, ⟨12, _⟩ => ⟨S1x16384, .i32⟩
  | .hbm, ⟨13, _⟩ => ⟨S1x16384, .i32⟩
  | .hbm, ⟨14, _⟩ => ⟨S_, .i32⟩
  | .hbm, ⟨15, _⟩ => ⟨S1x16384, .i32⟩
  | .hbm, ⟨16, _⟩ => ⟨S1x16384, .i1⟩
  | .hbm, ⟨17, _⟩ => ⟨S1x16384, .i32⟩
  | .hbm, ⟨18, _⟩ => ⟨S1x16384, .i32⟩
  | .hbm, ⟨19, _⟩ => ⟨S_, .i32⟩
  | .hbm, ⟨20, _⟩ => ⟨S1x16384, .i32⟩
  | .hbm, ⟨21, _⟩ => ⟨S1x16384, .i1⟩
  | .hbm, ⟨22, _⟩ => ⟨S1x16384, .i1⟩
  | .hbm, ⟨23, _⟩ => ⟨S_, .i32⟩
  | .hbm, ⟨24, _⟩ => ⟨S1x16384, .i32⟩
  | .hbm, ⟨25, _⟩ => ⟨S1x16384, .i32⟩
  | .hbm, ⟨26, _⟩ => ⟨S1x16384, .i32⟩
  | .hbm, ⟨27, _⟩ => ⟨S16384x1, .i32⟩
  | .hbm, ⟨28, _⟩ => ⟨S_, .i32⟩
  | .hbm, ⟨29, _⟩ => ⟨S_, .i32⟩
  | .hbm, ⟨30, _⟩ => ⟨S16384x1, .i32⟩
  | .hbm, ⟨31, _⟩ => ⟨S16384x1, .i32⟩
  | .hbm, ⟨32, _⟩ => ⟨S16384x1, .i32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S16384x1, .i32⟩
  | .hbm, ⟨37, _⟩ => ⟨S16384x1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i32⟩
  | .hbm, ⟨43, _⟩ => ⟨S16384x1, .i32⟩
  | .hbm, ⟨44, _⟩ => ⟨S16384x1, .i32⟩
  | .hbm, ⟨45, _⟩ => ⟨S16384x1, .i32⟩
  | .hbm, ⟨46, _⟩ => ⟨S16384x16384, .i32⟩
  | .hbm, ⟨47, _⟩ => ⟨S16384x16384, .i32⟩
  | .hbm, ⟨48, _⟩ => ⟨S16384x16384, .i1⟩
  | .hbm, ⟨49, _⟩ => ⟨S1x16384x16384, .i1⟩
  | .hbm, ⟨50, _⟩ => ⟨S2x16384x16384, .i1⟩
  | .hbm, ⟨51, _⟩ => ⟨S2x16384x16384, .i1⟩
  | .hbm, ⟨52, _⟩ => ⟨S2x16384x512, .f32⟩
  | .hbm, ⟨53, _⟩ => ⟨S2x16384x8x64, .f32⟩
  | .hbm, ⟨54, _⟩ => ⟨S2x512x16384, .f32⟩
  | .hbm, ⟨55, _⟩ => ⟨S2x8x64x16384, .f32⟩
  | .hbm, ⟨56, _⟩ => ⟨S2x8x16384x16384, .f32⟩
  | .hbm, ⟨57, _⟩ => ⟨S2x1x16384x16384, .i1⟩
  | .hbm, ⟨58, _⟩ => ⟨S_, .f32⟩
  | .hbm, ⟨59, _⟩ => ⟨S_, .f32⟩
  | .hbm, ⟨60, _⟩ => ⟨S2x8x16384x16384, .i1⟩
  | .hbm, ⟨61, _⟩ => ⟨S2x8x16384x16384, .f32⟩
  | .hbm, ⟨62, _⟩ => ⟨S2x8x16384x16384, .f32⟩
  | .hbm, ⟨63, _⟩ => ⟨S_, .f32⟩
  | .hbm, ⟨64, _⟩ => ⟨S2x8x16384, .f32⟩
  | .hbm, ⟨65, _⟩ => ⟨S2x8x16384x1, .f32⟩
  | .hbm, ⟨66, _⟩ => ⟨S2x8x16384x16384, .f32⟩
  | .hbm, ⟨67, _⟩ => ⟨S2x8x16384x16384, .f32⟩
  | .hbm, ⟨68, _⟩ => ⟨S_, .f32⟩
  | .hbm, ⟨69, _⟩ => ⟨S2x8x16384x16384, .f32⟩
  | .hbm, ⟨70, _⟩ => ⟨S2x8x16384x16384, .f32⟩
  | .hbm, ⟨71, _⟩ => ⟨S2x16384x512, .f32⟩
  | .hbm, ⟨72, _⟩ => ⟨S2x16384x8x64, .f32⟩
  | .hbm, ⟨73, _⟩ => ⟨S2x8x64x16384, .f32⟩
  | .hbm, ⟨74, _⟩ => ⟨S2x16384x8x64, .f32⟩
  | .hbm, ⟨75, _⟩ => ⟨S_, .f32⟩
  | .hbm, ⟨76, _⟩ => ⟨S2x8x16384, .f32⟩
  | .hbm, ⟨77, _⟩ => ⟨S2x16384x8, .f32⟩
  | .hbm, ⟨78, _⟩ => ⟨S2x16384x8x1, .f32⟩
  | .hbm, ⟨79, _⟩ => ⟨S2x16384x8x64, .f32⟩
  | .hbm, ⟨80, _⟩ => ⟨S2x16384x8x64, .f32⟩
  | .hbm, ⟨81, _⟩ => ⟨S2x16384x512, .f32⟩
  | .hbm, ⟨82, _⟩ => ⟨S2x16384x512, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v19 : Ref sig .tc := ⟨.hbm, 62, rfl⟩
abbrev main_cst_2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_3 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_4 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩

abbrev nD : Nat := 1
abbrev τ : Topo := Topo.v7x

variable {F : FTy → Type} [FloatOps F]
-- ==== Proof.FoxChk.lean ====
/-
  The words the forgetting attention reads before its loop over key blocks. Each of its four heads counts the key blocks
  the forget gates have given up; the least of the four counts is where the loop starts. A count is at most the query
  block's own number, so the side condition of the loop holds for every memory.
-/
module

public import proofs.«01_k».proof.Proof.Gen.KernelIdeal.Skeleton
public import Idealize.ShloMosaic.Lib.LoopRemainder
public import Idealize.ShloMosaic.Lib.WordSum
public import Idealize.ShloMosaic.Lib.PointwiseCore

@[expose] public section

set_option maxRecDepth 8192

noncomputable section

namespace Cert.KernelIdeal.Fox

open Idealize.ShloMosaic Idealize.ShloMosaic.TcCoe
open Cert.KernelIdeal Cert.KernelIdeal.Gen

/-! ## The count of a head -/

/-- The number of positions where both marks stand, as the kernel adds it up. -/
def cntWord (v p : IVec S1x16384 1) : BitVec 32 :=
  extractAt ![0, 0, 0] (shapeCast S1x1x1 (multiReductionI .add [1, 2] S1
    (shapeCast S1x1x16384 (select (andi v p) (broadcast S1x16384 1#32) (broadcast S1x16384 0#32)) shapeCasts_S1x16384_S1x1x16384)
    0#32 reduces_S1x1x16384_S1 rfl) shapeCasts_S1_S1x1x1) inpos_S1x1x1_p0_0_0

/-- One mark, as a number. -/
theorem toNat_mark (c : BitVec 1) : (Scalar.select c 1#32 0#32).toNat = if c = 1#1 then 1 else 0 := by
  unfold Scalar.select; split <;> simp_all

/-- The count is the number of positions where both marks stand. -/
theorem toNat_cntWord (v p : IVec S1x16384 1) :
    (cntWord v p).toNat = ∑ n : Fin 16384, if v (ix2 0 n) &&& p (ix2 0 n) = 1#1 then 1 else 0 := by
  have key : ∑ j : S1x1x16384.Idx, ((shapeCast S1x1x16384 (select (andi v p) (broadcast S1x16384 1#32) (broadcast S1x16384 0#32))
      shapeCasts_S1x16384_S1x1x16384) j).toNat = ∑ n : Fin 16384, if v (ix2 0 n) &&& p (ix2 0 n) = 1#1 then 1 else 0 := by
    unfold shapeCast
    rw [Equiv.sum_comp (Shape.reshapeEquiv shapeCasts_S1x16384_S1x1x16384)
      (fun j => ((select (andi v p) (broadcast S1x16384 1#32) (broadcast S1x16384 0#32)) j).toNat), sum_idx2]
    rw [Fin.sum_univ_one]
    refine Finset.sum_congr rfl fun n _ => ?_
    exact toNat_mark _
  have hle : (∑ n : Fin 16384, if v (ix2 0 n) &&& p (ix2 0 n) = 1#1 then 1 else 0) ≤ 16384 := by
    refine (Finset.sum_le_card_nsmul _ _ 1 fun n _ => ?_).trans (by simp)
    split <;> simp
  have hf : ∀ j : S1.Idx, (Finset.univ.filter fun i => reduces_S1x1x16384_S1.drop i = j) = Finset.univ := by
    intro j
    refine Finset.filter_true_of_mem fun i _ => ?_
    funext a
    have h1 : ∀ x y : Fin (S1.size a), x = y := by
      have : a = 0 := Subsingleton.elim _ _
      subst this
      exact fun x y => Fin.ext (by have := x.isLt; have := y.isLt; simp only [S1, Matrix.cons_val_zero] at *; omega)
    exact h1 _ _
  have hS := fun j => WordSum.toNat_multiReductionI_add
    (shapeCast S1x1x16384 (select (andi v p) (broadcast S1x16384 1#32) (broadcast S1x16384 0#32)) shapeCasts_S1x16384_S1x1x16384)
    reduces_S1x1x16384_S1 rfl j (by rw [hf, key]; omega)
  unfold cntWord extractAt
  exact (hS _).trans (by rw [hf, key])

/-- The positions the count looks at for query block `i`: the last of each earlier key block. -/
theorem pay74_at (i : grid0.Coords) (n : Fin 16384) :
    k0_pay74 i (ix2 0 n) = 1#1 ↔ n.val % 512 = 511 ∧ n.val < 512 * (i 2).val := by
  have hi : (i 2).val < 32 := (i 2).isLt
  have hn := n.isLt
  have hand : BitVec.ofNat 32 n.val &&& 511#32 = BitVec.ofNat 32 (n.val % 512) := by
    apply BitVec.eq_of_toNat_eq
    rw [BitVec.toNat_and, BitVec.toNat_ofNat, BitVec.toNat_ofNat, BitVec.toNat_ofNat, Nat.mod_eq_of_lt (by omega : n.val < 2 ^ 32),
      Nat.mod_eq_of_lt (by omega : n.val % 512 < 2 ^ 32)]
    exact Nat.and_two_pow_sub_one_eq_mod n.val 9
  have hmul : BitVec.ofNat 32 (i 2).val * 512#32 = BitVec.ofNat 32 (512 * (i 2).val) := by
    apply BitVec.eq_of_toNat_eq
    rw [BitVec.toNat_mul, BitVec.toNat_ofNat, BitVec.toNat_ofNat, BitVec.toNat_ofNat]
    omega
  have e : k0_pay74 i (ix2 0 n) = IntOp.andi (IntOp.cmpi .eq (IntOp.andi (BitVec.ofNat 32 n.val) 511#32) 511#32)
      (IntOp.cmpi .slt (BitVec.ofNat 32 n.val) (IntOp.muli (BitVec.ofNat 32 (i 2).val) 512#32)) := by
    have h0 : (0 * 16384 + n.val) = n.val := by omega
    simp [k0_pay74, andi, cmpi, iota, broadcast, Scalar.muli, S1x16384]
  rw [e, IntOp.andi_eq_one, IntOp.cmpi_eq, IntOp.cmpi_slt]
  unfold IntOp.andi IntOp.muli
  have hint : ∀ x : ℕ, x < 2 ^ 31 → (BitVec.ofNat 32 x).toInt = (x : ℤ) := by
    intro x hx
    rw [BitVec.toInt_eq_toNat_of_lt (by rw [BitVec.toNat_ofNat]; omega), BitVec.toNat_ofNat]; omega
  rw [hand, hmul, hint _ (by omega), hint _ (by omega)]
  constructor
  · rintro ⟨h1, h2⟩
    have := congrArg BitVec.toNat h1
    rw [BitVec.toNat_ofNat, Nat.mod_eq_of_lt (by omega : n.val % 512 < 2 ^ 32)] at this
    exact ⟨this, by omega⟩
  · rintro ⟨h1, h2⟩
    exact ⟨by rw [h1], by omega⟩

/-- A sum over the positions is one over the blocks and the positions of each. -/
theorem sum_blocks (f : Fin 16384 → ℕ) :
    ∑ n : Fin 16384, f n = ∑ b : Fin 32, ∑ r : Fin 512, f ⟨512 * b.val + r.val, by have := b.isLt; have := r.isLt; omega⟩ := by
  rw [← Equiv.sum_comp (finProdFinEquiv (m := 32) (n := 512)) (fun n => f ⟨n.val, n.isLt⟩), Fintype.sum_prod_type]
  refine Finset.sum_congr rfl fun b _ => Finset.sum_congr rfl fun r _ => ?_
  congr 1; exact Fin.ext (by simp [finProdFinEquiv]; omega)

/-- The count at query block `i`: the earlier key blocks whose last position is marked. -/
theorem toNat_cntWord_pay74 (i : grid0.Coords) (p : IVec S1x16384 1) :
    (cntWord (k0_pay74 i) p).toNat
      = ∑ b : Fin 32, if b.val < (i 2).val ∧ p (ix2 0 ⟨512 * b.val + 511, by have := b.isLt; omega⟩) = 1#1 then 1 else 0 := by
  rw [toNat_cntWord, sum_blocks]
  refine Finset.sum_congr rfl fun b _ => ?_
  rw [Finset.sum_eq_single (⟨511, by omega⟩ : Fin 512)]
  · refine if_congr ?_ rfl rfl
    rw [show ∀ c d : BitVec 1, (c &&& d = 1#1 ↔ c = 1#1 ∧ d = 1#1) from by decide, pay74_at]
    simp only
    constructor
    · rintro ⟨⟨_, h⟩, hp⟩; exact ⟨by omega, hp⟩
    · rintro ⟨h, hp⟩; exact ⟨⟨by omega, by omega⟩, hp⟩
  · intro r _ hr
    refine if_neg ?_
    rw [show ∀ c d : BitVec 1, (c &&& d = 1#1 ↔ c = 1#1 ∧ d = 1#1) from by decide, pay74_at]
    rintro ⟨⟨h, _⟩, _⟩
    simp only at h
    exact hr (Fin.ext (by have := r.isLt; simp only; omega))
  · intro h; exact absurd (Finset.mem_univ _) h

/-- The count is at most the query block's own number. -/
theorem cntWord_le (i : grid0.Coords) (p : IVec S1x16384 1) : (cntWord (k0_pay74 i) p).toNat ≤ (i 2).val := by
  have hi : (i 2).val < 32 := (i 2).isLt
  rw [toNat_cntWord_pay74]
  calc _ ≤ ∑ b : Fin 32, (if b.val < (i 2).val then 1 else 0) := by
        refine Finset.sum_le_sum fun b _ => ?_
        split
        · rename_i h; rw [if_pos h.1]
        · exact Nat.zero_le _
    _ = (i 2).val := by
        generalize (i 2).val = k at hi ⊢
        revert k; decide

/-! ## The loop's bounds -/

/-- The signed minimum of two small words. -/
theorem toNat_minsi (a b : BitVec 32) (ha : a.toNat < 2 ^ 31) (hb : b.toNat < 2 ^ 31) :
    (Scalar.minsi a b).toNat = min a.toNat b.toNat := by
  unfold Scalar.minsi IntOp.minsi
  rw [BitVec.slt_eq_decide, BitVec.toInt_eq_toNat_of_lt (by omega), BitVec.toInt_eq_toNat_of_lt (by omega)]
  split
  · rename_i h; simp only [decide_eq_true_eq, Nat.cast_lt] at h; omega
  · rename_i h; simp only [decide_eq_true_eq, Nat.cast_lt] at h; omega

/-- The first key block looked at: the least of the four counts. -/
def first (a b c d : BitVec 32) : ℕ := min (min (min a.toNat b.toNat) c.toNat) d.toNat

/-- The loop starts there. -/
theorem lb_eq (a b c d : BitVec 32) (ha : a.toNat < 32) (hb : b.toNat < 32) (hc : c.toNat < 32) (hd : d.toNat < 32) :
    Scalar.minsi (Scalar.minsi (Scalar.minsi a b) c) d = BitVec.ofNat 32 (first a b c d) := by
  apply BitVec.eq_of_toNat_eq
  have h1 := toNat_minsi a b (by omega) (by omega)
  have h2 := toNat_minsi (Scalar.minsi a b) c (by omega) (by omega)
  have h3 := toNat_minsi (Scalar.minsi (Scalar.minsi a b) c) d (by omega) (by omega)
  rw [BitVec.toNat_ofNat, Nat.mod_eq_of_lt (by unfold first; omega)]
  unfold first; omega

/-- What the side condition needs of the four counts. -/
abbrev Small (i : grid0.Coords) (a b c d : BitVec 32) : Prop :=
  a.toNat ≤ (i 2).val ∧ b.toNat ≤ (i 2).val ∧ c.toNat ≤ (i 2).val ∧ d.toNat ≤ (i 2).val

theorem loop_eq (i : grid0.Coords) (a b c d : BitVec 32) (h : Small i a b c d) :
    k0_t1_loop i a b c d = ⟨BitVec.ofNat 32 (first a b c d), BitVec.ofNat 32 (i 2).val, 1#32⟩ := by
  have hi : (i 2).val < 32 := (i 2).isLt
  obtain ⟨ha, hb, hc, hd⟩ := h
  unfold k0_t1_loop
  simp only [Scalar.muli_divsi_one]
  rw [lb_eq a b c d (by omega) (by omega) (by omega) (by omega)]
  congr 1
  unfold Scalar.addi Scalar.subi IntOp.addi IntOp.subi
  bv_omega

theorem first_le (i : grid0.Coords) (a b c d : BitVec 32) (h : Small i a b c d) : first a b c d ≤ (i 2).val := by
  unfold first; have := h.1; omega

/-- The loop's trips: the key blocks from there up to the query block. -/
theorem trips_eq (i : grid0.Coords) (a b c d : BitVec 32) (h : Small i a b c d) :
    (k0_t1_loop i a b c d).trips = (i 2).val - first a b c d := by
  have hi : (i 2).val < 32 := (i 2).isLt
  have hf := first_le i a b c d h
  rw [loop_eq i a b c d h]
  refine Affine.trips_eq (Affine.ofNat (e := (first a b c d : ℤ)) _ ⟨rfl, by omega⟩) (Affine.ofNat (e := ((i 2).val : ℤ)) _ ⟨rfl, by omega⟩)
    (Affine.ofNat (e := 1) 1 ⟨rfl, by decide⟩) _ ⟨by decide, ?_⟩
  omega

theorem loop_ok (i : grid0.Coords) (a b c d : BitVec 32) (h : Small i a b c d) : (k0_t1_loop i a b c d).OK := by
  have hi : (i 2).val < 32 := (i 2).isLt
  have hf := first_le i a b c d h
  rw [loop_eq i a b c d h]
  exact Affine.ok (Affine.ofNat (e := (first a b c d : ℤ)) _ ⟨rfl, by omega⟩) (Affine.ofNat (e := ((i 2).val : ℤ)) _ ⟨rfl, by omega⟩)
    (Affine.ofNat (e := 1) 1 ⟨rfl, by decide⟩) ⟨by decide, by omega⟩

/-- A trip's key block, in positions. -/
theorem off_word (i : grid0.Coords) (a b c d : BitVec 32) (h : Small i a b c d) (k : ℕ) (hk : first a b c d + k < 32) :
    (Scalar.muli (Scf.iv (Scalar.minsi (Scalar.minsi (Scalar.minsi a b) c) d) 1#32 k) 512#32).toNat = 512 * (first a b c d + k) := by
  have hi : (i 2).val < 32 := (i 2).isLt
  obtain ⟨ha, hb, hc, hd⟩ := h
  rw [lb_eq a b c d (by omega) (by omega) (by omega) (by omega)]
  unfold Scalar.muli IntOp.muli Scf.iv
  rw [BitVec.toNat_mul, BitVec.toNat_add, BitVec.toNat_mul, BitVec.toNat_ofNat, BitVec.toNat_ofNat]
  simp only [BitVec.toNat_ofNat]
  omega

theorem off_trip (i : grid0.Coords) (a b c d : BitVec 32) (h : Small i a b c d) (k : Fin (k0_t1_loop i a b c d).trips) :
    (Scalar.muli (Scf.iv (Scalar.minsi (Scalar.minsi (Scalar.minsi a b) c) d) 1#32 k) 512#32).toNat = 512 * (first a b c d + k)
      ∧ first a b c d + k.val < (i 2).val := by
  have hi : (i 2).val < 32 := (i 2).isLt
  have hk := k.isLt
  have ht := trips_eq i a b c d h
  have hlt : k.val < (i 2).val - first a b c d := lt_of_lt_of_eq hk ht
  exact ⟨off_word i a b c d h k (by omega), by omega⟩

/-- The side condition holds whatever the memory. -/
theorem chk_of_small (i : grid0.Coords) (a b c d : BitVec 32) (h : Small i a b c d) : k0_chk1 i a b c d := by
  have hi : (i 2).val < 32 := (i 2).isLt
  have ho := off_trip i a b c d h
  have hin : ∀ (e : ℕ) (he : e < 4) (k : Fin (k0_t1_loop i a b c d).trips) (x : Fin 4),
      (![0, e, 0, (Scalar.muli (Scf.iv (Scalar.minsi (Scalar.minsi (Scalar.minsi a b) c) d) 1#32 k) 512#32).toNat] : Fin 4 → ℕ) x
        + S1x1x128x512.size x ≤ S1x4x128x16384.size x := by
    intro e he k x
    obtain ⟨h1, h2⟩ := ho k
    fin_cases x <;> simp [S1x1x128x512, S1x4x128x16384] <;> omega
  have hin' : ∀ (e : ℕ) (he : e < 4) (k : Fin (k0_t1_loop i a b c d).trips) (x : Fin 4),
      (![0, e, (Scalar.muli (Scf.iv (Scalar.minsi (Scalar.minsi (Scalar.minsi a b) c) d) 1#32 k) 512#32).toNat, 0] : Fin 4 → ℕ) x
        + S1x1x512x128.size x ≤ S1x4x16384x128.size x := by
    intro e he k x
    obtain ⟨h1, h2⟩ := ho k
    fin_cases x <;> simp [S1x1x512x128, S1x4x16384x128] <;> omega
  have hno : ∀ k : Fin (k0_t2_loop i a b c d).trips, False := fun k => Scf.rem_no_trip _ _ k
  unfold k0_chk1
  exact ⟨loop_ok i a b c d h, fun k => ⟨first a b c d + k, (ho k).1⟩,
    hin 0 (by decide), hin 1 (by decide), hin 2 (by decide), hin 3 (by decide),
    hin' 0 (by decide), hin' 1 (by decide), hin' 2 (by decide), hin' 3 (by decide),
    Scf.rem_ok _ _, fun k => (hno k).elim, fun k => (hno k).elim, fun k => (hno k).elim, fun k => (hno k).elim, fun k => (hno k).elim,
    fun k => (hno k).elim, fun k => (hno k).elim, fun k => (hno k).elim, fun k => (hno k).elim⟩

variable {F : FTy → Type} [FloatOps F] [Named F]

/-- The side condition of the words the body reads. -/
theorem chk_all (i : grid0.Coords) (v33 : FVec F S1x16384 .f32) (v34 : Elt F .f32) (v50 : Vec F S1x1x128 .f32) (v53 : Vec F S1x1x16384 .f32)
    (v57 : Elt F .f32) (v74 : Vec F S1x1x128 .f32) (v77 : Vec F S1x1x16384 .f32) (v81 : Elt F .f32)
    (v98 : Vec F S1x1x128 .f32) (v101 : Vec F S1x1x16384 .f32) (v105 : Elt F .f32) :
    Small i (extractAt ![0, 0, 0] (k0_pay76 (k0_pay74 i) v33 v34) inpos_S1x1x1_p0_0_0)
      (extractAt ![0, 0, 0] (k0_pay77 (k0_pay74 i) v50 v53 v57) inpos_S1x1x1_p0_0_0)
      (extractAt ![0, 0, 0] (k0_pay78 (k0_pay74 i) v74 v77 v81) inpos_S1x1x1_p0_0_0)
      (extractAt ![0, 0, 0] (k0_pay80 (k0_pay79 (k0_pay74 i) v98 v101 v105)) inpos_S1x1x1_p0_0_0) :=
  ⟨cntWord_le i _, cntWord_le i _, cntWord_le i _, cntWord_le i _⟩

end Cert.KernelIdeal.Fox
-- ==== Proof.FoxRuns.lean ====
/-
  What the two cases of the attention's body share: the branch condition in closed form, the staging and scratch buffers.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.FoxChk

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the scalar chain
    substituted). -/
abbrev cond0_0 (i : grid0.Coords) : Prop := (Scalar.cmpi .ne (Scalar.extui (Scalar.cmpi .eq (BitVec.ofNat 32 (i 2).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_0, e0, e1, e2]
    word_cmp
   : ∀ t : Fin grid0.N, cond0_0 (grid0.coords t) ↔ t.val % 32 = 0)

/-! ## The kernel body on any staging memrefs: a subtype the run finds -/

/-- One staging buffer of output window 4, through which its contents are stated (`View.read_writes_of_cover`: the
    choice does not matter). -/
abbrev VO0_4 : View sig .tc .vmem S1x512x256 .bf16 := (Memref.whole cc0_stg4_0 : Memref sig .tc .vmem S1x512x256 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x128x16384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x16384x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S4x512x128 .f32 := Memref.whole cc0_scratch0
abbrev scM0_1 : Memref sig .tc .vmem S4x512x128 .f32 := Memref.whole cc0_scratch1
abbrev scM0_2 : Memref sig .tc .vmem S4x1x16384 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The key rows' scratch, through which its contents are stated. -/
abbrev VS2 : View sig .tc .vmem S4x1x16384 .f32 := scM0_2.view

end Cert.KernelIdeal.Fox

end
-- ==== Proof.FoxRunA.lean ====
/-
  The attention's body at a point where the key rows are filled.
-/
module

public import proofs.«01_k».proof.Proof.FoxRuns

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- The body at a point where the key rows are filled (the first query block of a head group): the pieces the output's and the
    key rows' buffers end with, and that on whole buffers, the inputs' at their contents, the rest at anything, the body runs to
    the continuation holding the inputs as they were and those pieces written. -/
noncomputable def kernelRun0_A (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : cond0_0 i)
    (x0 : Vec F S1 .f32) (x1 : Vec F S1x4x512x128 .bf16) (x2 : Vec F S1x4x128x16384 .bf16) (x3 : Vec F S1x4x16384x128 .bf16) :
    { L : List (View.Piece (Elt F) S1x512x256 .bf16) × List (View.Piece (Elt F) S4x1x16384 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L.1) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f L.2)) -∗ K ⟨⟩))
          ⊢ wp frame (wpE (defs₀ (F := F)) Variants.none c none) E (cc0_fox i arg3 harg3 arg4 harg4 arg5 harg5 arg6 harg6 arg7 harg7 arg8 harg8 arg9 harg9 arg10 harg10) K } := by
  refine ⟨(?_, ?_), fun E K => ?run⟩
  case run =>
    simp only [cc0_fox_eq_skeleton]; unfold cc0_fox_skel
    simp only [k0_part19_eq_skeleton, k0_part11_eq_skeleton, k0_part1_eq_skeleton, k0_part2_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc0 | sl_exact (chk_of_small i _ _ _ _ (chk_all (F := F) i _ _ _ _ _ _ _ _ _ _ _)))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    iexists _; iexact HS2

end Cert.KernelIdeal.Fox

end
-- ==== Proof.FoxRunB.lean ====
/-
  The attention's body at a point where the key rows stand from before.
-/
module

public import proofs.«01_k».proof.Proof.FoxRunA

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- The body at a point where the key rows are as an earlier point left them: as the case above, the key rows at given contents,
    which it leaves. -/
noncomputable def kernelRun0_B (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : ¬cond0_0 i)
    (x0 : Vec F S1 .f32) (x1 : Vec F S1x4x512x128 .bf16) (x2 : Vec F S1x4x128x16384 .bf16) (x3 : Vec F S1x4x16384x128 .bf16) (x4 : Vec F S4x1x16384 .f32) :
    { L : List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ (∃ d, owns (c : Thread nD τ) arg8 fullShare d) ∗ (∃ d, owns (c : Thread nD τ) arg9 fullShare d) ∗ owns (c : Thread nD τ) arg10 fullShare x4) -∗ K ⟨⟩))
          ⊢ wp frame (wpE (defs₀ (F := F)) Variants.none c none) E (cc0_fox i arg3 harg3 arg4 harg4 arg5 harg5 arg6 harg6 arg7 harg7 arg8 harg8 arg9 harg9 arg10 harg10) K } := by
  refine ⟨?_, fun E K => ?run⟩
  case run =>
    simp only [cc0_fox_eq_skeleton]; unfold cc0_fox_skel
    simp only [k0_part19_eq_skeleton, k0_part11_eq_skeleton, k0_part1_eq_skeleton, k0_part2_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg10.eq_unread hfs2
    sl_exec (disch := first | sl_exact hc0 | sl_exact (chk_of_small i _ _ _ _ (chk_all (F := F) i _ _ _ _ _ _ _ _ _ _ _)))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    iexists _; isplitr; · ipureintro; exact harg10.read_unread _
    iexact HS2

end Cert.KernelIdeal.Fox

end
-- ==== Proof.FoxBlocks.lean ====
/-
  What the attention's windows hold at each point, at an index, and the key rows of a head group.
-/
module

public import proofs.«01_k».proof.Proof.FoxRunB
public import Idealize.ShloMosaic.Lib.VecWindow

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' blocks at an index -/

/-- The grid coordinates of a point: batch, head group, query block. -/
theorem coord0 (t : Fin cfg0.N) : (grid0.coords t 0).val = t.val / 64 := by
  have ht : t.val < 128 := Nat.lt_of_lt_of_eq t.isLt N_0
  have e0 : (grid0.coords t 0).val = t.val / 64 % 2 := Pipeline.Grid.coords_val t 0 (by decide) rfl
  omega
theorem coord1 (t : Fin cfg0.N) : (grid0.coords t 1).val = t.val / 32 % 2 := Pipeline.Grid.coords_val t 1 (by decide) rfl
theorem coord2 (t : Fin cfg0.N) : (grid0.coords t 2).val = t.val % 32 := by
  have e2 : (grid0.coords t 2).val = t.val / 1 % 32 := Pipeline.Grid.coords_val t 2 (by decide) rfl
  omega

theorem lt64 (t : Fin cfg0.N) : t.val / 64 < 2 := by
  have ht : t.val < 128 := Nat.lt_of_lt_of_eq t.isLt N_0
  omega

/-- The bound. -/
theorem iblk0_at (c : Dev nD) (t : Fin cfg0.N) (j : S1.Idx) : (iblk m c 0 t : S1.Idx → Elt F .f32) j = V m c main_arg0 j := by
  refine congrArg (V m c main_arg0) (funext fun a => Fin.ext ?_)
  fin_cases a
  show 0 * 1 + 1 * (j 0).val = (j 0).val
  omega

/-- The queries of a point. -/
theorem iblk1_at (c : Dev nD) (t : Fin cfg0.N) (j : S1x4x512x128.Idx) :
    (iblk m c 1 t : S1x4x512x128.Idx → Elt F .bf16) j
      = V m c main_arg1 (ix4 (⟨t.val / 64, lt64 t⟩ : Fin 2) (⟨4 * (t.val / 32 % 2) + (j 1).val, by have : (j 1).val < 4 := (j 1).isLt; omega⟩ : Fin 8)
          (⟨512 * (t.val % 32) + (j 2).val, by have : (j 2).val < 512 := (j 2).isLt; omega⟩ : Fin 16384) (j 3 : Fin 128)) := by
  refine congrArg (V m c main_arg1) (funext fun a => Fin.ext ?_)
  have h0 := coord0 t; have h1 := coord1 t; have h2 := coord2 t
  have hlt := lt64 t
  have hj0 : (j 0).val = 0 := by have : (j 0).val < 1 := (j 0).isLt; omega
  fin_cases a
  · show (BitVec.ofNat 32 (grid0.coords t 0).val).toNat * 1 + 1 * (j 0).val = t.val / 64
    rw [h0, BitVec.toNat_ofNat]; omega
  · show (BitVec.ofNat 32 (grid0.coords t 1).val).toNat * 4 + 1 * (j 1).val = 4 * (t.val / 32 % 2) + (j 1).val
    rw [h1, BitVec.toNat_ofNat]; omega
  · show (BitVec.ofNat 32 (grid0.coords t 2).val).toNat * 512 + 1 * (j 2).val = 512 * (t.val % 32) + (j 2).val
    rw [h2, BitVec.toNat_ofNat]; omega
  · show 0 * 128 + 1 * (j 3).val = (j 3).val
    omega

/-- The keys of a point's head group. -/
theorem iblk2_at (c : Dev nD) (t : Fin cfg0.N) (j : S1x4x128x16384.Idx) :
    (iblk m c 2 t : S1x4x128x16384.Idx → Elt F .bf16) j
      = V m c main_arg2 (ix4 (⟨t.val / 64, lt64 t⟩ : Fin 2) (⟨4 * (t.val / 32 % 2) + (j 1).val, by have : (j 1).val < 4 := (j 1).isLt; omega⟩ : Fin 8)
          (j 2 : Fin 128) (j 3 : Fin 16384)) := by
  refine congrArg (V m c main_arg2) (funext fun a => Fin.ext ?_)
  have h0 := coord0 t; have h1 := coord1 t
  have hlt := lt64 t
  have hj0 : (j 0).val = 0 := by have : (j 0).val < 1 := (j 0).isLt; omega
  fin_cases a
  · show (BitVec.ofNat 32 (grid0.coords t 0).val).toNat * 1 + 1 * (j 0).val = t.val / 64
    rw [h0, BitVec.toNat_ofNat]; omega
  · show (BitVec.ofNat 32 (grid0.coords t 1).val).toNat * 4 + 1 * (j 1).val = 4 * (t.val / 32 % 2) + (j 1).val
    rw [h1, BitVec.toNat_ofNat]; omega
  · show 0 * 128 + 1 * (j 2).val = (j 2).val
    omega
  · show 0 * 16384 + 1 * (j 3).val = (j 3).val
    omega

/-- The values of a point's head group. -/
theorem iblk3_at (c : Dev nD) (t : Fin cfg0.N) (j : S1x4x16384x128.Idx) :
    (iblk m c 3 t : S1x4x16384x128.Idx → Elt F .bf16) j
      = V m c main_arg3 (ix4 (⟨t.val / 64, lt64 t⟩ : Fin 2) (⟨4 * (t.val / 32 % 2) + (j 1).val, by have : (j 1).val < 4 := (j 1).isLt; omega⟩ : Fin 8)
          (j 2 : Fin 16384) (j 3 : Fin 128)) := by
  refine congrArg (V m c main_arg3) (funext fun a => Fin.ext ?_)
  have h0 := coord0 t; have h1 := coord1 t
  have hlt := lt64 t
  have hj0 : (j 0).val = 0 := by have : (j 0).val < 1 := (j 0).isLt; omega
  fin_cases a
  · show (BitVec.ofNat 32 (grid0.coords t 0).val).toNat * 1 + 1 * (j 0).val = t.val / 64
    rw [h0, BitVec.toNat_ofNat]; omega
  · show (BitVec.ofNat 32 (grid0.coords t 1).val).toNat * 4 + 1 * (j 1).val = 4 * (t.val / 32 % 2) + (j 1).val
    rw [h1, BitVec.toNat_ofNat]; omega
  · show 0 * 16384 + 1 * (j 2).val = (j 2).val
    omega
  · show 0 * 128 + 1 * (j 3).val = (j 3).val
    omega

/-- The keys stay the same through a head group's points. -/
theorem iblk2_group (c : Dev nD) (t t' : Fin cfg0.N) (h : t.val / 32 = t'.val / 32) :
    (iblk m c 2 t : S1x4x128x16384.Idx → Elt F .bf16) = (iblk m c 2 t' : S1x4x128x16384.Idx → Elt F .bf16) := by
  funext j
  rw [iblk2_at, iblk2_at]
  congr 2
  · exact Fin.ext (show t.val / 64 = t'.val / 64 by omega)
  · exact Fin.ext (show 4 * (t.val / 32 % 2) + (j 1).val = 4 * (t'.val / 32 % 2) + (j 1).val by rw [h])

/-! ## The key rows -/

/-- The key rows of a head group: for each head, minus the sum of the three rows of its packed keys that carry the forget gates. -/
def ckeyOf (x2 : Vec F S1x4x128x16384 .bf16) : Vec F S4x1x16384 .f32 := fun j =>
  k0_pay1 (fun y : S1x1x16x16384.Idx => x2 (ix4 (0 : Fin 1) (j 0 : Fin 4)
    (⟨64 + (y 2).val, by have : (y 2).val < 16 := (y 2).isLt; omega⟩ : Fin 128) (y 3 : Fin 16384))) (ix3 (0 : Fin 1) (0 : Fin 1) (j 2 : Fin 16384))

/-- Four rows written one after another, read back. -/
theorem rows_read (g : Fin 4 → S1x1x16384.Idx → Elt F .f32)
    (h0 : ∀ a, (![0, 0, 0] : Fin 3 → ℕ) a + S1x1x16384.size a ≤ S4x1x16384.size a) (h1 : ∀ a, (![1, 0, 0] : Fin 3 → ℕ) a + S1x1x16384.size a ≤ S4x1x16384.size a)
    (h2 : ∀ a, (![2, 0, 0] : Fin 3 → ℕ) a + S1x1x16384.size a ≤ S4x1x16384.size a) (h3 : ∀ a, (![3, 0, 0] : Fin 3 → ℕ) a + S1x1x16384.size a ≤ S4x1x16384.size a)
    (v : View sig .tc .vmem S4x1x16384 .f32) (f : v.ty.Contents (Elt F)) (j : S4x1x16384.Idx) :
    v.read (Elt F) (v.writes (Elt F) f [⟨Rect.unit ![3, 0, 0] S1x1x16384.size h3, g 3⟩, ⟨Rect.unit ![2, 0, 0] S1x1x16384.size h2, g 2⟩,
      ⟨Rect.unit ![1, 0, 0] S1x1x16384.size h1, g 1⟩, ⟨Rect.unit ![0, 0, 0] S1x1x16384.size h0, g 0⟩]) j
      = g (j 0) (ix3 (0 : Fin 1) (0 : Fin 1) (j 2 : Fin 16384)) := by
  have e : ∀ (n : ℕ) (hn : (j 0).val = n) (a : Fin 3), (j a).val = (![n, 0, 0] : Fin 3 → ℕ) a + ((ix3 (0 : Fin 1) (0 : Fin 1) (j 2 : Fin 16384)) a).val := by
    intro n hn a
    have hj1 : (j 1).val = 0 := by have : (j 1).val < 1 := (j 1).isLt; omega
    fin_cases a
    · exact hn
    · exact hj1
    · exact (Nat.zero_add _).symm
  have hlt : (j 0).val < 4 := (j 0).isLt
  obtain h | h | h | h : (j 0).val = 3 ∨ (j 0).val = 2 ∨ (j 0).val = 1 ∨ (j 0).val = 0 := by omega
  · rw [show j 0 = (3 : Fin 4) from Fin.ext h]
    exact View.read_writes_cons_unit_of_mem v f h3 (g 3) _ j _ rfl (e 3 h)
  · rw [show j 0 = (2 : Fin 4) from Fin.ext h]
    rw [View.read_writes_cons_unit_of_not_mem v f h3 (g 3) _ j rfl 0 (Or.inl (by rw [h]; decide))]
    exact View.read_writes_cons_unit_of_mem v f h2 (g 2) _ j _ rfl (e 2 h)
  · rw [show j 0 = (1 : Fin 4) from Fin.ext h]
    rw [View.read_writes_cons_unit_of_not_mem v f h3 (g 3) _ j rfl 0 (Or.inl (by rw [h]; decide)),
      View.read_writes_cons_unit_of_not_mem v f h2 (g 2) _ j rfl 0 (Or.inl (by rw [h]; decide))]
    exact View.read_writes_cons_unit_of_mem v f h1 (g 1) _ j _ rfl (e 1 h)
  · rw [show j 0 = (0 : Fin 4) from Fin.ext h]
    rw [View.read_writes_cons_unit_of_not_mem v f h3 (g 3) _ j rfl 0 (Or.inl (by rw [h]; decide)),
      View.read_writes_cons_unit_of_not_mem v f h2 (g 2) _ j rfl 0 (Or.inl (by rw [h]; decide)),
      View.read_writes_cons_unit_of_not_mem v f h1 (g 1) _ j rfl 0 (Or.inl (by rw [h]; decide))]
    exact View.read_writes_cons_unit_of_mem v f h0 (g 0) _ j _ rfl (e 0 h)

/-- One head's block of gate rows, read from the whole group's keys. -/
theorem gate_block (arg5 : Memref sig .tc .vmem S1x4x128x16384 .bf16) (harg5 : arg5.IsWhole) (x2 : Vec F S1x4x128x16384 .bf16) (e : ℕ) (he : e < 4)
    (h : ∀ a, (![0, e, 64, 0] : Fin 4 → ℕ) a + S1x1x16x16384.size a ≤ S1x4x128x16384.size a) :
    arg5.view.readAt (Elt F) (Rect.unit (s := S1x4x128x16384) ![0, e, 64, 0] S1x1x16x16384.size h).toLoadRect (harg5.unread x2)
      = fun y : S1x1x16x16384.Idx => x2 (ix4 (0 : Fin 1) (⟨e, he⟩ : Fin 4)
          (⟨64 + (y 2).val, by have : (y 2).val < 16 := (y 2).isLt; omega⟩ : Fin 128) (y 3 : Fin 16384)) := by
  funext y
  show arg5.view.read (Elt F) (harg5.unread x2) _ = _
  rw [harg5.read_unread]
  refine congrArg x2 (funext fun a => Fin.ext ?_)
  have h0 : (y 0).val = 0 := by have : (y 0).val < 1 := (y 0).isLt; omega
  have h1 : (y 1).val = 0 := by have : (y 1).val < 1 := (y 1).isLt; omega
  fin_cases a
  · show 0 + 1 * (y 0).val = 0; omega
  · show e + 1 * (y 1).val = e; omega
  · show 64 + 1 * (y 2).val = 64 + (y 2).val; omega
  · show 0 + 1 * (y 3).val = (y 3).val; omega

end Cert.KernelIdeal.Fox

end
-- ==== Proof.FoxFrame.lean ====
/-
  The attention's run: the proof data of its pipeline, the body at every point, and the frame.
-/
module

public import proofs.«01_k».proof.Proof.FoxBlocks
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A's two pieces cover the output's block. -/
theorem cover0_A_4 (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : cond0_0 i)
    (x0 : Vec F S1 .f32) (x1 : Vec F S1x4x512x128 .bf16) (x2 : Vec F S1x4x128x16384 .bf16) (x3 : Vec F S1x4x16384x128 .bf16) (y : S1x512x256.Idx) :
    ∃ pc ∈ (kernelRun0_A c i arg3 harg3 arg4 harg4 arg5 harg5 arg6 harg6 arg7 harg7 arg8 harg8 arg9 harg9 arg10 harg10 hc0 x0 x1 x2 x3).1.1, y ∈ pc.1.set :=
  View.cover_of_tiledL (kernelRun0_A c i arg3 harg3 arg4 harg4 arg5 harg5 arg6 harg6 arg7 harg7 arg8 harg8 arg9 harg9 arg10 harg10 hc0 x0 x1 x2 x3).1.1 S1x512x128.size (by sl_kernel_rfl) y

/-- What case A leaves in output 4's staging buffer: its pieces read back over junk. -/
def out0_A_4 (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : cond0_0 i)
    (x0 : Vec F S1 .f32) (x1 : Vec F S1x4x512x128 .bf16) (x2 : Vec F S1x4x128x16384 .bf16) (x3 : Vec F S1x4x16384x128 .bf16) : Vec F S1x512x256 .bf16 :=
  VO0_4.read (Elt F) (VO0_4.writes (Elt F) VO0_4.junk (kernelRun0_A c i arg3 harg3 arg4 harg4 arg5 harg5 arg6 harg6 arg7 harg7 arg8 harg8 arg9 harg9 arg10 harg10 hc0 x0 x1 x2 x3).1.1)

/-- Case B's two pieces cover the output's block. -/
theorem cover0_B_4 (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : ¬cond0_0 i)
    (x0 : Vec F S1 .f32) (x1 : Vec F S1x4x512x128 .bf16) (x2 : Vec F S1x4x128x16384 .bf16) (x3 : Vec F S1x4x16384x128 .bf16) (x4 : Vec F S4x1x16384 .f32) (y : S1x512x256.Idx) :
    ∃ pc ∈ (kernelRun0_B c i arg3 harg3 arg4 harg4 arg5 harg5 arg6 harg6 arg7 harg7 arg8 harg8 arg9 harg9 arg10 harg10 hc0 x0 x1 x2 x3 x4).1, y ∈ pc.1.set :=
  View.cover_of_tiledL (kernelRun0_B c i arg3 harg3 arg4 harg4 arg5 harg5 arg6 harg6 arg7 harg7 arg8 harg8 arg9 harg9 arg10 harg10 hc0 x0 x1 x2 x3 x4).1 S1x512x128.size (by sl_kernel_rfl) y

/-- What case B leaves in output 4's staging buffer: its pieces read back over junk. -/
def out0_B_4 (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : ¬cond0_0 i)
    (x0 : Vec F S1 .f32) (x1 : Vec F S1x4x512x128 .bf16) (x2 : Vec F S1x4x128x16384 .bf16) (x3 : Vec F S1x4x16384x128 .bf16) (x4 : Vec F S4x1x16384 .f32) : Vec F S1x512x256 .bf16 :=
  VO0_4.read (Elt F) (VO0_4.writes (Elt F) VO0_4.junk (kernelRun0_B c i arg3 harg3 arg4 harg4 arg5 harg5 arg6 harg6 arg7 harg7 arg8 harg8 arg9 harg9 arg10 harg10 hc0 x0 x1 x2 x3 x4).1)

/-! ## The key rows' scratch -/

/-- After a point of case A, the key rows' scratch holds the head group's key rows. -/
theorem ckeys_A (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : cond0_0 i)
    (x0 : Vec F S1 .f32) (x1 : Vec F S1x4x512x128 .bf16) (x2 : Vec F S1x4x128x16384 .bf16) (x3 : Vec F S1x4x16384x128 .bf16) (v : View sig .tc .vmem S4x1x16384 .f32) (f : v.ty.Contents (Elt F)) :
    v.read (Elt F) (v.writes (Elt F) f (kernelRun0_A c i arg3 harg3 arg4 harg4 arg5 harg5 arg6 harg6 arg7 harg7 arg8 harg8 arg9 harg9 arg10 harg10 hc0 x0 x1 x2 x3).1.2) = ckeyOf x2 := by
  have e : (kernelRun0_A c i arg3 harg3 arg4 harg4 arg5 harg5 arg6 harg6 arg7 harg7 arg8 harg8 arg9 harg9 arg10 harg10 hc0 x0 x1 x2 x3).1.2
      = [⟨Rect.unit (s := S4x1x16384) ![3, 0, 0] S1x1x16384.size (by decide), k0_pay1 (arg5.view.readAt (Elt F) (Rect.unit (s := S1x4x128x16384) ![0, 3, 64, 0] S1x1x16x16384.size (by decide)).toLoadRect (harg5.unread x2))⟩,
        ⟨Rect.unit (s := S4x1x16384) ![2, 0, 0] S1x1x16384.size (by decide), k0_pay1 (arg5.view.readAt (Elt F) (Rect.unit (s := S1x4x128x16384) ![0, 2, 64, 0] S1x1x16x16384.size (by decide)).toLoadRect (harg5.unread x2))⟩,
        ⟨Rect.unit (s := S4x1x16384) ![1, 0, 0] S1x1x16384.size (by decide), k0_pay1 (arg5.view.readAt (Elt F) (Rect.unit (s := S1x4x128x16384) ![0, 1, 64, 0] S1x1x16x16384.size (by decide)).toLoadRect (harg5.unread x2))⟩,
        ⟨Rect.unit (s := S4x1x16384) ![0, 0, 0] S1x1x16384.size (by decide), k0_pay1 (arg5.view.readAt (Elt F) (Rect.unit (s := S1x4x128x16384) ![0, 0, 64, 0] S1x1x16x16384.size (by decide)).toLoadRect (harg5.unread x2))⟩] := rfl
  rw [e, gate_block arg5 harg5 x2 3 (by decide), gate_block arg5 harg5 x2 2 (by decide), gate_block arg5 harg5 x2 1 (by decide), gate_block arg5 harg5 x2 0 (by decide)]
  funext j
  exact rows_read (fun e : Fin 4 => k0_pay1 (fun y : S1x1x16x16384.Idx => x2 (ix4 (0 : Fin 1) e
    (⟨64 + (y 2).val, by have : (y 2).val < 16 := (y 2).isLt; omega⟩ : Fin 128) (y 3 : Fin 16384)))) _ _ _ _ v f j

/-! ## What the output holds after each point -/

/-- What the output's staging buffer holds after the body at point `t`: the case the position selects, run at the point's buffers
    and input blocks, the second case with the head group's key rows. -/
def outsAt0 (c : Dev nD) (t : Fin cfg0.N) : Vec F S1x512x256 .bf16 :=
  if h0 : t.val % 32 = 0 then
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)
  else
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (ckeyOf (iblk m c 2 t))

theorem outsAt0_A (c : Dev nD) (t : Fin cfg0.N) (h0 : t.val % 32 = 0) :
    outsAt0 m c t = out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := dif_pos h0

theorem outsAt0_B (c : Dev nD) (t : Fin cfg0.N) (h0 : ¬t.val % 32 = 0) :
    outsAt0 m c t = out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (ckeyOf (iblk m c 2 t)) := dif_neg h0

/-! ## The invariant between points -/

/-- The key rows' scratch before position `s`: at the start of a head group anything; within it, the head group's key rows. -/
def scr (c : Dev nD) (s : ℕ) : sProp 𝕄 :=
  if h : ¬ s % 32 = 0 ∧ s < cfg0.N then owns (c : Thread nD τ) scM0_2 fullShare (ckeyOf (iblk m c 2 ⟨s, h.2⟩ : Vec F S1x4x128x16384 .bf16))
  else iprop(∃ d, owns (c : Thread nD τ) scM0_2 fullShare d)

theorem scr_start (c : Dev nD) (s : ℕ) (h : s % 32 = 0) : scr m c s = iprop(∃ d, owns (c : Thread nD τ) scM0_2 fullShare d) :=
  dif_neg fun h' => h'.1 h
theorem scr_in (c : Dev nD) (t : Fin cfg0.N) (h : ¬ t.val % 32 = 0) :
    scr m c t.val = owns (c : Thread nD τ) scM0_2 fullShare (ckeyOf (iblk m c 2 t : Vec F S1x4x128x16384 .bf16)) := dif_pos ⟨h, t.isLt⟩

/-- Holding a point's key rows is enough for the next position. -/
theorem scr_next (c : Dev nD) (t : Fin cfg0.N) :
    owns (c : Thread nD τ) scM0_2 fullShare (ckeyOf (iblk m c 2 t : Vec F S1x4x128x16384 .bf16)) ⊢ scr m c (t.val + 1) := by
  by_cases h : ¬ (t.val + 1) % 32 = 0 ∧ t.val + 1 < cfg0.N
  · rw [scr_in m c ⟨t.val + 1, h.2⟩ h.1, iblk2_group m c ⟨t.val + 1, h.2⟩ t (by have := h.1; show (t.val + 1) / 32 = t.val / 32; omega)]
  · rw [show scr m c (t.val + 1) = iprop(∃ d, owns (c : Thread nD τ) scM0_2 fullShare d) from dif_neg h]
    iintro H; iexists _; iexact H

/-- The invariant before position `s`. -/
def phi (c : Dev nD) (s : ℕ) : sProp 𝕄 :=
  iprop(iprop((∃ d, owns (c : Thread nD τ) scM0_0 fullShare d) ∗ (∃ d, owns (c : Thread nD τ) scM0_1 fullShare d) ∗ scr m c s) ∗ (∃ r, prngReg c r))

theorem phi_start (c : Dev nD) (s : ℕ) (h : s % 32 = 0) : phi m c s = Pipeline.ΦA spec0 c := by
  unfold phi; rw [scr_start m c s h, PhiA0_eq]

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ t := phi m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = phi m c (t.val + 1) from rfl,
    show (dats m 0 c).owesAt () t.succ = (dats m 0 c).owesAt () t.castSucc from rfl,
    after0_0, after0_1, after0_2, after0_3, after0_4]
  rw [show (dats m 0 c).Φ t.castSucc = phi m c t.val from rfl]
  unfold phi
  have hN : t.val < 128 := lt_of_lt_of_eq t.isLt (show cfg0.N = 128 from N_0)
  by_cases h0 : t.val % 32 = 0
  · rw [outsAt0_A m c t h0, scr_start m c t.val h0]
    unfold out0_A_4
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, HS0, HS1, ⟨%e5, HS2⟩⟩
    isplitl [HS0 HS1 HS2 Hg]
    · isplitl [HS0 HS1 HS2]
      · isplitl [HS0]
        · iexact HS0
        isplitl [HS1]
        · iexact HS1
        iapply (scr_next m c t)
        unfold owns; iexists _; isplitr
        swap; · iexact HS2
        ipureintro; exact ckeys_A c _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _ _ _ _ _)
  · rw [outsAt0_B m c t h0, scr_in m c t h0]
    unfold out0_B_4
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (ckeyOf (iblk m c 2 t))).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, HS0, HS1, HS2⟩
    isplitl [HS0 HS1 HS2 Hg]
    · isplitl [HS0 HS1 HS2]
      · isplitl [HS0]
        · iexact HS0
        isplitl [HS1]
        · iexact HS1
        iapply (scr_next m c t)
        iexact HS2
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = phi m c 0 from rfl, phi_start m c 0 rfl])
    (hout := fun c => by rw [show (dats m 0 c).Φ (Fin.last cfg0.N) = phi m c 128 from congrArg (phi m c) N_0, phi_start m c 128 rfl])

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Fox

end
-- ==== Proof.FoxStep.lean ====
/-
  One key block's step of the attention on the running maxima and sums of a head group, and the loop as its iteration.
-/
module

public import proofs.«01_k».proof.Proof.FoxFrame

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The state's rows and the blocks a step reads -/

/-- One head's rows of a head group's state. -/
def rowAt (M : S4x512x128.Idx → Elt F .f32) (e : Fin 4) : S1x512x128.Idx → Elt F .f32 := fun y => M (ix3 e (y 1 : Fin 512) (y 2 : Fin 128))

theorem readAt_row (v : View sig .tc .vmem S4x512x128 .f32) (f : v.ty.Contents (Elt F)) (e : ℕ) (he : e < 4)
    (h : ∀ a, (![e, 0, 0] : Fin 3 → ℕ) a + S1x512x128.size a ≤ S4x512x128.size a) :
    v.readAt (Elt F) (Rect.unit (s := S4x512x128) ![e, 0, 0] S1x512x128.size h).toLoadRect f = rowAt (v.read (Elt F) f) ⟨e, he⟩ := by
  funext y
  show v.read (Elt F) f _ = v.read (Elt F) f _
  refine congrArg (v.read (Elt F) f) (funext fun a => Fin.ext ?_)
  have h0 : (y 0).val = 0 := by have : (y 0).val < 1 := (y 0).isLt; omega
  fin_cases a
  · show e + 1 * (y 0).val = e; omega
  · show 0 + 1 * (y 1).val = (y 1).val; omega
  · show 0 + 1 * (y 2).val = (y 2).val; omega

/-- Four heads' rows written one after another, read back. -/
theorem heads_read (g : Fin 4 → S1x512x128.Idx → Elt F .f32)
    (h0 : ∀ a, (![0, 0, 0] : Fin 3 → ℕ) a + S1x512x128.size a ≤ S4x512x128.size a) (h1 : ∀ a, (![1, 0, 0] : Fin 3 → ℕ) a + S1x512x128.size a ≤ S4x512x128.size a)
    (h2 : ∀ a, (![2, 0, 0] : Fin 3 → ℕ) a + S1x512x128.size a ≤ S4x512x128.size a) (h3 : ∀ a, (![3, 0, 0] : Fin 3 → ℕ) a + S1x512x128.size a ≤ S4x512x128.size a)
    (v : View sig .tc .vmem S4x512x128 .f32) (f : v.ty.Contents (Elt F)) (L : List (View.Piece (Elt F) S4x512x128 .f32)) (j : S4x512x128.Idx) :
    v.read (Elt F) (v.writes (Elt F) f (⟨Rect.unit ![3, 0, 0] S1x512x128.size h3, g 3⟩ :: ⟨Rect.unit ![2, 0, 0] S1x512x128.size h2, g 2⟩ ::
      ⟨Rect.unit ![1, 0, 0] S1x512x128.size h1, g 1⟩ :: ⟨Rect.unit ![0, 0, 0] S1x512x128.size h0, g 0⟩ :: L)) j
      = g (j 0) (ix3 (0 : Fin 1) (j 1 : Fin 512) (j 2 : Fin 128)) := by
  have e : ∀ (n : ℕ) (hn : (j 0).val = n) (a : Fin 3), (j a).val = (![n, 0, 0] : Fin 3 → ℕ) a + ((ix3 (0 : Fin 1) (j 1 : Fin 512) (j 2 : Fin 128)) a).val := by
    intro n hn a
    fin_cases a
    · exact hn
    · exact (Nat.zero_add _).symm
    · exact (Nat.zero_add _).symm
  have hlt : (j 0).val < 4 := (j 0).isLt
  obtain h | h | h | h : (j 0).val = 3 ∨ (j 0).val = 2 ∨ (j 0).val = 1 ∨ (j 0).val = 0 := by omega
  · rw [show j 0 = (3 : Fin 4) from Fin.ext h]
    exact View.read_writes_cons_unit_of_mem v f h3 (g 3) _ j _ rfl (e 3 h)
  · rw [show j 0 = (2 : Fin 4) from Fin.ext h]
    rw [View.read_writes_cons_unit_of_not_mem v f h3 (g 3) _ j rfl 0 (Or.inl (by rw [h]; decide))]
    exact View.read_writes_cons_unit_of_mem v f h2 (g 2) _ j _ rfl (e 2 h)
  · rw [show j 0 = (1 : Fin 4) from Fin.ext h]
    rw [View.read_writes_cons_unit_of_not_mem v f h3 (g 3) _ j rfl 0 (Or.inl (by rw [h]; decide)),
      View.read_writes_cons_unit_of_not_mem v f h2 (g 2) _ j rfl 0 (Or.inl (by rw [h]; decide))]
    exact View.read_writes_cons_unit_of_mem v f h1 (g 1) _ j _ rfl (e 1 h)
  · rw [show j 0 = (0 : Fin 4) from Fin.ext h]
    rw [View.read_writes_cons_unit_of_not_mem v f h3 (g 3) _ j rfl 0 (Or.inl (by rw [h]; decide)),
      View.read_writes_cons_unit_of_not_mem v f h2 (g 2) _ j rfl 0 (Or.inl (by rw [h]; decide)),
      View.read_writes_cons_unit_of_not_mem v f h1 (g 1) _ j rfl 0 (Or.inl (by rw [h]; decide))]
    exact View.read_writes_cons_unit_of_mem v f h0 (g 0) _ j _ rfl (e 0 h)

/-- One head's queries of a query block. -/
def qRow (x1 : Vec F S1x4x512x128 .bf16) (e : Fin 4) : Vec F S1x1x512x128 .bf16 := fun y =>
  x1 (ix4 (0 : Fin 1) e (y 2 : Fin 512) (y 3 : Fin 128))

/-- One head's keys of key block `J`. -/
def ktBlk (x2 : Vec F S1x4x128x16384 .bf16) (e : Fin 4) (J : Fin 32) : Vec F S1x1x128x512 .bf16 := fun y =>
  x2 (ix4 (0 : Fin 1) e (y 2 : Fin 128) (⟨512 * J.val + (y 3).val, by have : (y 3).val < 512 := (y 3).isLt; have := J.isLt; omega⟩ : Fin 16384))

/-- One head's values of key block `J`. -/
def vBlk (x3 : Vec F S1x4x16384x128 .bf16) (e : Fin 4) (J : Fin 32) : Vec F S1x1x512x128 .bf16 := fun y =>
  x3 (ix4 (0 : Fin 1) e (⟨512 * J.val + (y 2).val, by have : (y 2).val < 512 := (y 2).isLt; have := J.isLt; omega⟩ : Fin 16384) (y 3 : Fin 128))

theorem q_load (v : Memref sig .tc .vmem S1x4x512x128 .bf16) (hv : v.IsWhole) (x1 : Vec F S1x4x512x128 .bf16) (e : Fin 4) (off : Fin 4 → ℕ)
    (hoff : off = ![0, e.val, 0, 0]) (h : ∀ a, off a + S1x1x512x128.size a ≤ S1x4x512x128.size a) :
    v.view.readAt (Elt F) (Rect.unit (s := S1x4x512x128) off S1x1x512x128.size h).toLoadRect (hv.unread x1) = qRow x1 e := by
  subst hoff
  funext y
  show v.view.read (Elt F) (hv.unread x1) _ = _
  rw [hv.read_unread]
  refine congrArg x1 (funext fun a => Fin.ext ?_)
  have h0 : (y 0).val = 0 := by have : (y 0).val < 1 := (y 0).isLt; omega
  have h1 : (y 1).val = 0 := by have : (y 1).val < 1 := (y 1).isLt; omega
  fin_cases a
  · show 0 + 1 * (y 0).val = 0; omega
  · show e.val + 1 * (y 1).val = e.val; omega
  · show 0 + 1 * (y 2).val = (y 2).val; omega
  · show 0 + 1 * (y 3).val = (y 3).val; omega

theorem kt_load (v : Memref sig .tc .vmem S1x4x128x16384 .bf16) (hv : v.IsWhole) (x2 : Vec F S1x4x128x16384 .bf16) (e : Fin 4) (J : Fin 32) (off : Fin 4 → ℕ)
    (hoff : off = ![0, e.val, 0, 512 * J.val]) (h : ∀ a, off a + S1x1x128x512.size a ≤ S1x4x128x16384.size a) :
    v.view.readAt (Elt F) (Rect.unit (s := S1x4x128x16384) off S1x1x128x512.size h).toLoadRect (hv.unread x2) = ktBlk x2 e J := by
  subst hoff
  funext y
  show v.view.read (Elt F) (hv.unread x2) _ = _
  rw [hv.read_unread]
  refine congrArg x2 (funext fun a => Fin.ext ?_)
  have h0 : (y 0).val = 0 := by have : (y 0).val < 1 := (y 0).isLt; omega
  have h1 : (y 1).val = 0 := by have : (y 1).val < 1 := (y 1).isLt; omega
  fin_cases a
  · show 0 + 1 * (y 0).val = 0; omega
  · show e.val + 1 * (y 1).val = e.val; omega
  · show 0 + 1 * (y 2).val = (y 2).val; omega
  · show 512 * J.val + 1 * (y 3).val = 512 * J.val + (y 3).val; omega

theorem v_load (v : Memref sig .tc .vmem S1x4x16384x128 .bf16) (hv : v.IsWhole) (x3 : Vec F S1x4x16384x128 .bf16) (e : Fin 4) (J : Fin 32) (off : Fin 4 → ℕ)
    (hoff : off = ![0, e.val, 512 * J.val, 0]) (h : ∀ a, off a + S1x1x512x128.size a ≤ S1x4x16384x128.size a) :
    v.view.readAt (Elt F) (Rect.unit (s := S1x4x16384x128) off S1x1x512x128.size h).toLoadRect (hv.unread x3) = vBlk x3 e J := by
  subst hoff
  funext y
  show v.view.read (Elt F) (hv.unread x3) _ = _
  rw [hv.read_unread]
  refine congrArg x3 (funext fun a => Fin.ext ?_)
  have h0 : (y 0).val = 0 := by have : (y 0).val < 1 := (y 0).isLt; omega
  have h1 : (y 1).val = 0 := by have : (y 1).val < 1 := (y 1).isLt; omega
  fin_cases a
  · show 0 + 1 * (y 0).val = 0; omega
  · show e.val + 1 * (y 1).val = e.val; omega
  · show 512 * J.val + 1 * (y 2).val = 512 * J.val + (y 2).val; omega
  · show 0 + 1 * (y 3).val = (y 3).val; omega

/-! ## The step -/

/-- The new running maxima, from a key block's scores. -/
def stepM (S : Fin 4 → FVec F S512x512 .f32) (M : S4x512x128.Idx → Elt F .f32) : S4x512x128.Idx → Elt F .f32 := fun j =>
  k0_pay16 (S (j 0)) (rowAt M (j 0)) (ix3 (0 : Fin 1) (j 1 : Fin 512) (j 2 : Fin 128))

/-- The new running sums, from a key block's scores and values. -/
def stepA (S : Fin 4 → FVec F S512x512 .f32) (W : Fin 4 → FVec F S512x128 .bf16) (M A : S4x512x128.Idx → Elt F .f32) : S4x512x128.Idx → Elt F .f32 := fun j =>
  k0_pay36 (W (j 0)) (k0_pay17 (S (j 0)) (rowAt M (j 0))) (k0_pay18 (S (j 0)) (rowAt M (j 0))) (rowAt A (j 0)) (ix3 (0 : Fin 1) (j 1 : Fin 512) (j 2 : Fin 128))

/-- A key block's scores, no position masked. -/
def scoreB (x1 : Vec F S1x4x512x128 .bf16) (x2 : Vec F S1x4x128x16384 .bf16) (J : Fin 32) (e : Fin 4) : FVec F S512x512 .f32 := k0_pay6 (qRow x1 e) (ktBlk x2 e J)

/-- A key block's values. -/
def valB (x3 : Vec F S1x4x16384x128 .bf16) (J : Fin 32) (e : Fin 4) : FVec F S512x128 .bf16 := k0_pay10 (vBlk x3 e J)

theorem trip_read (c : Dev nD) (bd : Option Variants.none.V) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (arg2 : BitVec 32) (v10 : IVec S512x512 1) (v46 : BitVec 32) (v69 : BitVec 32) (v93 : BitVec 32) (v94 : BitVec 32) (v113 : IVec S1x16384 32) (v117 : BitVec 32) (k0_hw1 : k0_chk1 i v46 v69 v93 v117) (v118 : BitVec 32) (x1 : Vec F S1x4x512x128 .bf16) (x2 : Vec F S1x4x128x16384 .bf16) (x3 : Vec F S1x4x16384x128 .bf16)
    (f8 : BufTy.Contents (Elt F) arg8.view.ty) (f9 : BufTy.Contents (Elt F) arg9.view.ty) (k : Fin (k0_t1_loop i v46 v69 v93 v117).trips) (J : Fin 32)
    (hJ : (Scalar.muli (Scf.iv (Scalar.minsi (Scalar.minsi (Scalar.minsi v46 v69) v93) v117) 1#32 k) 512#32).toNat = 512 * J.val) :
    arg8.view.read (Elt F) (arg8.view.writes (Elt F) f8 (tripL_k0_t1 (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) k f8 f9).1)
        = stepM (scoreB x1 x2 J) (arg8.view.read (Elt F) f8)
      ∧ arg9.view.read (Elt F) (arg9.view.writes (Elt F) f9 (tripL_k0_t1 (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) k f8 f9).2)
        = stepA (scoreB x1 x2 J) (valB x3 J) (arg8.view.read (Elt F) f8) (arg9.view.read (Elt F) f9) := by
  have q := fun (e : Fin 4) (h) => q_load arg4 harg4 x1 e ![0, e.val, 0, 0] rfl h
  have kt0 := fun h => kt_load arg5 harg5 x2 0 J (k0_off5 i v46 v69 v93 v117 k) (congrArg (fun n : ℕ => (![0, 0, 0, n] : Fin 4 → ℕ)) hJ) h
  have kt1 := fun h => kt_load arg5 harg5 x2 1 J (k0_off6 i v46 v69 v93 v117 k) (congrArg (fun n : ℕ => (![0, 1, 0, n] : Fin 4 → ℕ)) hJ) h
  have kt2 := fun h => kt_load arg5 harg5 x2 2 J (k0_off7 i v46 v69 v93 v117 k) (congrArg (fun n : ℕ => (![0, 2, 0, n] : Fin 4 → ℕ)) hJ) h
  have kt3 := fun h => kt_load arg5 harg5 x2 3 J (k0_off8 i v46 v69 v93 v117 k) (congrArg (fun n : ℕ => (![0, 3, 0, n] : Fin 4 → ℕ)) hJ) h
  have w0 := fun h => v_load arg6 harg6 x3 0 J (k0_off9 i v46 v69 v93 v117 k) (congrArg (fun n : ℕ => (![0, 0, n, 0] : Fin 4 → ℕ)) hJ) h
  have w1 := fun h => v_load arg6 harg6 x3 1 J (k0_off10 i v46 v69 v93 v117 k) (congrArg (fun n : ℕ => (![0, 1, n, 0] : Fin 4 → ℕ)) hJ) h
  have w2 := fun h => v_load arg6 harg6 x3 2 J (k0_off11 i v46 v69 v93 v117 k) (congrArg (fun n : ℕ => (![0, 2, n, 0] : Fin 4 → ℕ)) hJ) h
  have w3 := fun h => v_load arg6 harg6 x3 3 J (k0_off12 i v46 v69 v93 v117 k) (congrArg (fun n : ℕ => (![0, 3, n, 0] : Fin 4 → ℕ)) hJ) h
  have m8 := fun (e : Fin 4) h => readAt_row arg8.view f8 e.val e.isLt h
  have m9 := fun (e : Fin 4) h => readAt_row arg9.view f9 e.val e.isLt h
  have E8 : (tripL_k0_t1 (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) k f8 f9).1
      = [⟨Rect.unit ![3, 0, 0] S1x512x128.size (by decide), k0_pay16 (scoreB x1 x2 J 3) (rowAt (arg8.view.read (Elt F) f8) 3)⟩,
        ⟨Rect.unit ![2, 0, 0] S1x512x128.size (by decide), k0_pay16 (scoreB x1 x2 J 2) (rowAt (arg8.view.read (Elt F) f8) 2)⟩,
        ⟨Rect.unit ![1, 0, 0] S1x512x128.size (by decide), k0_pay16 (scoreB x1 x2 J 1) (rowAt (arg8.view.read (Elt F) f8) 1)⟩,
        ⟨Rect.unit ![0, 0, 0] S1x512x128.size (by decide), k0_pay16 (scoreB x1 x2 J 0) (rowAt (arg8.view.read (Elt F) f8) 0)⟩] := by
    unfold scoreB tripL_k0_t1 trip_k0_t1
    rw [← q 0 (by decide), ← q 1 (by decide), ← q 2 (by decide), ← q 3 (by decide), ← m8 0 (by decide), ← m8 1 (by decide), ← m8 2 (by decide), ← m8 3 (by decide),
      ← kt0 (k0_off5_inb i v46 v69 v93 v117 k0_hw1 k), ← kt1 (k0_off6_inb i v46 v69 v93 v117 k0_hw1 k), ← kt2 (k0_off7_inb i v46 v69 v93 v117 k0_hw1 k), ← kt3 (k0_off8_inb i v46 v69 v93 v117 k0_hw1 k)]
    rfl
  have E9 : (tripL_k0_t1 (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) k f8 f9).2
      = [⟨Rect.unit ![3, 0, 0] S1x512x128.size (by decide), k0_pay36 (valB x3 J 3) (k0_pay17 (scoreB x1 x2 J 3) (rowAt (arg8.view.read (Elt F) f8) 3)) (k0_pay18 (scoreB x1 x2 J 3) (rowAt (arg8.view.read (Elt F) f8) 3)) (rowAt (arg9.view.read (Elt F) f9) 3)⟩,
        ⟨Rect.unit ![2, 0, 0] S1x512x128.size (by decide), k0_pay36 (valB x3 J 2) (k0_pay17 (scoreB x1 x2 J 2) (rowAt (arg8.view.read (Elt F) f8) 2)) (k0_pay18 (scoreB x1 x2 J 2) (rowAt (arg8.view.read (Elt F) f8) 2)) (rowAt (arg9.view.read (Elt F) f9) 2)⟩,
        ⟨Rect.unit ![1, 0, 0] S1x512x128.size (by decide), k0_pay36 (valB x3 J 1) (k0_pay17 (scoreB x1 x2 J 1) (rowAt (arg8.view.read (Elt F) f8) 1)) (k0_pay18 (scoreB x1 x2 J 1) (rowAt (arg8.view.read (Elt F) f8) 1)) (rowAt (arg9.view.read (Elt F) f9) 1)⟩,
        ⟨Rect.unit ![0, 0, 0] S1x512x128.size (by decide), k0_pay36 (valB x3 J 0) (k0_pay17 (scoreB x1 x2 J 0) (rowAt (arg8.view.read (Elt F) f8) 0)) (k0_pay18 (scoreB x1 x2 J 0) (rowAt (arg8.view.read (Elt F) f8) 0)) (rowAt (arg9.view.read (Elt F) f9) 0)⟩] := by
    unfold scoreB valB tripL_k0_t1 trip_k0_t1
    rw [← q 0 (by decide), ← q 1 (by decide), ← q 2 (by decide), ← q 3 (by decide), ← m8 0 (by decide), ← m8 1 (by decide), ← m8 2 (by decide), ← m8 3 (by decide),
      ← kt0 (k0_off5_inb i v46 v69 v93 v117 k0_hw1 k), ← kt1 (k0_off6_inb i v46 v69 v93 v117 k0_hw1 k), ← kt2 (k0_off7_inb i v46 v69 v93 v117 k0_hw1 k), ← kt3 (k0_off8_inb i v46 v69 v93 v117 k0_hw1 k),
      ← w0 (k0_off9_inb i v46 v69 v93 v117 k0_hw1 k), ← w1 (k0_off10_inb i v46 v69 v93 v117 k0_hw1 k), ← w2 (k0_off11_inb i v46 v69 v93 v117 k0_hw1 k), ← w3 (k0_off12_inb i v46 v69 v93 v117 k0_hw1 k), ← m9 0 (by decide), ← m9 1 (by decide), ← m9 2 (by decide), ← m9 3 (by decide)]
    rfl
  rw [E8, E9]
  exact ⟨funext fun j => heads_read (fun e => k0_pay16 (scoreB x1 x2 J e) (rowAt (arg8.view.read (Elt F) f8) e)) _ _ _ _ arg8.view f8 [] j,
    funext fun j => heads_read (fun e => k0_pay36 (valB x3 J e) (k0_pay17 (scoreB x1 x2 J e) (rowAt (arg8.view.read (Elt F) f8) e))
      (k0_pay18 (scoreB x1 x2 J e) (rowAt (arg8.view.read (Elt F) f8) e)) (rowAt (arg9.view.read (Elt F) f9) e)) _ _ _ _ arg9.view f9 [] j⟩

end Cert.KernelIdeal.Fox

end
-- ==== Proof.FoxDiag.lean ====
/-
  The attention's body as a whole: the loop iterates the step, the diagonal block is one more step, and the output's block is what the state then gives.
-/
module

public import proofs.«01_k».proof.Proof.FoxStep

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The loop -/

/-- The state, running maxima and running sums, after one key block. -/
def step1 (S : Fin 4 → FVec F S512x512 .f32) (W : Fin 4 → FVec F S512x128 .bf16) (p : (S4x512x128.Idx → Elt F .f32) × (S4x512x128.Idx → Elt F .f32)) :
    (S4x512x128.Idx → Elt F .f32) × (S4x512x128.Idx → Elt F .f32) := (stepM S p.1, stepA S W p.1 p.2)

/-- The state after `n` key blocks from block `b` on. -/
def stateAt (x1 : Vec F S1x4x512x128 .bf16) (x2 : Vec F S1x4x128x16384 .bf16) (x3 : Vec F S1x4x16384x128 .bf16) (b : ℕ) :
    ℕ → (S4x512x128.Idx → Elt F .f32) × (S4x512x128.Idx → Elt F .f32)
  | 0 => (k0_pay70, k0_pay71)
  | n + 1 => step1 (scoreB x1 x2 ⟨(b + n) % 32, Nat.mod_lt _ (by decide)⟩) (valB x3 ⟨(b + n) % 32, Nat.mod_lt _ (by decide)⟩) (stateAt x1 x2 x3 b n)

theorem loop_read (c : Dev nD) (bd : Option Variants.none.V) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (arg2 : BitVec 32) (v10 : IVec S512x512 1) (v46 : BitVec 32) (v69 : BitVec 32) (v93 : BitVec 32) (v94 : BitVec 32) (v113 : IVec S1x16384 32) (v117 : BitVec 32) (k0_hw1 : k0_chk1 i v46 v69 v93 v117) (v118 : BitVec 32) (x1 : Vec F S1x4x512x128 .bf16) (x2 : Vec F S1x4x128x16384 .bf16) (x3 : Vec F S1x4x16384x128 .bf16)
    (hs : Small i v46 v69 v93 v117) (G8 : BufTy.Contents (Elt F) arg8.view.ty) (G9 : BufTy.Contents (Elt F) arg9.view.ty)
    (h8 : arg8.view.read (Elt F) G8 = k0_pay70) (h9 : arg9.view.read (Elt F) G9 = k0_pay71) (n : ℕ) (hn : n ≤ (k0_t1_loop i v46 v69 v93 v117).trips) :
    arg8.view.read (Elt F) (arg8.view.writes (Elt F) G8 (pb_k0_t1 (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) G8 G9 n).1) = (stateAt x1 x2 x3 (first v46 v69 v93 v117) n).1
      ∧ arg9.view.read (Elt F) (arg9.view.writes (Elt F) G9 (pb_k0_t1 (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) G8 G9 n).2) = (stateAt x1 x2 x3 (first v46 v69 v93 v117) n).2 := by
  induction n with
  | zero => exact ⟨h8, h9⟩
  | succ n ih =>
    obtain ⟨i8, i9⟩ := ih (by omega)
    have hk := off_trip i v46 v69 v93 v117 hs ⟨n, by omega⟩
    have hi : (i 2).val < 32 := (i 2).isLt
    have hJ : (first v46 v69 v93 v117 + n) % 32 = first v46 v69 v93 v117 + n := Nat.mod_eq_of_lt (by have := hk.2; simp only at this; omega)
    have e := pb_k0_t1_succ (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) G8 G9 ⟨n, by omega⟩
    simp only at e
    rw [e, View.writes_append, View.writes_append]
    have t := trip_read c bd i arg3 harg3 arg4 harg4 arg5 harg5 arg6 harg6 arg7 harg7 arg8 harg8 arg9 harg9 arg10 harg10 arg2 v10 v46 v69 v93 v94 v113 v117 k0_hw1 v118 x1 x2 x3 (arg8.view.writes (Elt F) G8 (pb_k0_t1 (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) G8 G9 n).1) (arg9.view.writes (Elt F) G9 (pb_k0_t1 (F := F) Variants.none c bd i arg3 harg3 arg4 harg4 arg5 harg5 arg6 harg6 arg7 harg7 arg8 harg8 arg9 harg9 arg10 harg10 arg2 v10 v46 v69 v93 v94 v113 v117 k0_hw1 v118 (harg4.unread x1) (harg5.unread x2) (harg6.unread x3) G8 G9 n).2) ⟨n, by omega⟩
      ⟨(first v46 v69 v93 v117 + n) % 32, Nat.mod_lt _ (by decide)⟩ (by rw [hk.1]; show _ = 512 * ((first v46 v69 v93 v117 + n) % 32); rw [hJ])
    rw [i8, i9] at t
    exact t

/-! ## The diagonal block -/

/-- A head's rows are not touched by another's. -/
theorem row_skip (v : View sig .tc .vmem S4x512x128 .f32) (f : v.ty.Contents (Elt F)) (L : List (View.Piece (Elt F) S4x512x128 .f32)) (e' : ℕ)
    (h : ∀ a, (![e', 0, 0] : Fin 3 → ℕ) a + S1x512x128.size a ≤ S4x512x128.size a) (w : S1x512x128.Idx → Elt F .f32) (e : Fin 4) (hne : e.val < e' ∨ e' + 1 ≤ e.val) :
    rowAt (v.read (Elt F) (v.writes (Elt F) f (⟨Rect.unit ![e', 0, 0] S1x512x128.size h, w⟩ :: L))) e = rowAt (v.read (Elt F) (v.writes (Elt F) f L)) e := by
  funext y
  exact View.read_writes_cons_unit_of_not_mem v f h w L _ rfl 0 hne

/-! The maxima's buffer through the diagonal block, a head at a time. -/

def dl8_1 (v : View sig .tc .vmem S4x512x128 .f32) (S : Fin 4 → FVec F S512x512 .f32) (L : List (View.Piece (Elt F) S4x512x128 .f32)) : List (View.Piece (Elt F) S4x512x128 .f32) :=
  ⟨(Rect.unit (s := S4x512x128) ![0, 0, 0] S1x512x128.size (by decide)), k0_pay16 (S 0) (v.readCov L (Rect.unit (s := S4x512x128) ![0, 0, 0] S1x512x128.size (by decide)).toLoadRect)⟩ :: L

def dl8_2 (v : View sig .tc .vmem S4x512x128 .f32) (S : Fin 4 → FVec F S512x512 .f32) (L : List (View.Piece (Elt F) S4x512x128 .f32)) : List (View.Piece (Elt F) S4x512x128 .f32) :=
  ⟨(Rect.unit (s := S4x512x128) ![1, 0, 0] S1x512x128.size (by decide)), k0_pay16 (S 1) (v.readCov (dl8_1 v S L) (Rect.unit (s := S4x512x128) ![1, 0, 0] S1x512x128.size (by decide)).toLoadRect)⟩ :: (dl8_1 v S L)

def dl8_3 (v : View sig .tc .vmem S4x512x128 .f32) (S : Fin 4 → FVec F S512x512 .f32) (L : List (View.Piece (Elt F) S4x512x128 .f32)) : List (View.Piece (Elt F) S4x512x128 .f32) :=
  ⟨(Rect.unit (s := S4x512x128) ![2, 0, 0] S1x512x128.size (by decide)), k0_pay16 (S 2) (v.readCov (dl8_2 v S L) (Rect.unit (s := S4x512x128) ![2, 0, 0] S1x512x128.size (by decide)).toLoadRect)⟩ :: (dl8_2 v S L)

def dl8 (v : View sig .tc .vmem S4x512x128 .f32) (S : Fin 4 → FVec F S512x512 .f32) (L : List (View.Piece (Elt F) S4x512x128 .f32)) : Fin 4 → List (View.Piece (Elt F) S4x512x128 .f32) :=
  ![L, dl8_1 v S L, dl8_2 v S L, dl8_3 v S L]

/-! The sums' buffer through the diagonal block, a head at a time. -/

def dl9_1 (v8 v : View sig .tc .vmem S4x512x128 .f32) (S : Fin 4 → FVec F S512x512 .f32) (W : Fin 4 → FVec F S512x128 .bf16) (L8 L : List (View.Piece (Elt F) S4x512x128 .f32)) : List (View.Piece (Elt F) S4x512x128 .f32) :=
  ⟨(Rect.unit (s := S4x512x128) ![0, 0, 0] S1x512x128.size (by decide)), k0_pay36 (W 0) (k0_pay17 (S 0) (v8.readCov L8 (Rect.unit (s := S4x512x128) ![0, 0, 0] S1x512x128.size (by decide)).toLoadRect)) (k0_pay18 (S 0) (v8.readCov L8 (Rect.unit (s := S4x512x128) ![0, 0, 0] S1x512x128.size (by decide)).toLoadRect)) (v.readCov L (Rect.unit (s := S4x512x128) ![0, 0, 0] S1x512x128.size (by decide)).toLoadRect)⟩ :: L

def dl9_2 (v8 v : View sig .tc .vmem S4x512x128 .f32) (S : Fin 4 → FVec F S512x512 .f32) (W : Fin 4 → FVec F S512x128 .bf16) (L8 L : List (View.Piece (Elt F) S4x512x128 .f32)) : List (View.Piece (Elt F) S4x512x128 .f32) :=
  ⟨(Rect.unit (s := S4x512x128) ![1, 0, 0] S1x512x128.size (by decide)), k0_pay36 (W 1) (k0_pay17 (S 1) (v8.readCov (dl8_1 v8 S L8) (Rect.unit (s := S4x512x128) ![1, 0, 0] S1x512x128.size (by decide)).toLoadRect)) (k0_pay18 (S 1) (v8.readCov (dl8_1 v8 S L8) (Rect.unit (s := S4x512x128) ![1, 0, 0] S1x512x128.size (by decide)).toLoadRect)) (v.readCov (dl9_1 v8 v S W L8 L) (Rect.unit (s := S4x512x128) ![1, 0, 0] S1x512x128.size (by decide)).toLoadRect)⟩ :: (dl9_1 v8 v S W L8 L)

def dl9_3 (v8 v : View sig .tc .vmem S4x512x128 .f32) (S : Fin 4 → FVec F S512x512 .f32) (W : Fin 4 → FVec F S512x128 .bf16) (L8 L : List (View.Piece (Elt F) S4x512x128 .f32)) : List (View.Piece (Elt F) S4x512x128 .f32) :=
  ⟨(Rect.unit (s := S4x512x128) ![2, 0, 0] S1x512x128.size (by decide)), k0_pay36 (W 2) (k0_pay17 (S 2) (v8.readCov (dl8_2 v8 S L8) (Rect.unit (s := S4x512x128) ![2, 0, 0] S1x512x128.size (by decide)).toLoadRect)) (k0_pay18 (S 2) (v8.readCov (dl8_2 v8 S L8) (Rect.unit (s := S4x512x128) ![2, 0, 0] S1x512x128.size (by decide)).toLoadRect)) (v.readCov (dl9_2 v8 v S W L8 L) (Rect.unit (s := S4x512x128) ![2, 0, 0] S1x512x128.size (by decide)).toLoadRect)⟩ :: (dl9_2 v8 v S W L8 L)

def dl9_4 (v8 v : View sig .tc .vmem S4x512x128 .f32) (S : Fin 4 → FVec F S512x512 .f32) (W : Fin 4 → FVec F S512x128 .bf16) (L8 L : List (View.Piece (Elt F) S4x512x128 .f32)) : List (View.Piece (Elt F) S4x512x128 .f32) :=
  ⟨(Rect.unit (s := S4x512x128) ![3, 0, 0] S1x512x128.size (by decide)), k0_pay36 (W 3) (k0_pay17 (S 3) (v8.readCov (dl8_3 v8 S L8) (Rect.unit (s := S4x512x128) ![3, 0, 0] S1x512x128.size (by decide)).toLoadRect)) (k0_pay18 (S 3) (v8.readCov (dl8_3 v8 S L8) (Rect.unit (s := S4x512x128) ![3, 0, 0] S1x512x128.size (by decide)).toLoadRect)) (v.readCov (dl9_3 v8 v S W L8 L) (Rect.unit (s := S4x512x128) ![3, 0, 0] S1x512x128.size (by decide)).toLoadRect)⟩ :: (dl9_3 v8 v S W L8 L)

def dl9 (v8 v : View sig .tc .vmem S4x512x128 .f32) (S : Fin 4 → FVec F S512x512 .f32) (W : Fin 4 → FVec F S512x128 .bf16) (L8 L : List (View.Piece (Elt F) S4x512x128 .f32)) : Fin 4 → List (View.Piece (Elt F) S4x512x128 .f32) :=
  ![L, dl9_1 v8 v S W L8 L, dl9_2 v8 v S W L8 L, dl9_3 v8 v S W L8 L]

theorem dl8_row (v : View sig .tc .vmem S4x512x128 .f32) (S : Fin 4 → FVec F S512x512 .f32) (L : List (View.Piece (Elt F) S4x512x128 .f32)) (e : Fin 4) :
    rowAt (v.read (Elt F) (v.writes (Elt F) v.junk (dl8 v S L e))) e = rowAt (v.read (Elt F) (v.writes (Elt F) v.junk L)) e := by
  fin_cases e
  · rfl
  · exact row_skip v _ _ 0 _ _ 1 (Or.inr (by decide))
  · exact (row_skip v _ _ 1 _ _ 2 (Or.inr (by decide))).trans (row_skip v _ _ 0 _ _ 2 (Or.inr (by decide)))
  · exact ((row_skip v _ _ 2 _ _ 3 (Or.inr (by decide))).trans (row_skip v _ _ 1 _ _ 3 (Or.inr (by decide)))).trans (row_skip v _ _ 0 _ _ 3 (Or.inr (by decide)))

theorem dl9_row (v8 v : View sig .tc .vmem S4x512x128 .f32) (S : Fin 4 → FVec F S512x512 .f32) (W : Fin 4 → FVec F S512x128 .bf16) (L8 L : List (View.Piece (Elt F) S4x512x128 .f32)) (e : Fin 4) :
    rowAt (v.read (Elt F) (v.writes (Elt F) v.junk (dl9 v8 v S W L8 L e))) e = rowAt (v.read (Elt F) (v.writes (Elt F) v.junk L)) e := by
  fin_cases e
  · rfl
  · exact row_skip v _ _ 0 _ _ 1 (Or.inr (by decide))
  · exact (row_skip v _ _ 1 _ _ 2 (Or.inr (by decide))).trans (row_skip v _ _ 0 _ _ 2 (Or.inr (by decide)))
  · exact ((row_skip v _ _ 2 _ _ 3 (Or.inr (by decide))).trans (row_skip v _ _ 1 _ _ 3 (Or.inr (by decide)))).trans (row_skip v _ _ 0 _ _ 3 (Or.inr (by decide)))

/-- After the diagonal block the sums' buffer holds one more step. -/
theorem dl9_read (v8 v : View sig .tc .vmem S4x512x128 .f32) (S : Fin 4 → FVec F S512x512 .f32) (W : Fin 4 → FVec F S512x128 .bf16) (L8 L : List (View.Piece (Elt F) S4x512x128 .f32)) :
    v.read (Elt F) (v.writes (Elt F) v.junk (dl9_4 v8 v S W L8 L))
      = stepA S W (v8.read (Elt F) (v8.writes (Elt F) v8.junk L8)) (v.read (Elt F) (v.writes (Elt F) v.junk L)) := by
  have c8 : ∀ (e : Fin 4) (h), v8.readCov (dl8 v8 S L8 e) (Rect.unit (s := S4x512x128) ![e.val, 0, 0] S1x512x128.size h).toLoadRect
      = rowAt (v8.read (Elt F) (v8.writes (Elt F) v8.junk L8)) e := fun e h => (readAt_row v8 _ e.val e.isLt h).trans (dl8_row v8 S L8 e)
  have c9 : ∀ (e : Fin 4) (h), v.readCov (dl9 v8 v S W L8 L e) (Rect.unit (s := S4x512x128) ![e.val, 0, 0] S1x512x128.size h).toLoadRect
      = rowAt (v.read (Elt F) (v.writes (Elt F) v.junk L)) e := fun e h => (readAt_row v _ e.val e.isLt h).trans (dl9_row v8 v S W L8 L e)
  funext j
  refine Eq.trans (heads_read (fun e : Fin 4 => k0_pay36 (W e) (k0_pay17 (S e) (v8.readCov (dl8 v8 S L8 e) (Rect.unit (s := S4x512x128) ![e.val, 0, 0] S1x512x128.size
      (by have := e.isLt; intro a; fin_cases a <;> simp <;> omega)).toLoadRect))
    (k0_pay18 (S e) (v8.readCov (dl8 v8 S L8 e) (Rect.unit (s := S4x512x128) ![e.val, 0, 0] S1x512x128.size (by have := e.isLt; intro a; fin_cases a <;> simp <;> omega)).toLoadRect))
    (v.readCov (dl9 v8 v S W L8 L e) (Rect.unit (s := S4x512x128) ![e.val, 0, 0] S1x512x128.size (by have := e.isLt; intro a; fin_cases a <;> simp <;> omega)).toLoadRect))
    _ _ _ _ v v.junk L j) ?_
  have a8 := c8 (j 0) (by have : (j 0).val < 4 := (j 0).isLt; intro a; fin_cases a <;> simp <;> omega)
  have a9 := c9 (j 0) (by have : (j 0).val < 4 := (j 0).isLt; intro a; fin_cases a <;> simp <;> omega)
  exact congrArg₂ (fun M A => k0_pay36 (W (j 0)) (k0_pay17 (S (j 0)) M) (k0_pay18 (S (j 0)) M) A (ix3 (0 : Fin 1) (j 1 : Fin 512) (j 2 : Fin 128))) a8 a9

/-! ## The body -/

/-- A head's word: how many earlier key blocks lie wholly under the bound. -/
def wordOf (x0f : Elt F .f32) (Rw : Fin 4 → Vec F S1x1x16384 .f32) (Wn : Fin 4 → Vec F S1x1x128 .f32) (i : grid0.Coords) (e : Fin 4) : BitVec 32 :=
  extractAt ![0, 0, 0] (k0_pay77 (k0_pay74 i) (Wn e) (Rw e) x0f) inpos_S1x1x1_p0_0_0

theorem small_words (x0f : Elt F .f32) (Rw : Fin 4 → Vec F S1x1x16384 .f32) (Wn : Fin 4 → Vec F S1x1x128 .f32) (i : grid0.Coords) :
    Small i (wordOf x0f Rw Wn i 0) (wordOf x0f Rw Wn i 1) (wordOf x0f Rw Wn i 2) (wordOf x0f Rw Wn i 3) :=
  ⟨cntWord_le i _, cntWord_le i _, cntWord_le i _, cntWord_le i _⟩

/-- The first key block visited. -/
def firstOf (x0f : Elt F .f32) (Rw : Fin 4 → Vec F S1x1x16384 .f32) (Wn : Fin 4 → Vec F S1x1x128 .f32) (i : grid0.Coords) : ℕ :=
  first (wordOf x0f Rw Wn i 0) (wordOf x0f Rw Wn i 1) (wordOf x0f Rw Wn i 2) (wordOf x0f Rw Wn i 3)

/-- The diagonal block's scores, as loaded. -/
def scoreLd (i : grid0.Coords) (arg4 : Memref sig .tc .vmem S1x4x512x128 .bf16) (harg4 : arg4.IsWhole) (arg5 : Memref sig .tc .vmem S1x4x128x16384 .bf16) (harg5 : arg5.IsWhole)
    (x1 : Vec F S1x4x512x128 .bf16) (x2 : Vec F S1x4x128x16384 .bf16) : Fin 4 → FVec F S512x512 .f32 := ![k0_pay85 k0_pay72 (arg4.view.readAt (Elt F) (Rect.unit (s := S1x4x512x128) ![0, 0, 0, 0] S1x1x512x128.size (by decide)).toLoadRect (harg4.unread x1))
      (arg5.view.readAt (Elt F) (Rect.unit (s := S1x4x128x16384) (k0_off21 i) S1x1x128x512.size (k0_off21_inb i)).toLoadRect (harg5.unread x2)),
    k0_pay86 k0_pay72 (arg4.view.readAt (Elt F) (Rect.unit (s := S1x4x512x128) ![0, 1, 0, 0] S1x1x512x128.size (by decide)).toLoadRect (harg4.unread x1))
      (arg5.view.readAt (Elt F) (Rect.unit (s := S1x4x128x16384) (k0_off22 i) S1x1x128x512.size (k0_off22_inb i)).toLoadRect (harg5.unread x2)),
    k0_pay87 k0_pay72 (arg4.view.readAt (Elt F) (Rect.unit (s := S1x4x512x128) ![0, 2, 0, 0] S1x1x512x128.size (by decide)).toLoadRect (harg4.unread x1))
      (arg5.view.readAt (Elt F) (Rect.unit (s := S1x4x128x16384) (k0_off23 i) S1x1x128x512.size (k0_off23_inb i)).toLoadRect (harg5.unread x2)),
    k0_pay88 k0_pay72 (arg4.view.readAt (Elt F) (Rect.unit (s := S1x4x512x128) ![0, 3, 0, 0] S1x1x512x128.size (by decide)).toLoadRect (harg4.unread x1))
      (arg5.view.readAt (Elt F) (Rect.unit (s := S1x4x128x16384) (k0_off24 i) S1x1x128x512.size (k0_off24_inb i)).toLoadRect (harg5.unread x2))]

/-- The diagonal block's values, as loaded. -/
def valLd (i : grid0.Coords) (arg6 : Memref sig .tc .vmem S1x4x16384x128 .bf16) (harg6 : arg6.IsWhole) (x3 : Vec F S1x4x16384x128 .bf16) : Fin 4 → FVec F S512x128 .bf16 := ![k0_pay89 (arg6.view.readAt (Elt F) (Rect.unit (s := S1x4x16384x128) (k0_off25 i) S1x1x512x128.size (k0_off25_inb i)).toLoadRect (harg6.unread x3)),
    k0_pay90 (arg6.view.readAt (Elt F) (Rect.unit (s := S1x4x16384x128) (k0_off26 i) S1x1x512x128.size (k0_off26_inb i)).toLoadRect (harg6.unread x3)),
    k0_pay91 (arg6.view.readAt (Elt F) (Rect.unit (s := S1x4x16384x128) (k0_off27 i) S1x1x512x128.size (k0_off27_inb i)).toLoadRect (harg6.unread x3)),
    k0_pay92 (arg6.view.readAt (Elt F) (Rect.unit (s := S1x4x16384x128) (k0_off28 i) S1x1x512x128.size (k0_off28_inb i)).toLoadRect (harg6.unread x3))]

/-- The diagonal block's scores: a later position is masked. -/
def scoreD (x1 : Vec F S1x4x512x128 .bf16) (x2 : Vec F S1x4x128x16384 .bf16) (J : Fin 32) (e : Fin 4) : FVec F S512x512 .f32 := k0_pay85 k0_pay72 (qRow x1 e) (ktBlk x2 e J)

theorem diag_word (i : grid0.Coords) : (Scalar.muli (BitVec.ofNat 32 (i 2).val) 512#32).toNat = 512 * (i 2).val := by
  have hi : (i 2).val < 32 := (i 2).isLt
  unfold Scalar.muli IntOp.muli
  rw [BitVec.toNat_mul, BitVec.toNat_ofNat, BitVec.toNat_ofNat]
  omega

theorem scoreLd_eq (i : grid0.Coords) (arg4 : Memref sig .tc .vmem S1x4x512x128 .bf16) (harg4 : arg4.IsWhole) (arg5 : Memref sig .tc .vmem S1x4x128x16384 .bf16) (harg5 : arg5.IsWhole)
    (x1 : Vec F S1x4x512x128 .bf16) (x2 : Vec F S1x4x128x16384 .bf16) : scoreLd i arg4 harg4 arg5 harg5 x1 x2 = scoreD x1 x2 (i 2) := by
  funext e
  have q := fun (e : Fin 4) (h) => q_load arg4 harg4 x1 e ![0, e.val, 0, 0] rfl h
  fin_cases e
  · exact congrArg₂ (fun a b => k0_pay85 k0_pay72 a b) (q 0 (by decide)) (kt_load arg5 harg5 x2 0 (i 2) (k0_off21 i) (congrArg (fun n : ℕ => (![0, 0, 0, n] : Fin 4 → ℕ)) (diag_word i)) (k0_off21_inb i))
  · exact congrArg₂ (fun a b => k0_pay85 k0_pay72 a b) (q 1 (by decide)) (kt_load arg5 harg5 x2 1 (i 2) (k0_off22 i) (congrArg (fun n : ℕ => (![0, 1, 0, n] : Fin 4 → ℕ)) (diag_word i)) (k0_off22_inb i))
  · exact congrArg₂ (fun a b => k0_pay85 k0_pay72 a b) (q 2 (by decide)) (kt_load arg5 harg5 x2 2 (i 2) (k0_off23 i) (congrArg (fun n : ℕ => (![0, 2, 0, n] : Fin 4 → ℕ)) (diag_word i)) (k0_off23_inb i))
  · exact congrArg₂ (fun a b => k0_pay85 k0_pay72 a b) (q 3 (by decide)) (kt_load arg5 harg5 x2 3 (i 2) (k0_off24 i) (congrArg (fun n : ℕ => (![0, 3, 0, n] : Fin 4 → ℕ)) (diag_word i)) (k0_off24_inb i))

theorem valLd_eq (i : grid0.Coords) (arg6 : Memref sig .tc .vmem S1x4x16384x128 .bf16) (harg6 : arg6.IsWhole) (x3 : Vec F S1x4x16384x128 .bf16) :
    valLd i arg6 harg6 x3 = valB x3 (i 2) := by
  funext e
  fin_cases e
  · exact congrArg (fun a => k0_pay10 a) (v_load arg6 harg6 x3 0 (i 2) (k0_off25 i) (congrArg (fun n : ℕ => (![0, 0, n, 0] : Fin 4 → ℕ)) (diag_word i)) (k0_off25_inb i))
  · exact congrArg (fun a => k0_pay10 a) (v_load arg6 harg6 x3 1 (i 2) (k0_off26 i) (congrArg (fun n : ℕ => (![0, 1, n, 0] : Fin 4 → ℕ)) (diag_word i)) (k0_off26_inb i))
  · exact congrArg (fun a => k0_pay10 a) (v_load arg6 harg6 x3 2 (i 2) (k0_off27 i) (congrArg (fun n : ℕ => (![0, 2, n, 0] : Fin 4 → ℕ)) (diag_word i)) (k0_off27_inb i))
  · exact congrArg (fun a => k0_pay10 a) (v_load arg6 harg6 x3 3 (i 2) (k0_off28 i) (congrArg (fun n : ℕ => (![0, 3, n, 0] : Fin 4 → ℕ)) (diag_word i)) (k0_off28_inb i))

/-- The loop's writes, from the buffers as first filled. -/
def loopL (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (x0f : Elt F .f32) (x1 : Vec F S1x4x512x128 .bf16) (x2 : Vec F S1x4x128x16384 .bf16) (x3 : Vec F S1x4x16384x128 .bf16)
    (Rw : Fin 4 → Vec F S1x1x16384 .f32) (Wn : Fin 4 → Vec F S1x1x128 .f32) : List (View.Piece (Elt F) S4x512x128 .f32) × List (View.Piece (Elt F) S4x512x128 .f32) :=
  pb_k0_t1 (F := F) Variants.none c none i arg3 harg3 arg4 harg4 arg5 harg5 arg6 harg6 arg7 harg7 arg8 harg8 arg9 harg9 arg10 harg10 (BitVec.ofNat 32 (i 2).val) k0_pay72
    (wordOf x0f Rw Wn i 0) (wordOf x0f Rw Wn i 1) (wordOf x0f Rw Wn i 2) (Scalar.minsi (Scalar.minsi (wordOf x0f Rw Wn i 0) (wordOf x0f Rw Wn i 1)) (wordOf x0f Rw Wn i 2))
    (k0_pay79 (k0_pay74 i) (Wn 3) (Rw 3) x0f) (wordOf x0f Rw Wn i 3) (chk_of_small i _ _ _ _ (small_words x0f Rw Wn i))
    (Scalar.minsi (Scalar.minsi (Scalar.minsi (wordOf x0f Rw Wn i 0) (wordOf x0f Rw Wn i 1)) (wordOf x0f Rw Wn i 2)) (wordOf x0f Rw Wn i 3))
    (harg4.unread x1) (harg5.unread x2) (harg6.unread x3)
    (arg8.view.writes (Elt F) arg8.view.junk [⟨Rect.unit (s := S4x512x128) ![0, 0, 0] S4x512x128.size (by decide), k0_pay70⟩])
    (arg9.view.writes (Elt F) arg9.view.junk [⟨Rect.unit (s := S4x512x128) ![0, 0, 0] S4x512x128.size (by decide), k0_pay71⟩])
    (k0_t1_loop i (wordOf x0f Rw Wn i 0) (wordOf x0f Rw Wn i 1) (wordOf x0f Rw Wn i 2) (wordOf x0f Rw Wn i 3)).trips

/-- The sums' buffer's writes by the end. -/
def sumsL (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (x0f : Elt F .f32) (x1 : Vec F S1x4x512x128 .bf16) (x2 : Vec F S1x4x128x16384 .bf16) (x3 : Vec F S1x4x16384x128 .bf16)
    (Rw : Fin 4 → Vec F S1x1x16384 .f32) (Wn : Fin 4 → Vec F S1x1x128 .f32) : List (View.Piece (Elt F) S4x512x128 .f32) :=
  dl9_4 arg8.view arg9.view (scoreLd i arg4 harg4 arg5 harg5 x1 x2) (valLd i arg6 harg6 x3)
    ((loopL c i arg3 harg3 arg4 harg4 arg5 harg5 arg6 harg6 arg7 harg7 arg8 harg8 arg9 harg9 arg10 harg10 x0f x1 x2 x3 Rw Wn).1 ++ [⟨Rect.unit (s := S4x512x128) ![0, 0, 0] S4x512x128.size (by decide), k0_pay70⟩])
    ((loopL c i arg3 harg3 arg4 harg4 arg5 harg5 arg6 harg6 arg7 harg7 arg8 harg8 arg9 harg9 arg10 harg10 x0f x1 x2 x3 Rw Wn).2 ++ [⟨Rect.unit (s := S4x512x128) ![0, 0, 0] S4x512x128.size (by decide), k0_pay71⟩])

/-- The output block's writes. -/
def outL (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (x0f : Elt F .f32) (x1 : Vec F S1x4x512x128 .bf16) (x2 : Vec F S1x4x128x16384 .bf16) (x3 : Vec F S1x4x16384x128 .bf16)
    (Rw : Fin 4 → Vec F S1x1x16384 .f32) (Wn : Fin 4 → Vec F S1x1x128 .f32) : List (View.Piece (Elt F) S1x512x256 .bf16) :=
  [⟨Rect.unit (s := S1x512x256) ![0, 0, 128] S1x512x128.size (by decide), k0_pay123 (iota .tc S512x128 32 [1] iota_S512x128_d1_w32)
      (arg9.view.readCov (sumsL c i arg3 harg3 arg4 harg4 arg5 harg5 arg6 harg6 arg7 harg7 arg8 harg8 arg9 harg9 arg10 harg10 x0f x1 x2 x3 Rw Wn) (Rect.unit (s := S4x512x128) ![2, 0, 0] S1x512x128.size (by decide)).toLoadRect) (arg9.view.readCov (sumsL c i arg3 harg3 arg4 harg4 arg5 harg5 arg6 harg6 arg7 harg7 arg8 harg8 arg9 harg9 arg10 harg10 x0f x1 x2 x3 Rw Wn) (Rect.unit (s := S4x512x128) ![3, 0, 0] S1x512x128.size (by decide)).toLoadRect)⟩,
   ⟨Rect.unit (s := S1x512x256) ![0, 0, 0] S1x512x128.size (by decide), k0_pay122 (iota .tc S512x128 32 [1] iota_S512x128_d1_w32)
      (arg9.view.readCov (sumsL c i arg3 harg3 arg4 harg4 arg5 harg5 arg6 harg6 arg7 harg7 arg8 harg8 arg9 harg9 arg10 harg10 x0f x1 x2 x3 Rw Wn) (Rect.unit (s := S4x512x128) ![0, 0, 0] S1x512x128.size (by decide)).toLoadRect) (arg9.view.readCov (sumsL c i arg3 harg3 arg4 harg4 arg5 harg5 arg6 harg6 arg7 harg7 arg8 harg8 arg9 harg9 arg10 harg10 x0f x1 x2 x3 Rw Wn) (Rect.unit (s := S4x512x128) ![1, 0, 0] S1x512x128.size (by decide)).toLoadRect)⟩]

/-- The sums at the end. -/
def sumsAt (x1 : Vec F S1x4x512x128 .bf16) (x2 : Vec F S1x4x128x16384 .bf16) (x3 : Vec F S1x4x16384x128 .bf16) (b : ℕ) (i : Fin 32) : S4x512x128.Idx → Elt F .f32 :=
  stepA (scoreD x1 x2 i) (valB x3 i) (stateAt x1 x2 x3 b (i.val - b)).1 (stateAt x1 x2 x3 b (i.val - b)).2

/-- The output's block from the sums: two heads to each half. -/
def outBlk (A : S4x512x128.Idx → Elt F .f32) : S1x512x256.Idx → Elt F .bf16 := fun j =>
  if h : (j 2).val < 128 then k0_pay122 (iota .tc S512x128 32 [1] iota_S512x128_d1_w32) (rowAt A 0) (rowAt A 1) (ix3 (0 : Fin 1) (j 1 : Fin 512) (⟨(j 2).val, h⟩ : Fin 128))
  else k0_pay123 (iota .tc S512x128 32 [1] iota_S512x128_d1_w32) (rowAt A 2) (rowAt A 3)
    (ix3 (0 : Fin 1) (j 1 : Fin 512) (⟨(j 2).val - 128, by have : (j 2).val < 256 := (j 2).isLt; omega⟩ : Fin 128))

theorem read_fill (v : View sig .tc .vmem S4x512x128 .f32) (f : v.ty.Contents (Elt F)) (w : S4x512x128.Idx → Elt F .f32)
    (h : ∀ a, (![0, 0, 0] : Fin 3 → ℕ) a + S4x512x128.size a ≤ S4x512x128.size a) :
    v.read (Elt F) (v.writes (Elt F) f [⟨Rect.unit (s := S4x512x128) ![0, 0, 0] S4x512x128.size h, w⟩]) = w := by
  funext j
  refine View.read_writes_cons_unit_of_mem v f h w [] j j rfl fun a => ?_
  fin_cases a
  · exact (Nat.zero_add _).symm
  · exact (Nat.zero_add _).symm
  · exact (Nat.zero_add _).symm

theorem sums_read (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (x0f : Elt F .f32) (x1 : Vec F S1x4x512x128 .bf16) (x2 : Vec F S1x4x128x16384 .bf16) (x3 : Vec F S1x4x16384x128 .bf16)
    (Rw : Fin 4 → Vec F S1x1x16384 .f32) (Wn : Fin 4 → Vec F S1x1x128 .f32) :
    arg9.view.read (Elt F) (arg9.view.writes (Elt F) arg9.view.junk (sumsL c i arg3 harg3 arg4 harg4 arg5 harg5 arg6 harg6 arg7 harg7 arg8 harg8 arg9 harg9 arg10 harg10 x0f x1 x2 x3 Rw Wn)) = sumsAt x1 x2 x3 (firstOf x0f Rw Wn i) (i 2) := by
  have hsm := small_words x0f Rw Wn i
  have ht := trips_eq i _ _ _ _ hsm
  unfold sumsL
  rw [dl9_read, scoreLd_eq, valLd_eq, View.writes_append, View.writes_append]
  unfold loopL
  have hl := loop_read c none i arg3 harg3 arg4 harg4 arg5 harg5 arg6 harg6 arg7 harg7 arg8 harg8 arg9 harg9 arg10 harg10 (BitVec.ofNat 32 (i 2).val) k0_pay72
    (wordOf x0f Rw Wn i 0) (wordOf x0f Rw Wn i 1) (wordOf x0f Rw Wn i 2) (Scalar.minsi (Scalar.minsi (wordOf x0f Rw Wn i 0) (wordOf x0f Rw Wn i 1)) (wordOf x0f Rw Wn i 2))
    (k0_pay79 (k0_pay74 i) (Wn 3) (Rw 3) x0f) (wordOf x0f Rw Wn i 3) (chk_of_small i _ _ _ _ (small_words x0f Rw Wn i))
    (Scalar.minsi (Scalar.minsi (Scalar.minsi (wordOf x0f Rw Wn i 0) (wordOf x0f Rw Wn i 1)) (wordOf x0f Rw Wn i 2)) (wordOf x0f Rw Wn i 3))
    x1 x2 x3 hsm _ _ (read_fill arg8.view arg8.view.junk k0_pay70 (by decide)) (read_fill arg9.view arg9.view.junk k0_pay71 (by decide)) _ le_rfl
  rw [hl.1, hl.2, ht]
  rfl

theorem out_read (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (x0f : Elt F .f32) (x1 : Vec F S1x4x512x128 .bf16) (x2 : Vec F S1x4x128x16384 .bf16) (x3 : Vec F S1x4x16384x128 .bf16)
    (Rw : Fin 4 → Vec F S1x1x16384 .f32) (Wn : Fin 4 → Vec F S1x1x128 .f32) (v : View sig .tc .vmem S1x512x256 .bf16) (f : v.ty.Contents (Elt F)) :
    v.read (Elt F) (v.writes (Elt F) f (outL c i arg3 harg3 arg4 harg4 arg5 harg5 arg6 harg6 arg7 harg7 arg8 harg8 arg9 harg9 arg10 harg10 x0f x1 x2 x3 Rw Wn)) = outBlk (sumsAt x1 x2 x3 (firstOf x0f Rw Wn i) (i 2)) := by
  have c9 : ∀ (e : Fin 4) (h), arg9.view.readCov (sumsL c i arg3 harg3 arg4 harg4 arg5 harg5 arg6 harg6 arg7 harg7 arg8 harg8 arg9 harg9 arg10 harg10 x0f x1 x2 x3 Rw Wn) (Rect.unit (s := S4x512x128) ![e.val, 0, 0] S1x512x128.size h).toLoadRect
      = rowAt (sumsAt x1 x2 x3 (firstOf x0f Rw Wn i) (i 2)) e := fun e h =>
    (readAt_row arg9.view _ e.val e.isLt h).trans (congrArg (fun A => rowAt A e) (sums_read c i arg3 harg3 arg4 harg4 arg5 harg5 arg6 harg6 arg7 harg7 arg8 harg8 arg9 harg9 arg10 harg10 x0f x1 x2 x3 Rw Wn))
  have d0 := c9 0 (by decide); have d1 := c9 1 (by decide); have d2 := c9 2 (by decide); have d3 := c9 3 (by decide)
  funext j
  have hj : (j 2).val < 256 := (j 2).isLt
  have h0 : (j 0).val = 0 := by have : (j 0).val < 1 := (j 0).isLt; omega
  unfold outL outBlk
  split
  · rename_i h
    rw [View.read_writes_cons_unit_of_not_mem v f _ _ _ j rfl 2 (Or.inl h)]
    refine (View.read_writes_cons_unit_of_mem v f _ _ _ j (ix3 (0 : Fin 1) (j 1 : Fin 512) (⟨(j 2).val, h⟩ : Fin 128)) rfl fun a => ?_).trans ?_
    · fin_cases a
      · exact h0
      · exact (Nat.zero_add _).symm
      · exact (Nat.zero_add _).symm
    · exact congrArg₂ (fun a b => k0_pay122 (iota .tc S512x128 32 [1] iota_S512x128_d1_w32) a b (ix3 (0 : Fin 1) (j 1 : Fin 512) (⟨(j 2).val, h⟩ : Fin 128))) d0 d1
  · rename_i h
    refine (View.read_writes_cons_unit_of_mem v f _ _ _ j (ix3 (0 : Fin 1) (j 1 : Fin 512) (⟨(j 2).val - 128, by omega⟩ : Fin 128)) rfl fun a => ?_).trans ?_
    · fin_cases a
      · exact h0
      · exact (Nat.zero_add _).symm
      · show (j 2).val = 128 + ((j 2).val - 128); omega
    · exact congrArg₂ (fun a b => k0_pay123 (iota .tc S512x128 32 [1] iota_S512x128_d1_w32) a b (ix3 (0 : Fin 1) (j 1 : Fin 512) (⟨(j 2).val - 128, by omega⟩ : Fin 128))) d2 d3

set_option maxHeartbeats 4000000 in
theorem pieces_A (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : cond0_0 i) (x0 : Vec F S1 .f32) (x1 : Vec F S1x4x512x128 .bf16) (x2 : Vec F S1x4x128x16384 .bf16) (x3 : Vec F S1x4x16384x128 .bf16) :
    (kernelRun0_A c i arg3 harg3 arg4 harg4 arg5 harg5 arg6 harg6 arg7 harg7 arg8 harg8 arg9 harg9 arg10 harg10 hc0 x0 x1 x2 x3).1.1
      = outL c i arg3 harg3 arg4 harg4 arg5 harg5 arg6 harg6 arg7 harg7 arg8 harg8 arg9 harg9 arg10 harg10 (x0 (Shape.Idx.first (by decide))) x1 x2 x3
          ![arg10.view.readCov (kernelRun0_A c i arg3 harg3 arg4 harg4 arg5 harg5 arg6 harg6 arg7 harg7 arg8 harg8 arg9 harg9 arg10 harg10 hc0 x0 x1 x2 x3).1.2 (Rect.unit (s := S4x1x16384) ![0, 0, 0] S1x1x16384.size (by decide)).toLoadRect,
            arg10.view.readCov (kernelRun0_A c i arg3 harg3 arg4 harg4 arg5 harg5 arg6 harg6 arg7 harg7 arg8 harg8 arg9 harg9 arg10 harg10 hc0 x0 x1 x2 x3).1.2 (Rect.unit (s := S4x1x16384) ![1, 0, 0] S1x1x16384.size (by decide)).toLoadRect,
            arg10.view.readCov (kernelRun0_A c i arg3 harg3 arg4 harg4 arg5 harg5 arg6 harg6 arg7 harg7 arg8 harg8 arg9 harg9 arg10 harg10 hc0 x0 x1 x2 x3).1.2 (Rect.unit (s := S4x1x16384) ![2, 0, 0] S1x1x16384.size (by decide)).toLoadRect,
            arg10.view.readCov (kernelRun0_A c i arg3 harg3 arg4 harg4 arg5 harg5 arg6 harg6 arg7 harg7 arg8 harg8 arg9 harg9 arg10 harg10 hc0 x0 x1 x2 x3).1.2 (Rect.unit (s := S4x1x16384) ![3, 0, 0] S1x1x16384.size (by decide)).toLoadRect] ![arg10.view.readCov (kernelRun0_A c i arg3 harg3 arg4 harg4 arg5 harg5 arg6 harg6 arg7 harg7 arg8 harg8 arg9 harg9 arg10 harg10 hc0 x0 x1 x2 x3).1.2 (Rect.unit (s := S4x1x16384) (k0_off1 i) S1x1x128.size (k0_off1_inb i)).toLoadRect,
            arg10.view.readCov (kernelRun0_A c i arg3 harg3 arg4 harg4 arg5 harg5 arg6 harg6 arg7 harg7 arg8 harg8 arg9 harg9 arg10 harg10 hc0 x0 x1 x2 x3).1.2 (Rect.unit (s := S4x1x16384) (k0_off2 i) S1x1x128.size (k0_off2_inb i)).toLoadRect,
            arg10.view.readCov (kernelRun0_A c i arg3 harg3 arg4 harg4 arg5 harg5 arg6 harg6 arg7 harg7 arg8 harg8 arg9 harg9 arg10 harg10 hc0 x0 x1 x2 x3).1.2 (Rect.unit (s := S4x1x16384) (k0_off3 i) S1x1x128.size (k0_off3_inb i)).toLoadRect,
            arg10.view.readCov (kernelRun0_A c i arg3 harg3 arg4 harg4 arg5 harg5 arg6 harg6 arg7 harg7 arg8 harg8 arg9 harg9 arg10 harg10 hc0 x0 x1 x2 x3).1.2 (Rect.unit (s := S4x1x16384) (k0_off4 i) S1x1x128.size (k0_off4_inb i)).toLoadRect] := by
  have e : (arg3.view.readAt (Elt F) (Rect.unit (s := S1) ![0] S1.size (by decide)).toLoadRect (harg3.unread x0)) (Shape.Idx.first (by decide)) = x0 (Shape.Idx.first (by decide)) := by
    show arg3.view.read (Elt F) (harg3.unread x0) _ = _
    rw [harg3.read_unread]
    exact congrArg x0 (funext fun a => Fin.ext (by fin_cases a; rfl))
  rw [← e]
  rfl

set_option maxHeartbeats 4000000 in
theorem pieces_B (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : ¬cond0_0 i) (x0 : Vec F S1 .f32) (x1 : Vec F S1x4x512x128 .bf16) (x2 : Vec F S1x4x128x16384 .bf16) (x3 : Vec F S1x4x16384x128 .bf16) (x4 : Vec F S4x1x16384 .f32) :
    (kernelRun0_B c i arg3 harg3 arg4 harg4 arg5 harg5 arg6 harg6 arg7 harg7 arg8 harg8 arg9 harg9 arg10 harg10 hc0 x0 x1 x2 x3 x4).1
      = outL c i arg3 harg3 arg4 harg4 arg5 harg5 arg6 harg6 arg7 harg7 arg8 harg8 arg9 harg9 arg10 harg10 (x0 (Shape.Idx.first (by decide))) x1 x2 x3
          ![arg10.view.readAt (Elt F) (Rect.unit (s := S4x1x16384) ![0, 0, 0] S1x1x16384.size (by decide)).toLoadRect (harg10.unread x4),
            arg10.view.readAt (Elt F) (Rect.unit (s := S4x1x16384) ![1, 0, 0] S1x1x16384.size (by decide)).toLoadRect (harg10.unread x4),
            arg10.view.readAt (Elt F) (Rect.unit (s := S4x1x16384) ![2, 0, 0] S1x1x16384.size (by decide)).toLoadRect (harg10.unread x4),
            arg10.view.readAt (Elt F) (Rect.unit (s := S4x1x16384) ![3, 0, 0] S1x1x16384.size (by decide)).toLoadRect (harg10.unread x4)] ![arg10.view.readAt (Elt F) (Rect.unit (s := S4x1x16384) (k0_off1 i) S1x1x128.size (k0_off1_inb i)).toLoadRect (harg10.unread x4),
            arg10.view.readAt (Elt F) (Rect.unit (s := S4x1x16384) (k0_off2 i) S1x1x128.size (k0_off2_inb i)).toLoadRect (harg10.unread x4),
            arg10.view.readAt (Elt F) (Rect.unit (s := S4x1x16384) (k0_off3 i) S1x1x128.size (k0_off3_inb i)).toLoadRect (harg10.unread x4),
            arg10.view.readAt (Elt F) (Rect.unit (s := S4x1x16384) (k0_off4 i) S1x1x128.size (k0_off4_inb i)).toLoadRect (harg10.unread x4)] := by
  have e : (arg3.view.readAt (Elt F) (Rect.unit (s := S1) ![0] S1.size (by decide)).toLoadRect (harg3.unread x0)) (Shape.Idx.first (by decide)) = x0 (Shape.Idx.first (by decide)) := by
    show arg3.view.read (Elt F) (harg3.unread x0) _ = _
    rw [harg3.read_unread]
    exact congrArg x0 (funext fun a => Fin.ext (by fin_cases a; rfl))
  rw [← e]
  rfl

end Cert.KernelIdeal.Fox

end
-- ==== Proof.FoxOuts.lean ====
/-
  What each grid point leaves in the output's block, from its input blocks.
-/
module

public import proofs.«01_k».proof.Proof.FoxDiag
public import proofs.«01_k».proof.Proof.FoxFrame

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- One head's key row. -/
def keyRow (x2 : Vec F S1x4x128x16384 .bf16) (e : Fin 4) : Vec F S1x1x16384 .f32 := fun y => ckeyOf x2 (ix3 e (0 : Fin 1) (y 2 : Fin 16384))

/-- One head's keys from a query block's start on. -/
def keyWin (x2 : Vec F S1x4x128x16384 .bf16) (i : Fin 32) (e : Fin 4) : Vec F S1x1x128 .f32 := fun y =>
  ckeyOf x2 (ix3 e (0 : Fin 1) (⟨512 * i.val + (y 2).val, by have : (y 2).val < 128 := (y 2).isLt; have := i.isLt; omega⟩ : Fin 16384))

theorem row_key (v : View sig .tc .vmem S4x1x16384 .f32) (f : v.ty.Contents (Elt F)) (x2 : Vec F S1x4x128x16384 .bf16) (hf : v.read (Elt F) f = ckeyOf x2) (e : Fin 4)
    (h : ∀ a, (![e.val, 0, 0] : Fin 3 → ℕ) a + S1x1x16384.size a ≤ S4x1x16384.size a) :
    v.readAt (Elt F) (Rect.unit (s := S4x1x16384) ![e.val, 0, 0] S1x1x16384.size h).toLoadRect f = keyRow x2 e := by
  funext y
  show v.read (Elt F) f _ = _
  rw [hf]
  refine congrArg (ckeyOf x2) (funext fun a => Fin.ext ?_)
  have h0 : (y 0).val = 0 := by have : (y 0).val < 1 := (y 0).isLt; omega
  have h1 : (y 1).val = 0 := by have : (y 1).val < 1 := (y 1).isLt; omega
  fin_cases a
  · show e.val + 1 * (y 0).val = e.val; omega
  · show 0 + 1 * (y 1).val = 0; omega
  · show 0 + 1 * (y 2).val = (y 2).val; omega

theorem win_key (v : View sig .tc .vmem S4x1x16384 .f32) (f : v.ty.Contents (Elt F)) (x2 : Vec F S1x4x128x16384 .bf16) (hf : v.read (Elt F) f = ckeyOf x2) (e : Fin 4) (i : Fin 32)
    (off : Fin 3 → ℕ) (hoff : off = ![e.val, 0, 512 * i.val]) (h : ∀ a, off a + S1x1x128.size a ≤ S4x1x16384.size a) :
    v.readAt (Elt F) (Rect.unit (s := S4x1x16384) off S1x1x128.size h).toLoadRect f = keyWin x2 i e := by
  subst hoff
  funext y
  show v.read (Elt F) f _ = _
  rw [hf]
  refine congrArg (ckeyOf x2) (funext fun a => Fin.ext ?_)
  have h0 : (y 0).val = 0 := by have : (y 0).val < 1 := (y 0).isLt; omega
  have h1 : (y 1).val = 0 := by have : (y 1).val < 1 := (y 1).isLt; omega
  fin_cases a
  · show e.val + 1 * (y 0).val = e.val; omega
  · show 0 + 1 * (y 1).val = 0; omega
  · show 512 * i.val + 1 * (y 2).val = 512 * i.val + (y 2).val; omega

theorem rows_key (v : View sig .tc .vmem S4x1x16384 .f32) (f : v.ty.Contents (Elt F)) (x2 : Vec F S1x4x128x16384 .bf16) (hf : v.read (Elt F) f = ckeyOf x2) :
    (![v.readAt (Elt F) (Rect.unit (s := S4x1x16384) ![0, 0, 0] S1x1x16384.size (by decide)).toLoadRect f,
      v.readAt (Elt F) (Rect.unit (s := S4x1x16384) ![1, 0, 0] S1x1x16384.size (by decide)).toLoadRect f,
      v.readAt (Elt F) (Rect.unit (s := S4x1x16384) ![2, 0, 0] S1x1x16384.size (by decide)).toLoadRect f,
      v.readAt (Elt F) (Rect.unit (s := S4x1x16384) ![3, 0, 0] S1x1x16384.size (by decide)).toLoadRect f] : Fin 4 → Vec F S1x1x16384 .f32) = keyRow x2 := by
  funext e
  fin_cases e
  · exact row_key v f x2 hf 0 (by decide)
  · exact row_key v f x2 hf 1 (by decide)
  · exact row_key v f x2 hf 2 (by decide)
  · exact row_key v f x2 hf 3 (by decide)

theorem wins_key (i : grid0.Coords) (v : View sig .tc .vmem S4x1x16384 .f32) (f : v.ty.Contents (Elt F)) (x2 : Vec F S1x4x128x16384 .bf16) (hf : v.read (Elt F) f = ckeyOf x2) :
    (![v.readAt (Elt F) (Rect.unit (s := S4x1x16384) (k0_off1 i) S1x1x128.size (k0_off1_inb i)).toLoadRect f,
      v.readAt (Elt F) (Rect.unit (s := S4x1x16384) (k0_off2 i) S1x1x128.size (k0_off2_inb i)).toLoadRect f,
      v.readAt (Elt F) (Rect.unit (s := S4x1x16384) (k0_off3 i) S1x1x128.size (k0_off3_inb i)).toLoadRect f,
      v.readAt (Elt F) (Rect.unit (s := S4x1x16384) (k0_off4 i) S1x1x128.size (k0_off4_inb i)).toLoadRect f] : Fin 4 → Vec F S1x1x128 .f32) = keyWin x2 (i 2) := by
  funext e
  fin_cases e
  · exact win_key v f x2 hf 0 (i 2) (k0_off1 i) (congrArg (fun n : ℕ => (![0, 0, n] : Fin 3 → ℕ)) (diag_word i)) (k0_off1_inb i)
  · exact win_key v f x2 hf 1 (i 2) (k0_off2 i) (congrArg (fun n : ℕ => (![1, 0, n] : Fin 3 → ℕ)) (diag_word i)) (k0_off2_inb i)
  · exact win_key v f x2 hf 2 (i 2) (k0_off3 i) (congrArg (fun n : ℕ => (![2, 0, n] : Fin 3 → ℕ)) (diag_word i)) (k0_off3_inb i)
  · exact win_key v f x2 hf 3 (i 2) (k0_off4 i) (congrArg (fun n : ℕ => (![3, 0, n] : Fin 3 → ℕ)) (diag_word i)) (k0_off4_inb i)

/-- A point's output block. -/
def blockOut (x0 : Vec F S1 .f32) (x1 : Vec F S1x4x512x128 .bf16) (x2 : Vec F S1x4x128x16384 .bf16) (x3 : Vec F S1x4x16384x128 .bf16) (i : grid0.Coords) : S1x512x256.Idx → Elt F .bf16 :=
  outBlk (sumsAt x1 x2 x3 (firstOf (x0 (Shape.Idx.first (by decide))) (keyRow x2) (keyWin x2 (i 2)) i) (i 2))

theorem out_A (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : cond0_0 i)
    (x0 : Vec F S1 .f32) (x1 : Vec F S1x4x512x128 .bf16) (x2 : Vec F S1x4x128x16384 .bf16) (x3 : Vec F S1x4x16384x128 .bf16) :
    out0_A_4 c i arg3 harg3 arg4 harg4 arg5 harg5 arg6 harg6 arg7 harg7 arg8 harg8 arg9 harg9 arg10 harg10 hc0 x0 x1 x2 x3 = blockOut x0 x1 x2 x3 i := by
  refine (congrArg (fun L => VO0_4.read (Elt F) (VO0_4.writes (Elt F) VO0_4.junk L)) (pieces_A c i arg3 harg3 arg4 harg4 arg5 harg5 arg6 harg6 arg7 harg7 arg8 harg8 arg9 harg9 arg10 harg10 hc0 x0 x1 x2 x3)).trans ?_
  refine (out_read c i arg3 harg3 arg4 harg4 arg5 harg5 arg6 harg6 arg7 harg7 arg8 harg8 arg9 harg9 arg10 harg10 _ x1 x2 x3 _ _ VO0_4 VO0_4.junk).trans ?_
  exact congrArg₂ (fun R W => outBlk (sumsAt x1 x2 x3 (firstOf (x0 (Shape.Idx.first (by decide))) R W i) (i 2)))
    (rows_key arg10.view _ x2 (ckeys_A c i arg3 harg3 arg4 harg4 arg5 harg5 arg6 harg6 arg7 harg7 arg8 harg8 arg9 harg9 arg10 harg10 hc0 x0 x1 x2 x3 arg10.view arg10.view.junk)) (wins_key i arg10.view _ x2 (ckeys_A c i arg3 harg3 arg4 harg4 arg5 harg5 arg6 harg6 arg7 harg7 arg8 harg8 arg9 harg9 arg10 harg10 hc0 x0 x1 x2 x3 arg10.view arg10.view.junk))

theorem out_B (c : Dev nD) (i : grid0.Coords) (arg3 : Memref sig .tc .smem S1 .f32) (harg3 : arg3.IsWhole) (arg4 : Memref sig .tc .vmem S1x4x512x128 .bf16) (harg4 : arg4.IsWhole) (arg5 : Memref sig .tc .vmem S1x4x128x16384 .bf16) (harg5 : arg5.IsWhole) (arg6 : Memref sig .tc .vmem S1x4x16384x128 .bf16) (harg6 : arg6.IsWhole) (arg7 : Memref sig .tc .vmem S1x512x256 .bf16) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x16384 .f32) (harg10 : arg10.IsWhole) (hc0 : ¬cond0_0 i)
    (x0 : Vec F S1 .f32) (x1 : Vec F S1x4x512x128 .bf16) (x2 : Vec F S1x4x128x16384 .bf16) (x3 : Vec F S1x4x16384x128 .bf16) :
    out0_B_4 c i arg3 harg3 arg4 harg4 arg5 harg5 arg6 harg6 arg7 harg7 arg8 harg8 arg9 harg9 arg10 harg10 hc0 x0 x1 x2 x3 (ckeyOf x2) = blockOut x0 x1 x2 x3 i := by
  refine (congrArg (fun L => VO0_4.read (Elt F) (VO0_4.writes (Elt F) VO0_4.junk L)) (pieces_B c i arg3 harg3 arg4 harg4 arg5 harg5 arg6 harg6 arg7 harg7 arg8 harg8 arg9 harg9 arg10 harg10 hc0 x0 x1 x2 x3 (ckeyOf x2))).trans ?_
  refine (out_read c i arg3 harg3 arg4 harg4 arg5 harg5 arg6 harg6 arg7 harg7 arg8 harg8 arg9 harg9 arg10 harg10 _ x1 x2 x3 _ _ VO0_4 VO0_4.junk).trans ?_
  exact congrArg₂ (fun R W => outBlk (sumsAt x1 x2 x3 (firstOf (x0 (Shape.Idx.first (by decide))) R W i) (i 2)))
    (rows_key arg10.view _ x2 (harg10.read_unread (ckeyOf x2))) (wins_key i arg10.view _ x2 (harg10.read_unread (ckeyOf x2)))

/-- What a grid point leaves in the output's block. -/
theorem outs_eq (m : (ℓ : Loc nD τ sig) → Buf (Elt F) ℓ) (c : Dev nD) (t : Fin cfg0.N) :
    outsAt0 m c t = blockOut (iblk m c 0 t) (iblk m c 1 t) (iblk m c 2 t) (iblk m c 3 t) (grid0.coords t) := by
  by_cases h0 : t.val % 32 = 0
  · rw [outsAt0_A m c t h0]
    exact out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)
  · rw [outsAt0_B m c t h0]
    exact out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t)

end Cert.KernelIdeal.Fox

end
-- ==== Proof.FoxForm.lean ====
/-
  The forgetting attention's result at one entry, in the form both programs' results are brought to.
-/
module

public import Idealize.ShloMosaic.Lib.Pointwise

@[expose] public section

noncomputable section

namespace Cert.Form

open Idealize.ShloMosaic

variable (x0 : EReal) (q : Fin 2 → Fin 8 → Fin 16384 → Fin 128 → EReal) (kt : Fin 2 → Fin 8 → Fin 128 → Fin 16384 → EReal)
  (v : Fin 2 → Fin 8 → Fin 16384 → Fin 128 → EReal)

/-- The sums against the maximum of a set. -/
def accOn {ι : Type} (T : Finset ι) (ℓ V : ι → EReal) (M : EReal) : EReal := ∑ s ∈ T, Ideal.exp2 (ℓ s - M) * V s

/-- A key's gate sum, from three rows of the packed keys. -/
def ck (b : Fin 2) (h : Fin 8) (s : Fin 16384) : EReal := -(kt b h 67 s + kt b h 68 s + kt b h 69 s)

/-- Key block `n` lies wholly under the bound for query block `i`, for one head. -/
def deadBit (b : Fin 2) (h : Fin 8) (i n : Fin 32) : BitVec 1 :=
  FloatOps.cmpf (F := Ideal) (φ := .f32) .ogt (ck kt b h (⟨512 * n.val + 511, by omega⟩ : Fin 16384) - ck kt b h (⟨512 * i.val, by omega⟩ : Fin 16384))
    (Ideal.ofBits .f32 0x40000000#32 * x0 + Ideal.ofBits .f32 0x43200000#32)

/-- How many earlier key blocks do. -/
def nDead (b : Fin 2) (h : Fin 8) (i : Fin 32) : ℕ := ∑ n : Fin 32, if n.val < i.val ∧ deadBit x0 kt b h i n = 1#1 then 1 else 0

/-- A group's head. -/
def hd (g : Fin 2) (e : Fin 4) : Fin 8 := ⟨4 * g.val + e.val, by omega⟩

/-- The first key block a group of four heads attends to. -/
def firstN (b : Fin 2) (g : Fin 2) (i : Fin 32) : ℕ :=
  min (min (min (nDead x0 kt b (hd g 0) i) (nDead x0 kt b (hd g 1) i)) (nDead x0 kt b (hd g 2) i)) (nDead x0 kt b (hd g 3) i)

/-- A query's logit at one key. -/
def logit (b : Fin 2) (h : Fin 8) (t s : Fin 16384) : EReal :=
  if s.val ≤ t.val ∧ 512 * firstN x0 kt b (⟨h.val / 4, by omega⟩ : Fin 2) (⟨t.val / 512, by omega⟩ : Fin 32) ≤ s.val then ∑ k : Fin 128, q b h t k * kt b h k s else ⊥

/-- The weighted sums. -/
def acc (b : Fin 2) (h : Fin 8) (t : Fin 16384) (d : Fin 128) : EReal :=
  accOn Finset.univ (logit x0 q kt b h t) (fun s => v b h s d) (Finset.univ.sup (logit x0 q kt b h t))

/-- The result. -/
def out (b : Fin 2) (t : Fin 16384) (c : Fin 512) : EReal :=
  Ideal.div (acc x0 q kt v b (⟨c.val / 64, by omega⟩ : Fin 8) t (⟨c.val % 64, by omega⟩ : Fin 128)) (acc x0 q kt v b (⟨c.val / 64, by omega⟩ : Fin 8) t (⟨64 + c.val % 64, by omega⟩ : Fin 128))

/-! ## Words, constants, folds -/

theorem ofBits_neg_inf : Ideal.ofBits .f32 0xFF800000#32 = (⊥ : EReal) := by simp [Ideal.ofBits, Ideal.ieee]

theorem fold_max_eq_sup {n : ℕ} (f : Fin n → EReal) : Finset.univ.fold max (⊥ : EReal) f = Finset.univ.sup f := rfl

theorem word_le (a b : ℕ) (ha : a < 2 ^ 31) (hb : b < 2 ^ 31) : IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_cond, BitVec.toInt_eq_toNat_cond, BitVec.toNat_ofNat, BitVec.toNat_ofNat, Nat.mod_eq_of_lt (by omega), Nat.mod_eq_of_lt (by omega), if_pos (by omega), if_pos (by omega)]
    exact decide_eq_decide.mpr (by omega)
  show BitVec.ofBool ((BitVec.ofNat 32 a).sle (BitVec.ofNat 32 b)) = _
  rw [h]; by_cases g : a ≤ b <;> simp [g]

theorem word_lt (a b : ℕ) (ha : a < 2 ^ 31) (hb : b < 2 ^ 31) : IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, BitVec.toInt_eq_toNat_cond, BitVec.toInt_eq_toNat_cond, BitVec.toNat_ofNat, BitVec.toNat_ofNat, Nat.mod_eq_of_lt (by omega), Nat.mod_eq_of_lt (by omega), if_pos (by omega), if_pos (by omega)]
    exact decide_eq_decide.mpr (by omega)
  show BitVec.ofBool ((BitVec.ofNat 32 a).slt (BitVec.ofNat 32 b)) = _
  rw [h]; by_cases g : a < b <;> simp [g]

theorem select_ite {α : Type} (p : Prop) [Decidable p] (x y : α) : Scalar.select (if p then 1#1 else 0#1) x y = if p then x else y := by
  unfold Scalar.select; by_cases g : p <;> simp [g]

theorem word_ge (a b : ℕ) (ha : a < 2 ^ 31) (hb : b < 2 ^ 31) : IntOp.cmpi .sge (BitVec.ofNat 32 a) (BitVec.ofNat 32 b) = if b ≤ a then 1#1 else 0#1 :=
  word_le b a hb ha

theorem word_min (a b : ℕ) (ha : a < 2 ^ 31) (hb : b < 2 ^ 31) : IntOp.minsi (BitVec.ofNat 32 a) (BitVec.ofNat 32 b) = BitVec.ofNat 32 (min a b) := by
  have h : (BitVec.ofNat 32 a).slt (BitVec.ofNat 32 b) = decide (a < b) := by
    rw [BitVec.slt_eq_decide, BitVec.toInt_eq_toNat_cond, BitVec.toInt_eq_toNat_cond, BitVec.toNat_ofNat, BitVec.toNat_ofNat, Nat.mod_eq_of_lt (by omega), Nat.mod_eq_of_lt (by omega), if_pos (by omega), if_pos (by omega)]
    exact decide_eq_decide.mpr (by omega)
  unfold IntOp.minsi
  rw [h]
  by_cases g : a < b
  · simp [g, Nat.min_eq_left g.le]
  · simp [g, Nat.min_eq_right (Nat.not_lt.mp g)]

theorem and_ite (p q : Prop) [Decidable p] [Decidable q] : IntOp.andi (if p then 1#1 else 0#1) (if q then 1#1 else 0#1) = if p ∧ q then 1#1 else 0#1 := by
  by_cases hp : p <;> by_cases hq : q <;> simp [hp, hq, IntOp.andi]

theorem fold_addi {ι : Type} (T : Finset ι) (f : ι → ℕ) : T.fold (IntOp.addi (w := 32)) 0#32 (fun k => BitVec.ofNat 32 (f k)) = BitVec.ofNat 32 (∑ k ∈ T, f k) := by
  classical
  induction T using Finset.induction_on with
  | empty => rfl
  | insert a T ha ih =>
    rw [Finset.fold_insert ha, ih, Finset.sum_insert ha]
    exact (BitVec.ofNat_add _ _).symm

theorem fold_four {α : Type} (op : α → α → α) [Std.Commutative op] [Std.Associative op] (b : α) (f : Fin 4 → α) :
    Finset.univ.fold op b f = op (f 0) (op (f 1) (op (f 2) (op (f 3) b))) := rfl

/-- Two to a power, on the host and in a kernel. -/
theorem pow_two_eq (x : EReal) : Ideal.pow (Ideal.ofBits .f32 0x40000000#32) x = Ideal.exp2 x := by
  have h : Ideal.ofBits .f32 0x40000000#32 = ((2 : ℝ) : EReal) := by
    simp [Ideal.ofBits, Ideal.ieee]
    rw [← EReal.coe_mul]
    norm_num
  rw [h]
  induction x with
  | bot => show (if (2 : ℝ) < 0 then (⊥ : EReal) else if 1 < (2 : ℝ) then 0 else if (2 : ℝ) = 1 then 1 else ⊤) = 0; norm_num
  | top => show (if (2 : ℝ) < 0 then (⊥ : EReal) else if 1 < (2 : ℝ) then ⊤ else if (2 : ℝ) = 1 then 1 else 0) = ⊤; norm_num
  | coe x => rfl

theorem nDead_le (b : Fin 2) (h : Fin 8) (i : Fin 32) : nDead x0 kt b h i ≤ 32 := by
  unfold nDead
  calc _ ≤ ∑ n : Fin 32, 1 := Finset.sum_le_sum fun n _ => by split <;> omega
    _ = 32 := by simp

theorem firstN_le (b : Fin 2) (g : Fin 2) (i : Fin 32) : firstN x0 kt b g i ≤ 32 := by
  unfold firstN
  exact le_trans (min_le_right _ _) (nDead_le x0 kt b (hd g 3) i)

end Cert.Form

end
-- ==== Proof.FoxIdeal.lean ====
/-
  The attention's step read at one row, over the extended reals.
-/
module

public import proofs.«01_k».proof.Proof.FoxStep
public import Idealize.ShloMosaic.Lib.Pointwise
public import proofs.«01_k».proof.Proof.FoxForm
public import Idealize.ShloMosaic.Lib.KernelVsHost

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Form

theorem mask_eq : Named.named (F := Ideal) (φ := .f32) κ "mask" 0xF1800000#32 = (⊥ : EReal) :=
  IdealRules.named_const.ideal_named_scalar κ "mask" _ ⊥ rfl

theorem idx2 {n m : ℕ} {α : Type} (f : (Shape.mk 2 ![n, m]).Idx → α) {a a' : Fin n} {b b' : Fin m} (ha : a.val = a'.val) (hb : b.val = b'.val) : f (ix2 a b) = f (ix2 a' b') := by
  rw [Fin.ext ha, Fin.ext hb]

theorem idx3 {p n m : ℕ} {α : Type} (f : (Shape.mk 3 ![p, n, m]).Idx → α) {c : Fin p} {a a' : Fin n} {b b' : Fin m} (ha : a.val = a'.val) (hb : b.val = b'.val) : f (ix3 c a b) = f (ix3 c a' b') := by
  rw [Fin.ext ha, Fin.ext hb]

/-- Four maxima over lanes are the maximum over the whole row. -/
theorem sup_lanes (g : Fin 512 → EReal) : (Finset.univ.sup fun k : Fin 128 =>
      max (max (max (g ⟨k.val, by omega⟩) (g ⟨128 + k.val, by omega⟩)) (g ⟨256 + k.val, by omega⟩)) (g ⟨384 + k.val, by omega⟩)) = Finset.univ.sup g := by
  apply le_antisymm
  · refine Finset.sup_le fun k _ => ?_
    exact max_le (max_le (max_le (Finset.le_sup (Finset.mem_univ _)) (Finset.le_sup (Finset.mem_univ _))) (Finset.le_sup (Finset.mem_univ _))) (Finset.le_sup (Finset.mem_univ _))
  · refine Finset.sup_le fun s _ => ?_
    have hs := s.isLt
    refine le_trans ?_ (Finset.le_sup (f := fun k : Fin 128 =>
      max (max (max (g ⟨k.val, by omega⟩) (g ⟨128 + k.val, by omega⟩)) (g ⟨256 + k.val, by omega⟩)) (g ⟨384 + k.val, by omega⟩)) (Finset.mem_univ (⟨s.val % 128, by omega⟩ : Fin 128)))
    have h : s.val / 128 = 0 ∨ s.val / 128 = 1 ∨ s.val / 128 = 2 ∨ s.val / 128 = 3 := by omega
    rcases h with h | h | h | h
    · exact le_trans (le_of_eq (congrArg g (Fin.ext (by show s.val = s.val % 128; omega)))) (le_trans (le_trans (le_max_left _ _) (le_max_left _ _)) (le_max_left _ _))
    · exact le_trans (le_of_eq (congrArg g (Fin.ext (by show s.val = 128 + s.val % 128; omega)))) (le_trans (le_trans (le_max_right _ _) (le_max_left _ _)) (le_max_left _ _))
    · exact le_trans (le_of_eq (congrArg g (Fin.ext (by show s.val = 256 + s.val % 128; omega)))) (le_trans (le_max_right _ _) (le_max_left _ _))
    · exact le_trans (le_of_eq (congrArg g (Fin.ext (by show s.val = 384 + s.val % 128; omega)))) (le_max_right _ _)

theorem pay6_at (q : Vec Ideal S1x1x512x128 .bf16) (kt : Vec Ideal S1x1x128x512 .bf16) (r s : Fin 512) :
    k0_pay6 (F := Ideal) q kt (ix2 r s) = ∑ k : Fin 128, q (ix4 (0 : Fin 1) (0 : Fin 1) r k) * kt (ix4 (0 : Fin 1) (0 : Fin 1) k s) := by
  unfold k0_pay6
  simp only [pointwise]
  exact zero_add _

theorem pay15_at (S : FVec Ideal S512x512 .f32) (m : Vec Ideal S1x512x128 .f32) (r : Fin 512) (l : Fin 128) :
    k0_pay15 (F := Ideal) S m (ix2 r l) = max (m (ix3 (0 : Fin 1) r l)) (Finset.univ.sup fun s : Fin 512 => S (ix2 r s)) := by
  unfold k0_pay15 k0_pay14
  simp only [pointwise]
  rw [ofBits_neg_inf, fold_max_eq_sup, ← sup_lanes]
  refine congrArg (max _) (congrArg (Finset.univ.sup) (funext fun k => ?_))
  refine congrArg₂ max (congrArg₂ max (congrArg₂ max (idx2 S ?_ ?_) (idx2 S ?_ ?_)) (idx2 S ?_ ?_)) (idx2 S ?_ ?_) <;> simp

theorem pay16_at (S : FVec Ideal S512x512 .f32) (m : Vec Ideal S1x512x128 .f32) (r : Fin 512) (l : Fin 128) :
    k0_pay16 (F := Ideal) S m (ix3 (0 : Fin 1) r l) = max (m (ix3 (0 : Fin 1) r l)) (Finset.univ.sup fun s : Fin 512 => S (ix2 r s)) := by
  unfold k0_pay16
  simp only [pointwise]
  exact pay15_at S m r l

theorem pay17_at (S : FVec Ideal S512x512 .f32) (m : Vec Ideal S1x512x128 .f32) (r : Fin 512) (s : Fin 512) :
    k0_pay17 (F := Ideal) S m (ix2 r s) = Ideal.exp2 (S (ix2 r s) - k0_pay15 (F := Ideal) S m (ix2 r (⟨s.val % 128, by omega⟩ : Fin 128))) := by
  have hs := s.isLt
  unfold k0_pay17
  simp only [pointwise]
  refine congrArg (fun x => Ideal.exp2 (S (ix2 r s) - x)) ?_
  have e : (![512, 128] : Fin 2 → ℕ) 1 = 128 := rfl
  simp only [e]
  split
  · exact idx2 _ (by simp) (by simp; omega)
  · split
    · exact idx2 _ (by simp) (by simp; omega)
    · split
      · exact idx2 _ (by simp) (by simp; omega)
      · exact idx2 _ (by simp) (by simp; omega)

theorem pay18_at (S : FVec Ideal S512x512 .f32) (m : Vec Ideal S1x512x128 .f32) (r : Fin 512) (l : Fin 128) :
    k0_pay18 (F := Ideal) S m (ix2 r l) = Ideal.exp2 (m (ix3 (0 : Fin 1) r l) - k0_pay15 (F := Ideal) S m (ix2 r l)) := by
  unfold k0_pay18 k0_pay14
  simp only [pointwise]
  rfl

theorem pay36_at (W : FVec Ideal S512x128 .bf16) (P : FVec Ideal S512x512 .bf16) (α : FVec Ideal S512x128 .f32) (A : Vec Ideal S1x512x128 .f32) (r : Fin 512) (l : Fin 128) :
    k0_pay36 (F := Ideal) W P α A (ix3 (0 : Fin 1) r l) = α (ix2 r l) * A (ix3 (0 : Fin 1) r l) + ∑ s : Fin 512, P (ix2 r s) * W (ix2 s l) := by
  unfold k0_pay36
  simp only [pointwise]
  exact congrArg _ (zero_add _)

theorem pay10_at (v : Vec Ideal S1x1x512x128 .bf16) (s : Fin 512) (l : Fin 128) :
    k0_pay10 (F := Ideal) v (ix2 s l) = v (ix4 (0 : Fin 1) (0 : Fin 1) s l) := by
  unfold k0_pay10
  simp only [pointwise]

theorem pay85_at (q : Vec Ideal S1x1x512x128 .bf16) (kt : Vec Ideal S1x1x128x512 .bf16) (r s : Fin 512) :
    k0_pay85 (F := Ideal) k0_pay72 q kt (ix2 r s) = if s.val ≤ r.val then ∑ k : Fin 128, q (ix4 (0 : Fin 1) (0 : Fin 1) r k) * kt (ix4 (0 : Fin 1) (0 : Fin 1) k s) else ⊥ := by
  have hs := s.isLt
  have hr := r.isLt
  unfold k0_pay85 k0_pay72
  simp only [pointwise]
  rw [mask_eq, zero_add]
  have e1 : List.foldl (fun n (a : Fin 2) => n * (![512, 512] : Fin 2 → ℕ) a + (ix2 r s a).val) 0 [1] = s.val := Nat.zero_add _
  have e0 : List.foldl (fun n (a : Fin 2) => n * (![512, 512] : Fin 2 → ℕ) a + (ix2 r s a).val) 0 [0] = r.val := Nat.zero_add _
  refine Eq.trans (congrArg₂ (fun a b => Scalar.select (IntOp.cmpi .sle (BitVec.ofNat 32 a) (BitVec.ofNat 32 b)) _ _) e1 e0) ?_
  rw [word_le _ _ (by omega) (by omega), select_ite]

theorem pay122_at (a b : Vec Ideal S1x512x128 .f32) (r : Fin 512) (l : Fin 128) :
    k0_pay122 (F := Ideal) (iota .tc S512x128 32 [1] iota_S512x128_d1_w32) a b (ix3 (0 : Fin 1) r l) = if h : l.val < 64 then Ideal.div (a (ix3 (0 : Fin 1) r l)) (a (ix3 (0 : Fin 1) r (⟨l.val + 64, by omega⟩ : Fin 128)))
      else Ideal.div (b (ix3 (0 : Fin 1) r (⟨l.val - 64, by omega⟩ : Fin 128))) (b (ix3 (0 : Fin 1) r l)) := by
  have hl := l.isLt
  have hr := r.isLt
  unfold k0_pay122
  simp only [pointwise]
  have e1 : List.foldl (fun n (a : Fin 2) => n * (![512, 128] : Fin 2 → ℕ) a + (ix2 r l a).val) 0 [1] = l.val := Nat.zero_add _
  refine Eq.trans (congrArg (fun n => Scalar.select (IntOp.cmpi .slt (BitVec.ofNat 32 n) 64#32) _ _) e1) ?_
  rw [word_lt _ 64 (by omega) (by omega), select_ite]
  have e : (![512, 128] : Fin 2 → ℕ) 1 = 128 := rfl
  have e' : (64#32).toNat = 64 := rfl
  by_cases h : l.val < 64
  · rw [if_pos h, dif_pos h]
    refine congrArg (Ideal.div _) (idx3 a ?_ ?_)
    · simp
    · simp [e, e']; omega
  · rw [if_neg h, dif_neg h]
    refine congrArg (fun x => Ideal.div x _) (idx3 b ?_ ?_)
    · simp
    · simp [e, e']; omega

theorem pay70_at (j : S4x512x128.Idx) : k0_pay70 (F := Ideal) j = (⊥ : EReal) := by
  unfold k0_pay70
  rw [shapeCast_id]
  exact mask_eq

theorem pay71_at (j : S4x512x128.Idx) : k0_pay71 (F := Ideal) j = (0 : EReal) := by
  unfold k0_pay71
  rw [shapeCast_id]
  exact Ideal.ofBits_zero_f32

/-- A test of a head's word at a position of its row. -/
theorem pay77_test (w : Vec Ideal S1x1x128 .f32) (row : Vec Ideal S1x1x16384 .f32) (x : EReal) (s : Fin 16384) :
    cmpf (F := Ideal) (φ := .f32) .ogt (subf (shapeCast S1x16384 row shapeCasts_S1x1x16384_S1x16384)
        (broadcastTo S1x16384 (extractStridedSlice S1x1 ![0, 0] (shapeCast S1x128 w shapeCasts_S1x1x128_S1x128) slices_S1x128_o0_0_S1x1) broadcasts_S1x1_S1x16384))
      (broadcast S1x16384 (Scalar.addf (F := Ideal) (Scalar.mulf (Scalar.ofBits .f32 0x40000000#32) x) (Scalar.ofBits .f32 0x43200000#32))) (ix2 (0 : Fin 1) s)
      = FloatOps.cmpf (F := Ideal) (φ := .f32) .ogt (row (ix3 (0 : Fin 1) (0 : Fin 1) s) - w (ix3 (0 : Fin 1) (0 : Fin 1) (0 : Fin 128)))
        (Ideal.ofBits .f32 0x40000000#32 * x + Ideal.ofBits .f32 0x43200000#32) := by
  simp only [pointwise]

end Cert.KernelIdeal.Fox

end
-- ==== Proof.FoxSoft.lean ====
/-
  The running maximum and the running sums of the attention are the whole row's maximum and sums.
-/
module

public import proofs.«01_k».proof.Proof.FoxDiag
public import proofs.«01_k».proof.Proof.FoxIdeal
public import proofs.«01_k».proof.Proof.FoxForm

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Form (accOn)

/-! ## Weights against a maximum -/

/-- A weight against one maximum, rescaled to a larger one. -/
theorem exp2_rescale {x M M' : EReal} (h : x ≤ M) (h' : M ≤ M') : Ideal.exp2 (M - M') * Ideal.exp2 (x - M) = Ideal.exp2 (x - M') := by
  induction M' with
  | bot =>
    obtain rfl := le_bot_iff.mp h'
    obtain rfl := le_bot_iff.mp h
    simp
  | top => simp [EReal.sub_top]
  | coe m' =>
    induction M with
    | bot =>
      obtain rfl := le_bot_iff.mp h
      simp
    | top => exact absurd h' (by simp)
    | coe m =>
      induction x with
      | bot => simp
      | top => exact absurd h (by simp)
      | coe x =>
        rw [← EReal.coe_sub, ← EReal.coe_sub, ← EReal.coe_sub, Ideal.exp2_coe, Ideal.exp2_coe, Ideal.exp2_coe, ← EReal.coe_mul]
        refine congrArg _ ?_
        show (2 : ℝ) ^ (m - m') * (2 : ℝ) ^ (x - m) = (2 : ℝ) ^ (x - m')
        rw [← Real.rpow_add two_pos]
        exact congrArg _ (by ring)

theorem exp2_nonneg (x : EReal) : 0 ≤ Ideal.exp2 x := by
  induction x with
  | bot => simp
  | top => simp
  | coe x => rw [Ideal.exp2_coe]; exact_mod_cast (Real.rpow_pos_of_pos two_pos x).le

theorem exp2_ne_top {M M' : EReal} (h' : M ≤ M') : Ideal.exp2 (M - M') ≠ ⊤ := by
  induction M' with
  | bot =>
    obtain rfl := le_bot_iff.mp h'
    simp
  | top => simp [EReal.sub_top]
  | coe m' =>
    induction M with
    | bot => simp
    | top => exact absurd h' (by simp)
    | coe m => rw [← EReal.coe_sub, Ideal.exp2_coe]; exact EReal.coe_ne_top _

theorem mul_sum_of {ι : Type} (T : Finset ι) (α : EReal) (h0 : 0 ≤ α) (h1 : α ≠ ⊤) (f : ι → EReal) : α * ∑ s ∈ T, f s = ∑ s ∈ T, α * f s := by
  classical
  induction T using Finset.induction_on with
  | empty => simp
  | insert a T ha ih => rw [Finset.sum_insert ha, Finset.sum_insert ha, EReal.left_distrib_of_nonneg_of_ne_top h0 h1, ih]

theorem accOn_union {ι : Type} [DecidableEq ι] (T B : Finset ι) (hd : Disjoint T B) (ℓ V : ι → EReal) :
    Ideal.exp2 (T.sup ℓ - max (T.sup ℓ) (B.sup ℓ)) * accOn T ℓ V (T.sup ℓ) + accOn B ℓ V (max (T.sup ℓ) (B.sup ℓ))
      = accOn (T ∪ B) ℓ V ((T ∪ B).sup ℓ) := by
  rw [Finset.sup_union]
  unfold accOn
  rw [Finset.sum_union hd, mul_sum_of T _ (exp2_nonneg _) (exp2_ne_top (le_max_left _ _))]
  refine congrArg₂ (· + ·) (Finset.sum_congr rfl fun s hs => ?_) rfl
  rw [← mul_assoc, exp2_rescale (Finset.le_sup hs) (le_max_left _ _)]

theorem sup_all {ι : Type} [Fintype ι] (T : Finset ι) (ℓ : ι → EReal) (h : ∀ s, s ∉ T → ℓ s = ⊥) : T.sup ℓ = Finset.univ.sup ℓ := by
  apply le_antisymm (Finset.sup_mono (Finset.subset_univ _))
  refine Finset.sup_le fun s _ => ?_
  by_cases hs : s ∈ T
  · exact Finset.le_sup hs
  · rw [h s hs]; exact bot_le

theorem accOn_all {ι : Type} [Fintype ι] (T : Finset ι) (ℓ V : ι → EReal) (M : EReal) (h : ∀ s, s ∉ T → ℓ s = ⊥) : accOn T ℓ V M = accOn Finset.univ ℓ V M := by
  unfold accOn
  refine Finset.sum_subset (Finset.subset_univ _) fun s _ hs => ?_
  rw [h s hs]; simp

/-! ## The key blocks -/

/-- The positions of `n` key blocks from block `b` on. -/
def span (b n : ℕ) : Finset (Fin 16384) := Finset.univ.filter fun s => 512 * b ≤ s.val ∧ s.val < 512 * (b + n)

/-- The positions of one key block. -/
def blkEmb (J : ℕ) (hJ : J < 32) : Fin 512 ↪ Fin 16384 := ⟨fun s => ⟨512 * J + s.val, by omega⟩, fun a b h => Fin.ext (by have := congrArg Fin.val h; simpa using this)⟩

theorem span_zero (b : ℕ) : span b 0 = ∅ := by
  unfold span; ext s; simp

theorem span_succ (b n : ℕ) (h : b + n < 32) : span b (n + 1) = span b n ∪ Finset.univ.map (blkEmb (b + n) h) := by
  ext s
  unfold span
  simp only [Finset.mem_union, Finset.mem_filter, Finset.mem_univ, true_and, Finset.mem_map]
  constructor
  · rintro ⟨h1, h2⟩
    by_cases h3 : s.val < 512 * (b + n)
    · exact Or.inl ⟨h1, h3⟩
    · exact Or.inr ⟨⟨s.val - 512 * (b + n), by omega⟩, Fin.ext (by show 512 * (b + n) + (s.val - 512 * (b + n)) = s.val; omega)⟩
  · rintro (⟨h1, h2⟩ | ⟨x, rfl⟩)
    · exact ⟨h1, by omega⟩
    · have := x.isLt
      show 512 * b ≤ 512 * (b + n) + x.val ∧ 512 * (b + n) + x.val < 512 * (b + (n + 1))
      omega

theorem span_disjoint (b n : ℕ) (h : b + n < 32) : Disjoint (span b n) (Finset.univ.map (blkEmb (b + n) h)) := by
  rw [Finset.disjoint_left]
  intro s hs ht
  unfold span at hs
  simp only [Finset.mem_filter, Finset.mem_univ, true_and, Finset.mem_map] at hs ht
  obtain ⟨x, rfl⟩ := ht
  have : (blkEmb (b + n) h x).val = 512 * (b + n) + x.val := rfl
  omega

/-! ## The state, row by row -/

theorem stepM_at (S : Fin 4 → FVec Ideal S512x512 .f32) (M : S4x512x128.Idx → Elt Ideal .f32) (e : Fin 4) (r : Fin 512) (l : Fin 128) :
    stepM S M (ix3 e r l) = max (M (ix3 e r l)) (Finset.univ.sup fun s : Fin 512 => S e (ix2 r s)) := pay16_at (S e) (rowAt M e) r l

theorem stepA_at (S : Fin 4 → FVec Ideal S512x512 .f32) (W : Fin 4 → FVec Ideal S512x128 .bf16) (M A : S4x512x128.Idx → Elt Ideal .f32) (e : Fin 4) (r : Fin 512) (l : Fin 128)
    (μ : EReal) (hM : ∀ l, M (ix3 e r l) = μ) :
    stepA S W M A (ix3 e r l) = Ideal.exp2 (μ - max μ (Finset.univ.sup fun s : Fin 512 => S e (ix2 r s))) * A (ix3 e r l)
      + ∑ s : Fin 512, Ideal.exp2 (S e (ix2 r s) - max μ (Finset.univ.sup fun s : Fin 512 => S e (ix2 r s))) * W e (ix2 s l) := by
  have h15 : ∀ l : Fin 128, k0_pay15 (F := Ideal) (S e) (rowAt M e) (ix2 r l) = max μ (Finset.univ.sup fun s : Fin 512 => S e (ix2 r s)) := fun l =>
    (pay15_at (S e) (rowAt M e) r l).trans (congrArg (fun x => max x _) (hM l))
  refine (pay36_at (W e) _ _ (rowAt A e) r l).trans ?_
  refine congrArg₂ (· + ·) (congrArg₂ (· * ·) ?_ rfl) (Finset.sum_congr rfl fun s _ => congrArg₂ (· * ·) ?_ rfl)
  · refine (pay18_at (S e) (rowAt M e) r l).trans ?_
    rw [h15]; exact congrArg (fun x => Ideal.exp2 (x - _)) (hM l)
  · refine (pay17_at (S e) (rowAt M e) r s).trans ?_
    rw [h15]

/-- A row's logits: the scores of the positions from block `b` up to the row's own, the rest masked. -/
def logitB (x1 : Vec Ideal S1x4x512x128 .bf16) (x2 : Vec Ideal S1x4x128x16384 .bf16) (b : ℕ) (i : Fin 32) (e : Fin 4) (r : Fin 512) (s : Fin 16384) : EReal :=
  if s.val ≤ 512 * i.val + r.val ∧ 512 * b ≤ s.val then ∑ k : Fin 128, x1 (ix4 (0 : Fin 1) e r k) * x2 (ix4 (0 : Fin 1) e k s) else ⊥

theorem scoreB_at (x1 : Vec Ideal S1x4x512x128 .bf16) (x2 : Vec Ideal S1x4x128x16384 .bf16) (b J : ℕ) (hJ : J < 32) (hb : b ≤ J) (i : Fin 32) (hi : J < i.val) (e : Fin 4) (r s : Fin 512) :
    scoreB x1 x2 ⟨J, hJ⟩ e (ix2 r s) = logitB x1 x2 b i e r (blkEmb J hJ s) := by
  have h : (blkEmb J hJ s).val = 512 * J + s.val := rfl
  have hs := s.isLt
  unfold logitB
  rw [if_pos (by omega)]
  exact pay6_at _ _ r s

theorem scoreD_at (x1 : Vec Ideal S1x4x512x128 .bf16) (x2 : Vec Ideal S1x4x128x16384 .bf16) (b : ℕ) (i : Fin 32) (hb : b ≤ i.val) (e : Fin 4) (r s : Fin 512) :
    scoreD x1 x2 i e (ix2 r s) = logitB x1 x2 b i e r (blkEmb i.val i.isLt s) := by
  have h : (blkEmb i.val i.isLt s).val = 512 * i.val + s.val := rfl
  refine (pay85_at _ _ r s).trans ?_
  unfold logitB
  by_cases hs : s.val ≤ r.val
  · rw [if_pos hs, if_pos (by omega)]; rfl
  · rw [if_neg hs, if_neg (by omega)]

theorem valB_at (x3 : Vec Ideal S1x4x16384x128 .bf16) (J : ℕ) (hJ : J < 32) (e : Fin 4) (s : Fin 512) (l : Fin 128) :
    valB x3 ⟨J, hJ⟩ e (ix2 s l) = x3 (ix4 (0 : Fin 1) e (blkEmb J hJ s) l) := pay10_at _ s l

theorem state_at (x1 : Vec Ideal S1x4x512x128 .bf16) (x2 : Vec Ideal S1x4x128x16384 .bf16) (x3 : Vec Ideal S1x4x16384x128 .bf16) (b : ℕ) (i : Fin 32) (e : Fin 4) (r : Fin 512) (n : ℕ) (h : b + n ≤ i.val) :
    (∀ l, (stateAt x1 x2 x3 b n).1 (ix3 e r l) = (span b n).sup (logitB x1 x2 b i e r))
    ∧ ∀ l : Fin 128, (stateAt x1 x2 x3 b n).2 (ix3 e r l) = accOn (span b n) (logitB x1 x2 b i e r) (fun s => x3 (ix4 (0 : Fin 1) e s l)) ((span b n).sup (logitB x1 x2 b i e r)) := by
  induction n with
  | zero =>
    rw [span_zero]
    exact ⟨fun l => pay70_at (ix3 e r l), fun l => (pay71_at (ix3 e r l)).trans (by unfold accOn; simp)⟩
  | succ n ih =>
    obtain ⟨i1, i2⟩ := ih (by omega)
    have hn : b + n < 32 := by have := i.isLt; omega
    have hm : (⟨(b + n) % 32, Nat.mod_lt _ (by decide)⟩ : Fin 32) = ⟨b + n, hn⟩ := Fin.ext (Nat.mod_eq_of_lt hn)
    have hsup : (Finset.univ.sup fun s : Fin 512 => scoreB x1 x2 ⟨b + n, hn⟩ e (ix2 r s)) = (Finset.univ.map (blkEmb (b + n) hn)).sup (logitB x1 x2 b i e r) := by
      rw [Finset.sup_map]
      exact congrArg (Finset.univ.sup) (funext fun s => scoreB_at x1 x2 b (b + n) hn (by omega) i (by omega) e r s)
    have e1 : stateAt x1 x2 x3 b (n + 1) = step1 (scoreB x1 x2 ⟨b + n, hn⟩) (valB x3 ⟨b + n, hn⟩) (stateAt x1 x2 x3 b n) := by
      show step1 _ _ _ = _
      rw [hm]
    rw [e1, span_succ b n hn]
    constructor
    · intro l
      refine (stepM_at _ _ e r l).trans ?_
      rw [hsup, i1 l, Finset.sup_union]
    · intro l
      refine (stepA_at _ _ _ _ e r l _ i1).trans ?_
      rw [hsup, i2 l, ← accOn_union _ _ (span_disjoint b n hn)]
      refine congrArg₂ (· + ·) rfl ?_
      conv_rhs => unfold accOn
      rw [Finset.sum_map]
      refine Finset.sum_congr rfl fun s _ => ?_
      rw [scoreB_at x1 x2 b (b + n) hn (by omega) i (by omega) e r s, valB_at]

/-- The sums after the diagonal block are those of the whole row. -/
theorem sums_at (x1 : Vec Ideal S1x4x512x128 .bf16) (x2 : Vec Ideal S1x4x128x16384 .bf16) (x3 : Vec Ideal S1x4x16384x128 .bf16) (b : ℕ) (i : Fin 32) (hb : b ≤ i.val) (e : Fin 4) (r : Fin 512) (l : Fin 128) :
    sumsAt x1 x2 x3 b i (ix3 e r l) = accOn Finset.univ (logitB x1 x2 b i e r) (fun s => x3 (ix4 (0 : Fin 1) e s l)) (Finset.univ.sup (logitB x1 x2 b i e r)) := by
  obtain ⟨i1, i2⟩ := state_at x1 x2 x3 b i e r (i.val - b) (by omega)
  have hn : b + (i.val - b) < 32 := by have := i.isLt; omega
  have hbi : b + (i.val - b) = i.val := by omega
  have hemb : blkEmb (b + (i.val - b)) hn = blkEmb i.val i.isLt := by
    ext s; show 512 * (b + (i.val - b)) + s.val = 512 * i.val + s.val; rw [hbi]
  have hsup : (Finset.univ.sup fun s : Fin 512 => scoreD x1 x2 i e (ix2 r s)) = (Finset.univ.map (blkEmb (b + (i.val - b)) hn)).sup (logitB x1 x2 b i e r) := by
    rw [Finset.sup_map, hemb]
    exact congrArg (Finset.univ.sup) (funext fun s => scoreD_at x1 x2 b i hb e r s)
  have hout : ∀ s, s ∉ span b (i.val - b + 1) → logitB x1 x2 b i e r s = ⊥ := by
    intro s hs
    unfold span at hs
    simp only [Finset.mem_filter, Finset.mem_univ, true_and] at hs
    unfold logitB
    have := r.isLt
    exact if_neg (by omega)
  rw [← accOn_all (span b (i.val - b + 1)) _ _ _ hout, ← sup_all (span b (i.val - b + 1)) _ hout, span_succ b (i.val - b) hn]
  refine (stepA_at _ _ _ _ e r l _ i1).trans ?_
  rw [hsup, i2 l, ← accOn_union _ _ (span_disjoint b (i.val - b) hn)]
  refine congrArg₂ (· + ·) rfl ?_
  conv_rhs => unfold accOn
  rw [Finset.sum_map]
  refine Finset.sum_congr rfl fun s _ => ?_
  rw [scoreD_at x1 x2 b i hb e r s, hemb]
  exact congrArg₂ (· * ·) rfl (valB_at x3 i.val i.isLt e s l)

end Cert.KernelIdeal.Fox

end
-- ==== Proof.FoxVal.lean ====
/-
  Each grid point's output block over the extended reals, in the common form.
-/
module

public import proofs.«01_k».proof.Proof.FoxOuts
public import proofs.«01_k».proof.Proof.FoxSoft

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Form

theorem sum_three (f : Fin 16 → EReal) : (∑ k : Fin 16, if 3 ≤ k.val ∧ k.val < 6 then f k else 0) = f 3 + f 4 + f 5 := by
  rw [← Finset.sum_filter]
  have e : (Finset.univ.filter fun k : Fin 16 => 3 ≤ k.val ∧ k.val < 6) = {3, 4, 5} := by decide
  rw [e, Finset.sum_insert (by decide), Finset.sum_insert (by decide), Finset.sum_singleton, add_assoc]

theorem pay1_at (y : Vec Ideal S1x1x16x16384 .bf16) (s : Fin 16384) :
    k0_pay1 (F := Ideal) y (ix3 (0 : Fin 1) (0 : Fin 1) s)
      = -(y (ix4 (0 : Fin 1) (0 : Fin 1) (3 : Fin 16) s) + y (ix4 (0 : Fin 1) (0 : Fin 1) (4 : Fin 16) s) + y (ix4 (0 : Fin 1) (0 : Fin 1) (5 : Fin 16) s) : EReal) := by
  unfold k0_pay1
  simp only [pointwise]
  rw [zero_sub]
  refine congrArg Neg.neg (Eq.trans (Finset.sum_congr rfl fun k _ => ?_) (sum_three fun k : Fin 16 => y (ix4 (0 : Fin 1) (0 : Fin 1) k s)))
  have hk := k.isLt
  have e0 : List.foldl (fun n (a : Fin 2) => n * (![16, 16384] : Fin 2 → ℕ) a + (ix2 k s a).val) 0 [0] = k.val := Nat.zero_add _
  refine Eq.trans (congrArg (fun n => Scalar.select (IntOp.andi (IntOp.cmpi .sge (BitVec.ofNat 32 n) 3#32) (IntOp.cmpi .slt (BitVec.ofNat 32 n) 6#32)) _ _) e0) ?_
  rw [word_ge k.val 3 (by omega) (by omega), word_lt k.val 6 (by omega) (by omega), and_ite, select_ite]

theorem ckey_at (x2 : Vec Ideal S1x4x128x16384 .bf16) (e : Fin 4) (s : Fin 16384) :
    ckeyOf x2 (ix3 e (0 : Fin 1) s) = -(x2 (ix4 (0 : Fin 1) e (67 : Fin 128) s) + x2 (ix4 (0 : Fin 1) e (68 : Fin 128) s) + x2 (ix4 (0 : Fin 1) e (69 : Fin 128) s) : EReal) :=
  pay1_at _ s

theorem word_count (x0f : EReal) (x2 : Vec Ideal S1x4x128x16384 .bf16) (i : grid0.Coords) (e : Fin 4) :
    (wordOf (F := Ideal) x0f (keyRow x2) (keyWin x2 (i 2)) i e).toNat
      = ∑ n : Fin 32, if n.val < (i 2).val ∧ FloatOps.cmpf (F := Ideal) (φ := .f32) .ogt
          (ckeyOf x2 (ix3 e (0 : Fin 1) (⟨512 * n.val + 511, by omega⟩ : Fin 16384)) - ckeyOf x2 (ix3 e (0 : Fin 1) (⟨512 * (i 2).val, by have : (i 2).val < 32 := (i 2).isLt; omega⟩ : Fin 16384)) : EReal)
          (Ideal.ofBits .f32 0x40000000#32 * x0f + Ideal.ofBits .f32 0x43200000#32) = 1#1 then 1 else 0 := by
  refine (toNat_cntWord_pay74 i _).trans (Finset.sum_congr rfl fun n _ => if_congr (and_congr_right fun _ => ?_) rfl rfl)
  exact Eq.congr_left (pay77_test (keyWin x2 (i 2) e) (keyRow x2 e) x0f _)

theorem pay123_eq : k0_pay123 (F := Ideal) = k0_pay122 (F := Ideal) := rfl

/-- The output's block, entry by entry: a head's sums over its weights' sum. -/
theorem outBlk_at (A : S4x512x128.Idx → EReal) (r : Fin 512) (l : Fin 256) :
    outBlk (F := Ideal) A (ix3 (0 : Fin 1) r l)
      = Ideal.div (A (ix3 (⟨l.val / 64, by omega⟩ : Fin 4) r (⟨l.val % 64, by omega⟩ : Fin 128))) (A (ix3 (⟨l.val / 64, by omega⟩ : Fin 4) r (⟨64 + l.val % 64, by omega⟩ : Fin 128))) := by
  have hl := l.isLt
  have e3 : ∀ {a a' : Fin 4} {d d' : Fin 128}, a.val = a'.val → d.val = d'.val → A (ix3 a r d) = A (ix3 a' r d') := fun ha hd => by rw [Fin.ext ha, Fin.ext hd]
  unfold outBlk
  by_cases h : l.val < 128
  · refine (dif_pos (show ((ix3 (0 : Fin 1) r l : S1x512x256.Idx) 2).val < 128 from h)).trans ?_
    refine (pay122_at (rowAt A 0) (rowAt A 1) r (⟨l.val, h⟩ : Fin 128)).trans ?_
    by_cases h2 : l.val < 64
    · refine (dif_pos (show (⟨l.val, h⟩ : Fin 128).val < 64 from h2)).trans ?_
      exact congrArg₂ Ideal.div (e3 (by show 0 = l.val / 64; omega) (by show l.val = l.val % 64; omega)) (e3 (by show 0 = l.val / 64; omega) (by show l.val + 64 = 64 + l.val % 64; omega))
    · refine (dif_neg (show ¬(⟨l.val, h⟩ : Fin 128).val < 64 from h2)).trans ?_
      exact congrArg₂ Ideal.div (e3 (by show 1 = l.val / 64; omega) (by show l.val - 64 = l.val % 64; omega)) (e3 (by show 1 = l.val / 64; omega) (by show l.val = 64 + l.val % 64; omega))
  · refine (dif_neg (show ¬((ix3 (0 : Fin 1) r l : S1x512x256.Idx) 2).val < 128 from h)).trans ?_
    rw [pay123_eq]
    have hl' : l.val - 128 < 128 := by omega
    refine (pay122_at (rowAt A 2) (rowAt A 3) r (⟨l.val - 128, hl'⟩ : Fin 128)).trans ?_
    by_cases h2 : l.val - 128 < 64
    · refine (dif_pos (show (⟨l.val - 128, hl'⟩ : Fin 128).val < 64 from h2)).trans ?_
      exact congrArg₂ Ideal.div (e3 (by show 2 = l.val / 64; omega) (by show l.val - 128 = l.val % 64; omega)) (e3 (by show 2 = l.val / 64; omega) (by show l.val - 128 + 64 = 64 + l.val % 64; omega))
    · refine (dif_neg (show ¬(⟨l.val - 128, hl'⟩ : Fin 128).val < 64 from h2)).trans ?_
      exact congrArg₂ Ideal.div (e3 (by show 3 = l.val / 64; omega) (by show l.val - 128 - 64 = l.val % 64; omega)) (e3 (by show 3 = l.val / 64; omega) (by show l.val - 128 = 64 + l.val % 64; omega))

/-! ## A point's block from the arrays -/

section Point

variable (x0 : Vec Ideal S1 .f32) (x1 : Vec Ideal S1x4x512x128 .bf16) (x2 : Vec Ideal S1x4x128x16384 .bf16) (x3 : Vec Ideal S1x4x16384x128 .bf16)
  (X0 : EReal) (Q : Fin 2 → Fin 8 → Fin 16384 → Fin 128 → EReal) (K : Fin 2 → Fin 8 → Fin 128 → Fin 16384 → EReal) (W : Fin 2 → Fin 8 → Fin 16384 → Fin 128 → EReal)
  (i : grid0.Coords) (b g : Fin 2)

theorem first_form (h0 : x0 (Shape.Idx.first (by decide)) = X0)
    (h2 : ∀ (e : Fin 4) (k : Fin 128) (s : Fin 16384), x2 (ix4 (0 : Fin 1) e k s) = K b (hd g e) k s) :
    firstOf (F := Ideal) (x0 (Shape.Idx.first (by decide))) (keyRow x2) (keyWin x2 (i 2)) i = firstN X0 K b g (i 2) := by
  have hw : ∀ e : Fin 4, (wordOf (F := Ideal) (x0 (Shape.Idx.first (by decide))) (keyRow x2) (keyWin x2 (i 2)) i e).toNat = nDead X0 K b (hd g e) (i 2) := by
    intro e
    refine (word_count _ x2 i e).trans ?_
    unfold nDead
    refine Finset.sum_congr rfl fun n _ => if_congr (and_congr_right fun _ => ?_) rfl rfl
    have hc : ∀ s : Fin 16384, ckeyOf x2 (ix3 e (0 : Fin 1) s) = ck K b (hd g e) s := by
      intro s
      rw [ckey_at, h2, h2, h2]
      rfl
    rw [hc, hc, h0]
    rfl
  unfold firstOf first firstN
  rw [hw 0, hw 1, hw 2, hw 3]

theorem block_form (h0 : x0 (Shape.Idx.first (by decide)) = X0)
    (h1 : ∀ (e : Fin 4) (r : Fin 512) (k : Fin 128), x1 (ix4 (0 : Fin 1) e r k) = Q b (hd g e) (⟨512 * (i 2).val + r.val, by have : (i 2).val < 32 := (i 2).isLt; omega⟩ : Fin 16384) k)
    (h2 : ∀ (e : Fin 4) (k : Fin 128) (s : Fin 16384), x2 (ix4 (0 : Fin 1) e k s) = K b (hd g e) k s)
    (h3 : ∀ (e : Fin 4) (s : Fin 16384) (d : Fin 128), x3 (ix4 (0 : Fin 1) e s d) = W b (hd g e) s d) (r : Fin 512) (l : Fin 256) :
    blockOut (F := Ideal) x0 x1 x2 x3 i (ix3 (0 : Fin 1) r l)
      = out X0 Q K W b (⟨512 * (i 2).val + r.val, by have : (i 2).val < 32 := (i 2).isLt; omega⟩ : Fin 16384) (⟨256 * g.val + l.val, by omega⟩ : Fin 512) := by
  have hi : (i 2).val < 32 := (i 2).isLt
  have hr := r.isLt
  have hl := l.isLt
  have hf := first_form x0 x2 X0 K i b g h0 h2
  have hle : firstN X0 K b g (i 2) ≤ (i 2).val := by
    rw [← hf]
    exact first_le i _ _ _ _ (small_words _ _ _ i)
  have hlog : ∀ e : Fin 4, logitB x1 x2 (firstN X0 K b g (i 2)) (i 2) e r = logit X0 Q K b (hd g e) (⟨512 * (i 2).val + r.val, by omega⟩ : Fin 16384) := by
    intro e
    funext s
    unfold logitB logit
    have he := e.isLt
    have hg : (⟨(hd g e).val / 4, by have := (hd g e).isLt; omega⟩ : Fin 2) = g := Fin.ext (by show (4 * g.val + e.val) / 4 = g.val; omega)
    have ht : (⟨(512 * (i 2).val + r.val) / 512, by omega⟩ : Fin 32) = i 2 := Fin.ext (by show (512 * (i 2).val + r.val) / 512 = (i 2).val; omega)
    refine if_congr ?_ (Finset.sum_congr rfl fun k _ => ?_) rfl
    · show _ ↔ _ ∧ 512 * firstN X0 K b (⟨(hd g e).val / 4, _⟩ : Fin 2) (⟨(512 * (i 2).val + r.val) / 512, _⟩ : Fin 32) ≤ s.val
      rw [hg, ht]
    · rw [h1, h2]
  have hacc : ∀ (e : Fin 4) (d : Fin 128), sumsAt x1 x2 x3 (firstN X0 K b g (i 2)) (i 2) (ix3 e r d) = acc X0 Q K W b (hd g e) (⟨512 * (i 2).val + r.val, by omega⟩ : Fin 16384) d := by
    intro e d
    refine (sums_at x1 x2 x3 _ (i 2) hle e r d).trans ?_
    rw [hlog e]
    unfold acc
    exact congrArg (fun V => accOn Finset.univ _ V _) (funext fun s => h3 e s d)
  unfold blockOut
  rw [hf]
  refine (outBlk_at _ r l).trans ?_
  rw [hacc, hacc]
  unfold out
  have hh : hd g (⟨l.val / 64, by omega⟩ : Fin 4) = (⟨(256 * g.val + l.val) / 64, by omega⟩ : Fin 8) := Fin.ext (by show 4 * g.val + l.val / 64 = (256 * g.val + l.val) / 64; omega)
  have hm : l.val % 64 = (256 * g.val + l.val) % 64 := by omega
  rw [hh]
  exact congrArg₂ (fun d d' => Ideal.div (acc X0 Q K W b _ _ d) (acc X0 Q K W b _ _ d')) (Fin.ext hm) (Fin.ext (congrArg (64 + ·) hm))

end Point

end Cert.KernelIdeal.Fox

end
-- ==== Proof.FoxArr.lean ====
/-
  The kernel's result over the extended reals, entry by entry, and its run.
-/
module

public import proofs.«01_k».proof.Proof.FoxVal
public import proofs.«01_k».proof.Proof.FoxFrame
public import Idealize.ShloMosaic.Lib.Pipeline.Value

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Form

variable {F : FTy → Type} [FloatOps F] [Named F]

section Blocks

variable (m : (ℓ : Loc nD τ sig) → Buf (Elt F) ℓ)

theorem flushed4 (c : Dev nD) (t : Fin cfg0.N) : (dats m 0 c).flushed 4 t = (cfg0.win 4).cut (grid0.coords t) (outsAt0 m c t) := by
  show (cfg0.win 4).cut (grid0.coords t) ((dats m 0 c).after 4 t) = _
  rw [after0_4]

/-- Distinct grid points have distinct output blocks. -/
theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem flush4 : ∀ t : Fin cfg0.N, (cfg0.win 4).flush t = true :=
  (by decide +kernel : ∀ t : Fin grid0.N, win0_4.flush t = true)

/-- A point's block of the final array is what the point wrote back. -/
theorem blocks4 (c : Dev nD) (t : Fin cfg0.N) :
    ((cfg0.win 4).blk t).view.read (Elt F) ((dats m 0 c).arrAt 4 cfg0.N) = (dats m 0 c).flushed 4 t :=
  (dats m 0 c).read_blk_arrAt_eq_flushed 4 disjoint4 cfg0.N t t.isLt (flush4 t)

/-- The point whose block holds an entry. -/
def pointOf (b : Fin 2) (t : Fin 16384) (l : Fin 512) : Fin cfg0.N :=
  ⟨64 * b.val + 32 * (l.val / 256) + t.val / 512, Nat.lt_of_lt_of_eq (by omega) N_0.symm⟩

/-- An entry of the final array is its point's. -/
theorem arr_at (c : Dev nD) (b : Fin 2) (t : Fin 16384) (l : Fin 512) :
    ((dats m 0 c).arrAt 4 cfg0.N : S2x16384x512.Idx → Elt F .bf16) (ix3 b t l)
      = outsAt0 m c (pointOf b t l) (ix3 (0 : Fin 1) (⟨t.val % 512, by omega⟩ : Fin 512) (⟨l.val % 256, by omega⟩ : Fin 256)) := by
  have h := congrFun ((blocks4 m c (pointOf b t l)).trans (flushed4 m c (pointOf b t l))) (ix3 (0 : Fin 1) (⟨t.val % 512, by omega⟩ : Fin 512) (⟨l.val % 256, by omega⟩ : Fin 256))
  refine Eq.trans ?_ (h.trans ?_)
  · refine congrArg ((dats m 0 c).arrAt 4 cfg0.N) (funext fun a => Fin.ext ?_)
    have c0 := coord0 (pointOf b t l); have c1 := coord1 (pointOf b t l); have c2 := coord2 (pointOf b t l)
    have hp : (pointOf b t l).val = 64 * b.val + 32 * (l.val / 256) + t.val / 512 := rfl
    have hb := b.isLt; have ht := t.isLt; have hl := l.isLt
    fin_cases a
    · show b.val = (BitVec.ofNat 32 (grid0.coords (pointOf b t l) 0).val).toNat * 1 + 1 * 0
      rw [c0, BitVec.toNat_ofNat]; omega
    · show t.val = (BitVec.ofNat 32 (grid0.coords (pointOf b t l) 2).val).toNat * 512 + 1 * (t.val % 512)
      rw [c2, BitVec.toNat_ofNat]; omega
    · show l.val = (BitVec.ofNat 32 (grid0.coords (pointOf b t l) 1).val).toNat * 256 + 1 * (l.val % 256)
      rw [c1, BitVec.toNat_ofNat]; omega
  · rfl

/-- The run names the result's array and leaves the arguments. -/
theorem run_blocks (ρ : Dev nD → PrngReg) : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Blocks

/-- The kernel's result, entry by entry. -/
theorem arr_form (m : (ℓ : Loc nD τ sig) → Buf (Elt Ideal) ℓ) (c : Dev nD) (a0 : FVec Ideal S1 .f32) (a1 : FVec Ideal S2x8x16384x128 .bf16) (a2 : FVec Ideal S2x8x128x16384 .bf16) (a3 : FVec Ideal S2x8x16384x128 .bf16)
    (h0 : m ((c : Thread nD τ).loc main_arg0) = a0) (h1 : m ((c : Thread nD τ).loc main_arg1) = a1) (h2 : m ((c : Thread nD τ).loc main_arg2) = a2) (h3 : m ((c : Thread nD τ).loc main_arg3) = a3)
    (b : Fin 2) (t : Fin 16384) (l : Fin 512) :
    ((dats m 0 c).arrAt 4 cfg0.N : S2x16384x512.Idx → EReal) (ix3 b t l)
      = out (a0 (ix1 (0 : Fin 1))) (fun b h t k => a1 (ix4 b h t k)) (fun b h k s => a2 (ix4 b h k s)) (fun b h s d => a3 (ix4 b h s d)) b t l := by
  have hb := b.isLt; have ht := t.isLt; have hl := l.isLt
  have hp : (pointOf b t l).val = 64 * b.val + 32 * (l.val / 256) + t.val / 512 := rfl
  have c2 := coord2 (pointOf b t l)
  have v1 : V m c main_arg1 = a1 := (V_main_arg1 m c).trans h1
  have v2 : V m c main_arg2 = a2 := (V_main_arg2 m c).trans h2
  have v3 : V m c main_arg3 = a3 := (V_main_arg3 m c).trans h3
  have v0 : V m c main_arg0 = a0 := (V_main_arg0 m c).trans h0
  have i4 : ∀ {n p q r : ℕ} (f : (Shape.mk 4 ![n, p, q, r]).Idx → EReal) {x x' : Fin n} {y y' : Fin p} {z z' : Fin q} {w w' : Fin r},
      x.val = x'.val → y.val = y'.val → z.val = z'.val → w.val = w'.val → f (ix4 x y z w) = f (ix4 x' y' z' w') := by
    intro n p q r f x x' y y' z z' w w' hx hy hz hw
    rw [Fin.ext hx, Fin.ext hy, Fin.ext hz, Fin.ext hw]
  refine (arr_at m c b t l).trans ?_
  rw [outs_eq]
  refine (block_form (iblk m c 0 (pointOf b t l)) (iblk m c 1 (pointOf b t l)) (iblk m c 2 (pointOf b t l)) (iblk m c 3 (pointOf b t l))
    (a0 (ix1 (0 : Fin 1))) (fun b h t k => a1 (ix4 b h t k)) (fun b h k s => a2 (ix4 b h k s)) (fun b h s d => a3 (ix4 b h s d))
    (grid0.coords (pointOf b t l)) b (⟨l.val / 256, by omega⟩ : Fin 2) ?_ ?_ ?_ ?_ _ _).trans ?_
  · refine (iblk0_at m c (pointOf b t l) _).trans ?_
    rw [v0]
    exact congrArg a0 (funext fun a => Fin.ext (by fin_cases a; rfl))
  · intro e r k
    refine (iblk1_at m c (pointOf b t l) _).trans ?_
    rw [v1]
    exact i4 a1 (by show (pointOf b t l).val / 64 = b.val; omega) (by show 4 * ((pointOf b t l).val / 32 % 2) + e.val = 4 * (l.val / 256) + e.val; omega)
      (by show 512 * ((pointOf b t l).val % 32) + r.val = 512 * (grid0.coords (pointOf b t l) 2).val + r.val; omega) rfl
  · intro e k s
    refine (iblk2_at m c (pointOf b t l) _).trans ?_
    rw [v2]
    exact i4 a2 (by show (pointOf b t l).val / 64 = b.val; omega) (by show 4 * ((pointOf b t l).val / 32 % 2) + e.val = 4 * (l.val / 256) + e.val; omega) rfl rfl
  · intro e s d
    refine (iblk3_at m c (pointOf b t l) _).trans ?_
    rw [v3]
    exact i4 a3 (by show (pointOf b t l).val / 64 = b.val; omega) (by show 4 * ((pointOf b t l).val / 32 % 2) + e.val = 4 * (l.val / 256) + e.val; omega) rfl rfl
  · exact congrArg₂ (out _ _ _ _ b) (Fin.ext (by show 512 * (grid0.coords (pointOf b t l) 2).val + t.val % 512 = t.val; omega)) (Fin.ext (by show 256 * (l.val / 256) + l.val % 256 = l.val; omega))

end Cert.KernelIdeal.Fox

end
-- ==== Proof.RefForm.lean ====
/-
  The reference's result at one entry.
-/
module

public import proofs.«01_k».proof.Proof.Gen.ReferenceIdeal.Run
public import proofs.«01_k».proof.Proof.FoxForm
public import Idealize.ShloMosaic.Lib.Pointwise

@[expose] public section

noncomputable section

namespace Cert.ReferenceIdeal.Fox

open Cert.ReferenceIdeal Cert.ReferenceIdeal.Gen Cert.ReferenceIdeal.Value Idealize.ShloMosaic Idealize.ShloMosaic.TcCoe Idealize.SL.Sem

/-- The keys' gate sums. -/
def cR (a2 : FVec Ideal S2x8x128x16384 .bf16) : FVec Ideal S2x8x16384 .f32 :=
  Host.negf (addf (addf (shapeCast _ (extractStridedSlice S2x8x1x16384 ![0, 0, 67, 0] (extf .f32 a2 bitsLt_bf16_f32) slices_S2x8x128x16384_S2x8x1x16384_0_0_67_0) shapeCasts_S2x8x1x16384_S2x8x16384) (shapeCast _ (extractStridedSlice S2x8x1x16384 ![0, 0, 68, 0] (extf .f32 a2 bitsLt_bf16_f32) slices_S2x8x128x16384_S2x8x1x16384_0_0_68_0) shapeCasts_S2x8x1x16384_S2x8x16384)) (shapeCast _ (extractStridedSlice S2x8x1x16384 ![0, 0, 69, 0] (extf .f32 a2 bitsLt_bf16_f32) slices_S2x8x128x16384_S2x8x1x16384_0_0_69_0) shapeCasts_S2x8x1x16384_S2x8x16384))

/-- Which key blocks lie under the bound. -/
def deadR (a0 : FVec Ideal S1 .f32) (a2 : FVec Ideal S2x8x128x16384 .bf16) : IVec S2x8x32x32 1 :=
  cmpf .ogt (subf (broadcastInDim S2x8x32x32 ![0, 1, 2, 3] bcast_S2x8x1x32_S2x8x32x32_0_1_2_3 (broadcastInDim S2x8x1x32 ![0, 1, 3] bcast_S2x8x32_S2x8x1x32_0_1_3 (Host.slice S2x8x32 ![0, 0, 511] ![1, 1, 512] (cR a2) slicesBy_S2x8x16384_S2x8x32_0s1_0s1_511s512))) (broadcastInDim S2x8x32x32 ![0, 1, 2, 3] bcast_S2x8x32x1_S2x8x32x32_0_1_2_3 (broadcastInDim S2x8x32x1 ![0, 1, 2] bcast_S2x8x32_S2x8x32x1_0_1_2 (Host.slice S2x8x32 ![0, 0, 0] ![1, 1, 512] (cR a2) slicesBy_S2x8x16384_S2x8x32_0s1_0s1_0s512)))) (broadcastInDim S2x8x32x32 ![] bcast_S_S2x8x32x32 (addf (mulf (constant S_ .f32 0x40000000#32) (shapeCast _ a0 shapeCasts_S1_S_)) (constant S_ .f32 0x43200000#32)))

/-- Which key blocks are earlier. -/
def earlyR  : IVec S32x32 1 :=
  cmpi .slt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))

/-- One for each such block. -/
def markR (a0 : FVec Ideal S1 .f32) (a2 : FVec Ideal S2x8x128x16384 .bf16) : IVec S2x8x32x32 32 :=
  select (andi (broadcastInDim S2x8x32x32 ![0, 1, 2, 3] bcast_S1x1x32x32_S2x8x32x32_0_1_2_3 (broadcastInDim S1x1x32x32 ![2, 3] bcast_S32x32_S1x1x32x32_2_3 earlyR)) (deadR a0 a2)) (broadcastInDim S2x8x32x32 ![] bcast_S_S2x8x32x32 (constantI S_ 32 1#32)) (broadcastInDim S2x8x32x32 ![] bcast_S_S2x8x32x32 (constantI S_ 32 0#32))

/-- Their number, head by head. -/
def nR (a0 : FVec Ideal S1 .f32) (a2 : FVec Ideal S2x8x128x16384 .bf16) : IVec S2x8x32 32 :=
  Host.reduce IntOp.addi (id (markR a0 a2)) (constantI S_ 32 0#32) reducesTo_S2x8x32x32_S2x8x32_d3 h_S_

/-- The least over a group's heads. -/
def firstR (a0 : FVec Ideal S1 .f32) (a2 : FVec Ideal S2x8x128x16384 .bf16) : IVec S2x2x32 32 :=
  Host.reduce IntOp.minsi (shapeCast _ (nR a0 a2) shapeCasts_S2x8x32_S2x2x4x32) (constantI S_ 32 2147483647#32) reducesTo_S2x2x4x32_S2x2x32_d2 h_S_

/-- The first position attended to. -/
def startR (a0 : FVec Ideal S1 .f32) (a2 : FVec Ideal S2x8x128x16384 .bf16) : IVec S2x8x16384x1 32 :=
  muli (broadcastInDim S2x8x16384x1 ![] bcast_S_S2x8x16384x1 (constantI S_ 32 512#32)) (broadcastInDim S2x8x16384x1 ![0, 1, 2] bcast_S2x8x16384_S2x8x16384x1_0_1_2 (shapeCast _ (broadcastInDim S2x8x32x512 ![0, 1, 2] bcast_S2x8x32_S2x8x32x512_0_1_2 (shapeCast _ (broadcastInDim S2x2x4x32 ![0, 1, 3] bcast_S2x2x32_S2x2x4x32_0_1_3 (firstR a0 a2)) shapeCasts_S2x2x4x32_S2x8x32)) shapeCasts_S2x8x32x512_S2x8x16384))

/-- Which keys are not later than a query. -/
def causalR  : IVec S16384x16384 1 :=
  cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))

/-- Which keys lie in the blocks attended to. -/
def fromR (a0 : FVec Ideal S1 .f32) (a2 : FVec Ideal S2x8x128x16384 .bf16) : IVec S2x8x16384x16384 1 :=
  cmpi .sge (broadcastInDim S2x8x16384x16384 ![0, 1, 2, 3] bcast_S1x1x1x16384_S2x8x16384x16384_0_1_2_3 (broadcastInDim S1x1x1x16384 ![2, 3] bcast_S1x16384_S1x1x1x16384_2_3 (broadcastInDim S1x16384 ![1] bcast_S16384_S1x16384_1 (iotaInDim S16384 32 0)))) (broadcastInDim S2x8x16384x16384 ![0, 1, 2, 3] bcast_S2x8x16384x1_S2x8x16384x16384_0_1_2_3 (startR a0 a2))

/-- The scores. -/
def scoreR (a1 : FVec Ideal S2x8x16384x128 .bf16) (a2 : FVec Ideal S2x8x128x16384 .bf16) : FVec Ideal S2x8x16384x16384 .f32 :=
  Host.dotGeneral dot_S2x8x16384x128_S2x8x128x16384_S2x8x16384x16384_3_2_2_3_01_01 none (extf .f32 a1 bitsLt_bf16_f32) (extf .f32 a2 bitsLt_bf16_f32)

/-- The logits. -/
def logitR (a0 : FVec Ideal S1 .f32) (a1 : FVec Ideal S2x8x16384x128 .bf16) (a2 : FVec Ideal S2x8x128x16384 .bf16) : FVec Ideal S2x8x16384x16384 .f32 :=
  select (andi (broadcastInDim S2x8x16384x16384 ![0, 1, 2, 3] bcast_S1x1x16384x16384_S2x8x16384x16384_0_1_2_3 (broadcastInDim S1x1x16384x16384 ![2, 3] bcast_S16384x16384_S1x1x16384x16384_2_3 causalR)) (fromR a0 a2)) (scoreR a1 a2) (broadcastInDim S2x8x16384x16384 ![] bcast_S_S2x8x16384x16384 (id (constant S_ .f32 0xFF800000#32)))

/-- Their maxima. -/
def maxR (a0 : FVec Ideal S1 .f32) (a1 : FVec Ideal S2x8x16384x128 .bf16) (a2 : FVec Ideal S2x8x128x16384 .bf16) : FVec Ideal S2x8x16384 .f32 :=
  Host.reduce FloatOps.maximumf (logitR a0 a1 a2) (constant S_ .f32 0xFF800000#32) reducesTo_S2x8x16384x16384_S2x8x16384_d3 h_S_

/-- The weights. -/
def probR (a0 : FVec Ideal S1 .f32) (a1 : FVec Ideal S2x8x16384x128 .bf16) (a2 : FVec Ideal S2x8x128x16384 .bf16) : FVec Ideal S2x8x16384x16384 .f32 :=
  Host.powf (broadcastInDim S2x8x16384x16384 ![] bcast_S_S2x8x16384x16384 (constant S_ .f32 0x40000000#32)) (subf (logitR a0 a1 a2) (broadcastInDim S2x8x16384x16384 ![0, 1, 2, 3] bcast_S2x8x16384x1_S2x8x16384x16384_0_1_2_3 (broadcastInDim S2x8x16384x1 ![0, 1, 2] bcast_S2x8x16384_S2x8x16384x1_0_1_2 (maxR a0 a1 a2))))

/-- The weighted sums. -/
def accR (a0 : FVec Ideal S1 .f32) (a1 : FVec Ideal S2x8x16384x128 .bf16) (a2 : FVec Ideal S2x8x128x16384 .bf16) (a3 : FVec Ideal S2x8x16384x128 .bf16) : FVec Ideal S2x8x16384x128 .f32 :=
  Host.dotGeneral dot_S2x8x16384x16384_S2x8x16384x128_S2x8x16384x128_3_2_2_3_01_01 none (probR a0 a1 a2) (extf .f32 a3 bitsLt_bf16_f32)

theorem res_eq (m : (ℓ : Loc nD τ sig) → Buf (Elt Ideal) ℓ) (c : Dev nD) (a0 : FVec Ideal S1 .f32) (a1 : FVec Ideal S2x8x16384x128 .bf16) (a2 : FVec Ideal S2x8x128x16384 .bf16) (a3 : FVec Ideal S2x8x16384x128 .bf16)
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3) :
    res_main_v73 m c = truncf .bf16 (shapeCast _ (transpose S2x16384x8x64 [0, 2, 1, 3] (Host.divf (extractStridedSlice S2x8x16384x64 ![0, 0, 0, 0] (accR a0 a1 a2 a3) slices_S2x8x16384x128_S2x8x16384x64_0_0_0_0) (extractStridedSlice S2x8x16384x64 ![0, 0, 0, 64] (accR a0 a1 a2 a3) slices_S2x8x16384x128_S2x8x16384x64_0_0_0_64)) transposes_S2x8x16384x64_S2x16384x8x64_0_2_1_3) shapeCasts_S2x16384x8x64_S2x16384x512) bitsLt_bf16_f32 := by
  subst h0 h1 h2 h3
  rfl

/-- The four arguments by their coordinates. -/
abbrev x0F (a0 : FVec Ideal S1 .f32) : EReal := a0 (ix1 (0 : Fin 1))
abbrev qF (a1 : FVec Ideal S2x8x16384x128 .bf16) : Fin 2 → Fin 8 → Fin 16384 → Fin 128 → EReal := fun b h t k => a1 (ix4 b h t k)
abbrev kF (a2 : FVec Ideal S2x8x128x16384 .bf16) : Fin 2 → Fin 8 → Fin 128 → Fin 16384 → EReal := fun b h k s => a2 (ix4 b h k s)

theorem cR_at (a2 : FVec Ideal S2x8x128x16384 .bf16) (b : Fin 2) (h : Fin 8) (s : Fin 16384) :
    cR a2 (ix3 b h s) = Cert.Form.ck (kF a2) b h s := by
  unfold cR
  simp only [pointwise]
  unfold Cert.Form.ck
  refine congrArg Neg.neg (congrArg₂ (· + ·) (congrArg₂ (· + ·) ?_ ?_) ?_) <;> exact congrArg a2 (by congr 1 <;> exact Fin.ext (by simp))

theorem deadR_at (a0 : FVec Ideal S1 .f32) (a2 : FVec Ideal S2x8x128x16384 .bf16) (b : Fin 2) (h : Fin 8) (i n : Fin 32) :
    deadR a0 a2 (ix4 b h i n) = Cert.Form.deadBit (x0F a0) (kF a2) b h i n := by
  unfold deadR
  simp only [pointwise, Nat.reduceEqDiff, ↓reduceDIte, cR_at]
  unfold Cert.Form.deadBit
  refine congrArg₂ (FloatOps.cmpf (F := Ideal) (φ := .f32) .ogt) (congrArg₂ (fun x y : EReal => x - y) ?_ ?_) ?_
  · congr 1 <;> exact Fin.ext (by simp; try omega)
  · congr 1 <;> exact Fin.ext (by simp; try omega)
  · rfl

theorem earlyR_at  (i n : Fin 32) :
    earlyR  (ix2 i n) = (if n.val < i.val then 1#1 else 0#1) := by
  have hi := i.isLt
  have hn := n.isLt
  unfold earlyR
  simp only [pointwise, Nat.reduceEqDiff, ↓reduceDIte]
  exact Cert.Form.word_lt _ _ (by omega) (by omega)

theorem markR_at (a0 : FVec Ideal S1 .f32) (a2 : FVec Ideal S2x8x128x16384 .bf16) (b : Fin 2) (h : Fin 8) (i n : Fin 32) :
    markR a0 a2 (ix4 b h i n) = (if n.val < i.val ∧ Cert.Form.deadBit (x0F a0) (kF a2) b h i n = 1#1 then 1#32 else 0#32) := by
  unfold markR
  simp only [pointwise, Nat.reduceEqDiff, ↓reduceDIte, earlyR_at, deadR_at]
  generalize Cert.Form.deadBit (x0F a0) (kF a2) b h i n = c
  by_cases hn : n.val < i.val
  · rcases (show c = 0#1 ∨ c = 1#1 by revert c; decide) with rfl | rfl <;> simp [hn, IntOp.andi, Scalar.select]
  · rcases (show c = 0#1 ∨ c = 1#1 by revert c; decide) with rfl | rfl <;> simp [hn, IntOp.andi, Scalar.select]

theorem nR_at (a0 : FVec Ideal S1 .f32) (a2 : FVec Ideal S2x8x128x16384 .bf16) (b : Fin 2) (h : Fin 8) (i : Fin 32) :
    nR a0 a2 (ix3 b h i) = BitVec.ofNat 32 (Cert.Form.nDead (x0F a0) (kF a2) b h i) := by
  unfold nR
  simp only [pointwise]
  refine Eq.trans (congrArg (fun f => Finset.fold (IntOp.addi (w := 32)) 0#32 f Finset.univ) (funext fun k => ?_)) (Cert.Form.fold_addi Finset.univ fun n : Fin 32 => if n.val < i.val ∧ Cert.Form.deadBit (x0F a0) (kF a2) b h i n = 1#1 then 1 else 0)
  refine (markR_at a0 a2 b h i k).trans ?_
  split <;> rfl

theorem firstR_at (a0 : FVec Ideal S1 .f32) (a2 : FVec Ideal S2x8x128x16384 .bf16) (b : Fin 2) (g : Fin 2) (i : Fin 32) :
    firstR a0 a2 (ix3 b g i) = BitVec.ofNat 32 (Cert.Form.firstN (x0F a0) (kF a2) b g i) := by
  unfold firstR
  simp only [pointwise]
  rw [Cert.Form.fold_four]
  have e : ∀ k : Fin 4, (⟨g.val * 4 + k.val, by omega⟩ : Fin 8) = Cert.Form.hd g k := fun k => Fin.ext (by show g.val * 4 + k.val = 4 * g.val + k.val; omega)
  have d := fun k : Fin 4 => (congrArg (fun h => nR a0 a2 (ix3 b h i)) (e k)).trans (nR_at a0 a2 b (Cert.Form.hd g k) i)
  have l := fun k : Fin 4 => Cert.Form.nDead_le (x0F a0) (kF a2) b (Cert.Form.hd g k) i
  have l0 := l 0; have l1 := l 1; have l2 := l 2; have l3 := l 3
  rw [d 0, d 1, d 2, d 3]
  rw [show (2147483647#32 : BitVec 32) = BitVec.ofNat 32 2147483647 from rfl, Cert.Form.word_min _ _ (by omega) (by omega), Cert.Form.word_min _ _ (by omega) (by omega), Cert.Form.word_min _ _ (by omega) (by omega), Cert.Form.word_min _ _ (by omega) (by omega)]
  refine congrArg _ ?_
  unfold Cert.Form.firstN
  omega

theorem startR_at (a0 : FVec Ideal S1 .f32) (a2 : FVec Ideal S2x8x128x16384 .bf16) (b : Fin 2) (h : Fin 8) (t : Fin 16384) :
    startR a0 a2 (ix4 b h t (0 : Fin 1)) = BitVec.ofNat 32 (512 * Cert.Form.firstN (x0F a0) (kF a2) b (⟨h.val / 4, by omega⟩ : Fin 2) (⟨t.val / 512, by omega⟩ : Fin 32)) := by
  unfold startR
  simp only [pointwise, Nat.reduceEqDiff, ↓reduceDIte, firstR_at]
  exact (BitVec.ofNat_mul _ _).symm

theorem causalR_at  (t s : Fin 16384) :
    causalR  (ix2 t s) = (if s.val ≤ t.val then 1#1 else 0#1) := by
  have hi := t.isLt
  have hn := s.isLt
  unfold causalR
  simp only [pointwise, Nat.reduceEqDiff, ↓reduceDIte]
  exact Cert.Form.word_le _ _ (by omega) (by omega)

theorem fromR_at (a0 : FVec Ideal S1 .f32) (a2 : FVec Ideal S2x8x128x16384 .bf16) (b : Fin 2) (h : Fin 8) (t s : Fin 16384) :
    fromR a0 a2 (ix4 b h t s) = (if 512 * Cert.Form.firstN (x0F a0) (kF a2) b (⟨h.val / 4, by omega⟩ : Fin 2) (⟨t.val / 512, by omega⟩ : Fin 32) ≤ s.val then 1#1 else 0#1) := by
  have hs := s.isLt
  have l := Cert.Form.firstN_le (x0F a0) (kF a2) b (⟨h.val / 4, by omega⟩ : Fin 2) (⟨t.val / 512, by omega⟩ : Fin 32)
  have e := startR_at a0 a2 b h t
  unfold fromR
  generalize startR a0 a2 = w at e ⊢
  rw [cmpi_apply]
  refine Eq.trans (congrArg₂ (IntOp.cmpi .sge) ?_ ?_) (Cert.Form.word_ge s.val _ (by omega) (by omega))
  · rw [broadcastInDim_apply _ _ _ _ (ix4 (0 : Fin 1) (0 : Fin 1) (0 : Fin 1) s) (fun a => by fin_cases a <;> rfl)]
    rw [broadcastInDim_apply _ _ _ _ (ix2 (0 : Fin 1) s) (fun a => by fin_cases a <;> rfl)]
    rw [broadcastInDim_apply _ _ _ _ (ix1 s) (fun a => by fin_cases a <;> rfl)]
    rfl
  · rw [← e]
    exact broadcastInDim_apply _ _ _ _ (ix4 b h t (0 : Fin 1)) (fun a => by fin_cases a <;> rfl)

theorem scoreR_at (a1 : FVec Ideal S2x8x16384x128 .bf16) (a2 : FVec Ideal S2x8x128x16384 .bf16) (b : Fin 2) (h : Fin 8) (t s : Fin 16384) :
    scoreR a1 a2 (ix4 b h t s) = ∑ k : Fin 128, a1 (ix4 b h t k) * a2 (ix4 b h k s) := by
  unfold scoreR
  simp only [pointwise]
  exact zero_add _

theorem logitR_at (a0 : FVec Ideal S1 .f32) (a1 : FVec Ideal S2x8x16384x128 .bf16) (a2 : FVec Ideal S2x8x128x16384 .bf16) (b : Fin 2) (h : Fin 8) (t s : Fin 16384) :
    logitR a0 a1 a2 (ix4 b h t s) = Cert.Form.logit (x0F a0) (qF a1) (kF a2) b h t s := by
  have e1 := causalR_at t s
  have e2 := fromR_at a0 a2 b h t s
  have e3 := scoreR_at a1 a2 b h t s
  unfold logitR
  generalize causalR = w1 at e1 ⊢
  generalize fromR a0 a2 = w2 at e2 ⊢
  generalize scoreR a1 a2 = w3 at e3 ⊢
  show Scalar.select (IntOp.andi (broadcastInDim S2x8x16384x16384 ![0, 1, 2, 3] bcast_S1x1x16384x16384_S2x8x16384x16384_0_1_2_3 (broadcastInDim S1x1x16384x16384 ![2, 3] bcast_S16384x16384_S1x1x16384x16384_2_3 w1) (ix4 b h t s)) (w2 (ix4 b h t s))) (w3 (ix4 b h t s)) (Ideal.ofBits .f32 0xFF800000#32) = _
  rw [broadcastInDim_apply _ _ _ _ (ix4 (0 : Fin 1) (0 : Fin 1) t s) (fun a => by fin_cases a <;> rfl)]
  rw [broadcastInDim_apply _ _ _ _ (ix2 t s) (fun a => by fin_cases a <;> rfl)]
  rw [e1, e2, e3, Cert.Form.ofBits_neg_inf, Cert.Form.and_ite, Cert.Form.select_ite]
  rfl

theorem maxR_at (a0 : FVec Ideal S1 .f32) (a1 : FVec Ideal S2x8x16384x128 .bf16) (a2 : FVec Ideal S2x8x128x16384 .bf16) (b : Fin 2) (h : Fin 8) (t : Fin 16384) :
    maxR a0 a1 a2 (ix3 b h t) = Finset.univ.sup (Cert.Form.logit (x0F a0) (qF a1) (kF a2) b h t) := by
  unfold maxR
  simp only [pointwise]
  rw [Cert.Form.ofBits_neg_inf, Cert.Form.fold_max_eq_sup]
  exact congrArg (Finset.univ.sup) (funext fun s => logitR_at a0 a1 a2 b h t s)

theorem probR_at (a0 : FVec Ideal S1 .f32) (a1 : FVec Ideal S2x8x16384x128 .bf16) (a2 : FVec Ideal S2x8x128x16384 .bf16) (b : Fin 2) (h : Fin 8) (t s : Fin 16384) :
    probR a0 a1 a2 (ix4 b h t s) = Ideal.exp2 (Cert.Form.logit (x0F a0) (qF a1) (kF a2) b h t s - Finset.univ.sup (Cert.Form.logit (x0F a0) (qF a1) (kF a2) b h t)) := by
  unfold probR
  simp only [pointwise, Nat.reduceEqDiff, ↓reduceDIte, logitR_at, maxR_at]
  exact Cert.Form.pow_two_eq _

theorem accR_at (a0 : FVec Ideal S1 .f32) (a1 : FVec Ideal S2x8x16384x128 .bf16) (a2 : FVec Ideal S2x8x128x16384 .bf16) (a3 : FVec Ideal S2x8x16384x128 .bf16) (b : Fin 2) (h : Fin 8) (t : Fin 16384) (l : Fin 128) :
    accR a0 a1 a2 a3 (ix4 b h t l) = Cert.Form.acc (x0F a0) (qF a1) (kF a2) (qF a3) b h t l := by
  unfold accR
  simp only [pointwise, probR_at]
  exact zero_add _

theorem res_at (m : (ℓ : Loc nD τ sig) → Buf (Elt Ideal) ℓ) (c : Dev nD) (a0 : FVec Ideal S1 .f32) (a1 : FVec Ideal S2x8x16384x128 .bf16) (a2 : FVec Ideal S2x8x128x16384 .bf16) (a3 : FVec Ideal S2x8x16384x128 .bf16)
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3) (b : Fin 2) (t : Fin 16384) (l : Fin 512) :
    (res_main_v73 m c : S2x16384x512.Idx → EReal) (ix3 b t l) = Cert.Form.out (x0F a0) (qF a1) (kF a2) (qF a3) b t l := by
  rw [res_eq m c a0 a1 a2 a3 h0 h1 h2 h3]
  simp only [pointwise]
  unfold Cert.Form.out
  refine Eq.trans (congrArg₂ Ideal.div ?_ ?_) (congrArg₂ Ideal.div (accR_at a0 a1 a2 a3 b _ t _) (accR_at a0 a1 a2 a3 b _ t _))
  · refine congrArg (accR a0 a1 a2 a3) ?_
    congr 1 <;> exact Fin.ext (by simp)
  · refine congrArg (accR a0 a1 a2 a3) ?_
    congr 1 <;> exact Fin.ext (by simp)

end Cert.ReferenceIdeal.Fox

end
-- ==== Proof.FoxAlg.lean ====
/-
  The attention and its reference end with equal results.
-/
module

public import proofs.«01_k».proof.Defs
public import proofs.«01_k».proof.Proof.FoxArr
public import proofs.«01_k».proof.Proof.RefForm
public import Idealize.ShloMosaic.Adequacy

@[expose] public section

noncomputable section

namespace Cert.KernelIdeal.Fox

open Idealize.ShloMosaic Idealize.ShloMosaic.TcCoe Idealize.SL.Sem
open Cert.KernelIdeal Cert.KernelIdeal.Gen

/-- An index of three coordinates is the triple of them. -/
theorem idx_triple {n p q : ℕ} (j : (Shape.mk 3 ![n, p, q]).Idx) : j = ix3 (j 0 : Fin n) (j 1 : Fin p) (j 2 : Fin q) :=
  funext fun a => by fin_cases a <;> rfl

/-- Equal arguments give equal results. -/
theorem algebraic : Cert.algebraic_KernelIdeal_ReferenceIdeal (hKernelIdeal := Cert.KernelIdeal.Gen.facts) (hReferenceIdeal := Cert.ReferenceIdeal.Gen.facts) :=
  fun m g m' g' _ hagree => ⟨fun c => (dats (F := Ideal) m 0 c).arrAt 4 cfg0.N,
    run_blocks (F := Ideal) m g,
    (θ_run _ _ _).mono (fun r h c => ⟨(h c).1.trans (funext fun j : (Shape.mk 3 ![2, 16384, 512]).Idx => by
        rw [idx_triple j]
        exact (Cert.ReferenceIdeal.Fox.res_at m' c _ _ _ _ (hagree c).1 (hagree c).2.1 (hagree c).2.2.1 (hagree c).2.2.2 (j 0 : Fin 2) (j 1 : Fin 16384) (j 2 : Fin 512)).trans
          (arr_form m c _ _ _ _ rfl rfl rfl rfl (j 0 : Fin 2) (j 1 : Fin 16384) (j 2 : Fin 512)).symm),
      (h c).2⟩) (Cert.ReferenceIdeal.Value.run (F := Ideal) m' g')⟩

end Cert.KernelIdeal.Fox
-- ==== Proof.FfnForm.lean ====
/-
  The feed-forward block as a function of one row, and its sums cut into pieces.
-/
module

public import Idealize.ShloMosaic.PureOps.Ideal

@[expose] public section

noncomputable section

namespace Cert.Row

open Idealize.ShloMosaic

/-- A row scaled by the root of its mean square, and by the gains. -/
def rmsNorm (X g : Fin 1024 → EReal) (k : Fin 1024) : EReal :=
  X k * Ideal.rsqrt (Ideal.div (∑ j, X j * X j) (Ideal.ofBits .f32 0x44800000#32) + Ideal.ofBits .f32 0x358637BD#32) * g k

/-- A product of a row and a matrix. -/
def dot {n p : ℕ} (x : Fin n → EReal) (w : Fin n → Fin p → EReal) (j : Fin p) : EReal := ∑ k, x k * w k j

/-- The gated unitOf unit: its gate's column, and its value's. -/
def gated (a b : EReal) : EReal := a * Ideal.logistic a * b

/-- The hidden units. -/
def unitOf (h : Fin 1024 → EReal) (gu : Fin 1024 → Fin 5632 → EReal) (n : Fin 2816) : EReal :=
  gated (dot h gu ⟨n.val, by omega⟩) (dot h gu ⟨2816 + n.val, by omega⟩)

/-- A row of two halves. -/
def halves (ya yb : Fin 512 → EReal) (k : Fin 1024) : EReal :=
  if h : k.val < 512 then ya ⟨k.val, h⟩ else yb ⟨k.val - 512, by omega⟩

/-- The row after the mixer's product. -/
def mixed (x : Fin 1024 → EReal) (ya yb : Fin 512 → EReal) (wo : Fin 1024 → Fin 1024 → EReal) (j : Fin 1024) : EReal :=
  x j + dot (halves ya yb) wo j

/-- The row after the block. -/
def ffn (X g : Fin 1024 → EReal) (gu : Fin 1024 → Fin 5632 → EReal) (wd : Fin 2816 → Fin 1024 → EReal) (j : Fin 1024) : EReal :=
  X j + dot (unitOf (rmsNorm X g) gu) wd j

/-- A sum over the hidden units is the sum of its eleven pieces, taken in order. -/
theorem sum_pieces (x : EReal) (f : Fin 2816 → EReal) :
    x + (∑ s : Fin 256, f ⟨0 + s.val, by omega⟩) + (∑ s : Fin 256, f ⟨256 + s.val, by omega⟩) + (∑ s : Fin 256, f ⟨512 + s.val, by omega⟩)
      + (∑ s : Fin 256, f ⟨768 + s.val, by omega⟩) + (∑ s : Fin 256, f ⟨1024 + s.val, by omega⟩) + (∑ s : Fin 256, f ⟨1280 + s.val, by omega⟩)
      + (∑ s : Fin 256, f ⟨1536 + s.val, by omega⟩) + (∑ s : Fin 256, f ⟨1792 + s.val, by omega⟩) + (∑ s : Fin 256, f ⟨2048 + s.val, by omega⟩)
      + (∑ s : Fin 256, f ⟨2304 + s.val, by omega⟩) + (∑ s : Fin 256, f ⟨2560 + s.val, by omega⟩) = x + ∑ n, f n := by
  have h : ∑ n, f n = ∑ c : Fin 11, ∑ s : Fin 256, f ⟨256 * c.val + s.val, by omega⟩ := by
    rw [← Fintype.sum_prod_type' (f := fun (c : Fin 11) (s : Fin 256) => f ⟨256 * c.val + s.val, by omega⟩)]
    refine (Fintype.sum_equiv (finProdFinEquiv (m := 11) (n := 256)) _ f fun p => ?_).symm
    exact congrArg f (Fin.ext (by simp [finProdFinEquiv]; omega))
  rw [h]
  have key : ∀ G : Fin 11 → EReal, x + G 0 + G 1 + G 2 + G 3 + G 4 + G 5 + G 6 + G 7 + G 8 + G 9 + G 10 = x + ∑ c, G c := by
    intro G
    simp only [Fin.sum_univ_succ, Fin.sum_univ_zero, add_zero, add_assoc]
    rfl
  exact key fun c => ∑ s : Fin 256, f ⟨256 * c.val + s.val, by omega⟩

/-- A sum over a row of two halves. -/
theorem sum_halves (f : Fin 1024 → EReal) :
    (∑ s : Fin 512, f ⟨0 + s.val, by omega⟩) + (∑ s : Fin 512, f ⟨512 + s.val, by omega⟩) = ∑ n, f n := by
  have h : ∑ n, f n = ∑ c : Fin 2, ∑ s : Fin 512, f ⟨512 * c.val + s.val, by omega⟩ := by
    rw [← Fintype.sum_prod_type' (f := fun (c : Fin 2) (s : Fin 512) => f ⟨512 * c.val + s.val, by omega⟩)]
    refine (Fintype.sum_equiv (finProdFinEquiv (m := 2) (n := 512)) _ f fun p => ?_).symm
    exact congrArg f (Fin.ext (by simp [finProdFinEquiv]; omega))
  rw [h]
  have key : ∀ G : Fin 2 → EReal, G 0 + G 1 = ∑ c, G c := by
    intro G
    simp only [Fin.sum_univ_succ, Fin.sum_univ_zero, add_zero, add_assoc]
    rfl
  exact key fun c => ∑ s : Fin 512, f ⟨512 * c.val + s.val, by omega⟩

/-- The mixer's product is the sum of the products of the halves. -/
theorem mixed_eq (x : Fin 1024 → EReal) (ya yb : Fin 512 → EReal) (wo : Fin 1024 → Fin 1024 → EReal) (j : Fin 1024) :
    x j + ((∑ s : Fin 512, ya s * wo ⟨0 + s.val, by omega⟩ j) + ∑ s : Fin 512, yb s * wo ⟨512 + s.val, by omega⟩ j) = mixed x ya yb wo j := by
  unfold mixed dot
  rw [← sum_halves]
  refine congrArg (x j + ·) (congrArg₂ (· + ·) (Finset.sum_congr rfl fun s _ => ?_) (Finset.sum_congr rfl fun s _ => ?_))
  · have hs := s.isLt
    unfold halves
    rw [dif_pos (show 0 + s.val < 512 by omega)]
    exact congrArg (· * _) (congrArg ya (Fin.ext (by show s.val = 0 + s.val; omega)))
  · unfold halves
    rw [dif_neg (show ¬ 512 + s.val < 512 by omega)]
    exact congrArg (· * _) (congrArg yb (Fin.ext (by show s.val = 512 + s.val - 512; omega)))

end Cert.Row
-- ==== Proof.FfnVal.lean ====
/-
  The feed-forward block's result, one entry of a point's rows.
-/
module

public import proofs.«01_k».proof.Proof.Gen.Kernel2Ideal.Value
public import proofs.«01_k».proof.Proof.FfnForm
public import Idealize.ShloMosaic.Lib.Pointwise
public import Idealize.ShloMosaic.Lib.KernelVsHost
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Row

section Pieces
variable {F : FTy → Type} [FloatOps F]

/-- A product with a piece of the gates' columns. -/
def part (h : FVec F S512x1024 .bf16) (w : Vec F S1024x256 .bf16) : FVec F S512x256 .f32 :=
  matmul dot_S512x1024_S1024x256_S512x256_1_0_0_1_n_n none h (shapeCast S1024x256 w shapeCasts_S1024x256_S1024x256) (constant S512x256 .f32 0x00000000#32)

/-- What a piece of the hidden units adds. -/
def adds (h : FVec F S512x1024 .bf16) (wg wu : Vec F S1024x256 .bf16) (wd : Vec F S256x1024 .bf16) : FVec F S512x1024 .f32 :=
  matmul dot_S512x256_S256x1024_S512x1024_1_0_0_1_n_n none (truncf .bf16 (mulf (mulf (part h wg) (logistic (part h wg))) (part h wu)) bitsLt_bf16_f32)
    (shapeCast S256x1024 wd shapeCasts_S256x1024_S256x1024) (constant S512x1024 .f32 0x00000000#32)

/-- The rows before the hidden units. -/
abbrev base (x0 : Vec F S512x1024 .f32) (x1 : Vec F S512x512 .bf16) (x2 : Vec F S512x512 .bf16) (x3 : Vec F S1024x1024 .bf16) : FVec F S512x1024 .f32 :=
  k0_pay1 (View.ld x0 r0_0) (View.ld x1 r0_1) (View.ld x3 r0_2) (View.ld x2 r0_1) (View.ld x3 r0_3)

/-- The block is the rows and eleven pieces added in order. -/
theorem out_eq (x0 : Vec F S512x1024 .f32) (x1 : Vec F S512x512 .bf16) (x2 : Vec F S512x512 .bf16) (x3 : Vec F S1024x1024 .bf16) (x4 : Vec F S1x1024 .f32) (x5 : Vec F S1024x5632 .bf16) (x6 : Vec F S2816x1024 .bf16) :
    out0_7 x0 x1 x2 x3 x4 x5 x6 = View.canon [⟨r0_0, (addf (addf (addf (addf (addf (addf (addf (addf (addf (addf (addf (base x0 x1 x2 x3) (adds (k0_pay13 x0 x1 x2 x3 x4 x5 x6) (View.ld x5 r0_5) (View.ld x5 r0_6) (View.ld x6 r0_7))) (adds (k0_pay13 x0 x1 x2 x3 x4 x5 x6) (View.ld x5 r0_8) (View.ld x5 r0_9) (View.ld x6 r0_10))) (adds (k0_pay13 x0 x1 x2 x3 x4 x5 x6) (View.ld x5 r0_11) (View.ld x5 r0_12) (View.ld x6 r0_13))) (adds (k0_pay13 x0 x1 x2 x3 x4 x5 x6) (View.ld x5 r0_14) (View.ld x5 r0_15) (View.ld x6 r0_16))) (adds (k0_pay13 x0 x1 x2 x3 x4 x5 x6) (View.ld x5 r0_17) (View.ld x5 r0_18) (View.ld x6 r0_19))) (adds (k0_pay13 x0 x1 x2 x3 x4 x5 x6) (View.ld x5 r0_20) (View.ld x5 r0_21) (View.ld x6 r0_22))) (adds (k0_pay13 x0 x1 x2 x3 x4 x5 x6) (View.ld x5 r0_23) (View.ld x5 r0_24) (View.ld x6 r0_25))) (adds (k0_pay13 x0 x1 x2 x3 x4 x5 x6) (View.ld x5 r0_26) (View.ld x5 r0_27) (View.ld x6 r0_28))) (adds (k0_pay13 x0 x1 x2 x3 x4 x5 x6) (View.ld x5 r0_29) (View.ld x5 r0_30) (View.ld x6 r0_31))) (adds (k0_pay13 x0 x1 x2 x3 x4 x5 x6) (View.ld x5 r0_32) (View.ld x5 r0_33) (View.ld x6 r0_34))) (adds (k0_pay13 x0 x1 x2 x3 x4 x5 x6) (View.ld x5 r0_35) (View.ld x5 r0_36) (View.ld x6 r0_37)) : FVec F S512x1024 .f32)⟩] := rfl

end Pieces

theorem part_at (h : FVec Ideal S512x1024 .bf16) (w : Vec Ideal S1024x256 .bf16) (r : Fin 512) (s : Fin 256) :
    part (F := Ideal) h w (ix2 r s) = dot (fun k : Fin 1024 => h (ix2 r k)) (fun k s => w (ix2 k s)) s := by
  unfold part dot
  simp only [pointwise]
  exact zero_add _

theorem adds_at (h : FVec Ideal S512x1024 .bf16) (wg wu : Vec Ideal S1024x256 .bf16) (wd : Vec Ideal S256x1024 .bf16) (r : Fin 512) (j : Fin 1024) :
    adds (F := Ideal) h wg wu wd (ix2 r j) = ∑ s : Fin 256, gated (dot (fun k : Fin 1024 => h (ix2 r k)) (fun k s => wg (ix2 k s)) s) (dot (fun k : Fin 1024 => h (ix2 r k)) (fun k s => wu (ix2 k s)) s) * wd (ix2 s j) := by
  unfold adds gated
  simp only [pointwise, part_at]
  exact zero_add _

theorem pay1_at (v0 : Vec Ideal S512x1024 .f32) (v1 : Vec Ideal S512x512 .bf16) (v2 : Vec Ideal S512x1024 .bf16) (v5 : Vec Ideal S512x512 .bf16) (v6 : Vec Ideal S512x1024 .bf16) (r : Fin 512) (j : Fin 1024) :
    k0_pay1 (F := Ideal) v0 v1 v2 v5 v6 (ix2 r j) = v0 (ix2 r j) + ((∑ k : Fin 512, v1 (ix2 r k) * v2 (ix2 k j)) + ∑ k : Fin 512, v5 (ix2 r k) * v6 (ix2 k j)) := by
  unfold k0_pay1
  simp only [pointwise]
  exact congrArg (v0 (ix2 r j) + ·) (congrArg₂ (· + ·) (zero_add _) (zero_add _))

theorem pay2_at (v0 : Vec Ideal S512x1024 .f32) (v1 : Vec Ideal S512x512 .bf16) (v2 : Vec Ideal S512x1024 .bf16) (v5 : Vec Ideal S512x512 .bf16) (v6 : Vec Ideal S512x1024 .bf16) (g : Vec Ideal S1x1024 .f32) (r : Fin 512) (j : Fin 1024) :
    k0_pay2 (F := Ideal) v0 v1 v2 v5 v6 g (ix2 r j) = rmsNorm (fun j => k0_pay1 (F := Ideal) v0 v1 v2 v5 v6 (ix2 r j)) (fun k => g (ix2 (0 : Fin 1) k)) j := by
  unfold k0_pay2 rmsNorm
  generalize k0_pay1 (F := Ideal) v0 v1 v2 v5 v6 = X
  simp only [pointwise, Nat.reduceEqDiff, ↓reduceDIte]

/-- A load of a rectangle reads the buffer at its corner and the index. -/
theorem ld_at {n p n' p' : ℕ} {e : EltTy} (x : (Shape.mk 2 ![n, p]).Idx → Elt Ideal e) (o : Fin 2 → ℕ) (inb) (a : Fin n') (b : Fin p') (ha : o 0 + a.val < n) (hb : o 1 + b.val < p) :
    View.ld (Val := Elt Ideal) (S := Shape.mk 2 ![n, p]) x (Rect.unit (s := Shape.mk 2 ![n, p]) o (![n', p'] : Fin 2 → ℕ) inb) (ix2 a b) = x (ix2 (⟨o 0 + a.val, ha⟩ : Fin n) (⟨o 1 + b.val, hb⟩ : Fin p)) := by
  refine congrArg x (funext fun i => Fin.ext ?_)
  fin_cases i
  · show o 0 + 1 * a.val = o 0 + a.val
    omega
  · show o 1 + 1 * b.val = o 1 + b.val
    omega

theorem base_at (x0 : Vec Ideal S512x1024 .f32) (x1 : Vec Ideal S512x512 .bf16) (x2 : Vec Ideal S512x512 .bf16) (x3 : Vec Ideal S1024x1024 .bf16) (r : Fin 512) (j : Fin 1024) :
    base (F := Ideal) x0 x1 x2 x3 (ix2 r j) = mixed (fun j => x0 (ix2 r j)) (fun k => x1 (ix2 r k)) (fun k => x2 (ix2 r k)) (fun k j => x3 (ix2 k j)) j := by
  have hj := j.isLt
  have hr := r.isLt
  unfold base
  rw [pay1_at, ← mixed_eq]
  have e : ∀ (a b : ℕ) (h : a = b) (ha : a < 1024) (hb : b < 1024), (⟨a, ha⟩ : Fin 1024) = ⟨b, hb⟩ := fun a b h _ _ => Fin.ext h
  refine congrArg₂ (· + ·) ?_ (congrArg₂ (· + ·) (Finset.sum_congr rfl fun s _ => congrArg₂ (· * ·) ?_ ?_) (Finset.sum_congr rfl fun s _ => congrArg₂ (· * ·) ?_ ?_))
  · exact congrFun (View.ld_unit_lit _ x0 (by decide)) (ix2 r j)
  · exact congrFun (View.ld_unit_lit _ x1 (by decide)) (ix2 r s)
  · refine (ld_at x3 ![0, 0] _ s j (by show 0 + s.val < 1024; omega) (by show 0 + j.val < 1024; omega)).trans ?_
    exact congrArg x3 (congrArg₂ ix2 (Fin.ext rfl) (Fin.ext (by show 0 + j.val = j.val; omega)))
  · exact congrFun (View.ld_unit_lit _ x2 (by decide)) (ix2 r s)
  · refine (ld_at x3 ![512, 0] _ s j (by show 512 + s.val < 1024; omega) (by show 0 + j.val < 1024; omega)).trans ?_
    exact congrArg x3 (congrArg₂ ix2 (Fin.ext rfl) (Fin.ext (by show 0 + j.val = j.val; omega)))

theorem rows_at (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x5632 .bf16) (x6 : Vec Ideal S2816x1024 .bf16) (r : Fin 512) (k : Fin 1024) :
    k0_pay13 (F := Ideal) x0 x1 x2 x3 x4 x5 x6 (ix2 r k)
      = rmsNorm (mixed (fun j => x0 (ix2 r j)) (fun k => x1 (ix2 r k)) (fun k => x2 (ix2 r k)) (fun k j => x3 (ix2 k j))) (fun k => x4 (ix2 (0 : Fin 1) k)) k := by
  unfold k0_pay13
  rw [pay2_at]
  refine congrArg₂ (fun X g => rmsNorm X g k) (funext fun j => base_at x0 x1 x2 x3 r j) (funext fun j => ?_)
  exact congrFun (View.ld_unit_lit _ x4 (by decide)) (ix2 (0 : Fin 1) j)

/-- One piece of the hidden units, from its places in the weights. -/
theorem piece_at (h : FVec Ideal S512x1024 .bf16) (x5 : Vec Ideal S1024x5632 .bf16) (x6 : Vec Ideal S2816x1024 .bf16) (H : Fin 1024 → EReal) (r : Fin 512) (hH : ∀ k : Fin 1024, h (ix2 r k) = H k)
    (o : ℕ) (ho : o + 256 ≤ 2816) (og ou od : Fin 2 → ℕ) (hg : og = ![0, o]) (hu : ou = ![0, 2816 + o]) (hd : od = ![o, 0]) (ig iu id) (j : Fin 1024) :
    adds (F := Ideal) h (View.ld x5 (Rect.unit (s := S1024x5632) og S1024x256.size ig)) (View.ld x5 (Rect.unit (s := S1024x5632) ou S1024x256.size iu)) (View.ld x6 (Rect.unit (s := S2816x1024) od S256x1024.size id)) (ix2 r j)
      = ∑ s : Fin 256, unitOf H (fun k n => x5 (ix2 k n)) ⟨o + s.val, by omega⟩ * x6 (ix2 (⟨o + s.val, by omega⟩ : Fin 2816) j) := by
  subst hg hu hd
  have hj := j.isLt
  refine (adds_at _ _ _ _ r j).trans (Finset.sum_congr rfl fun s _ => congrArg₂ (· * ·) ?_ ?_)
  · have hs := s.isLt
    unfold unitOf dot
    refine congrArg₂ gated (Finset.sum_congr rfl fun k _ => congrArg₂ (· * ·) (hH k) ?_) (Finset.sum_congr rfl fun k _ => congrArg₂ (· * ·) (hH k) ?_)
    · have hk := k.isLt
      refine (ld_at x5 ![0, o] _ k s (by show 0 + k.val < 1024; omega) (by show o + s.val < 5632; omega)).trans ?_
      exact congrArg x5 (congrArg₂ ix2 (Fin.ext (by show 0 + k.val = k.val; omega)) rfl)
    · have hk := k.isLt
      refine (ld_at x5 ![0, 2816 + o] _ k s (by show 0 + k.val < 1024; omega) (by show 2816 + o + s.val < 5632; omega)).trans ?_
      exact congrArg x5 (congrArg₂ ix2 (Fin.ext (by show 0 + k.val = k.val; omega)) (Fin.ext (by show 2816 + o + s.val = 2816 + (o + s.val); omega)))
  · have hs := s.isLt
    refine (ld_at x6 ![o, 0] _ s j (by show o + s.val < 2816; omega) (by show 0 + j.val < 1024; omega)).trans ?_
    exact congrArg x6 (congrArg₂ ix2 rfl (Fin.ext (by show 0 + j.val = j.val; omega)))

/-- The block at one entry. -/
theorem out_at (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x5632 .bf16) (x6 : Vec Ideal S2816x1024 .bf16) (r : Fin 512) (j : Fin 1024) :
    out0_7 (F := Ideal) x0 x1 x2 x3 x4 x5 x6 (ix2 r j)
      = ffn (mixed (fun j => x0 (ix2 r j)) (fun k => x1 (ix2 r k)) (fun k => x2 (ix2 r k)) (fun k j => x3 (ix2 k j))) (fun k => x4 (ix2 (0 : Fin 1) k)) (fun k n => x5 (ix2 k n)) (fun n j => x6 (ix2 n j)) j := by
  rw [out_eq]
  refine (congrFun (View.canon_cons_unit_lit _ _ _ (by decide)) (ix2 r j)).trans ?_
  unfold ffn
  refine Eq.trans ?_ (sum_pieces _ _)
  iterate 11 refine congrArg₂ (· + ·) ?_ (piece_at _ x5 x6 _ r (fun k => rows_at x0 x1 x2 x3 x4 x5 x6 r k) _ (by omega) _ _ _ rfl rfl rfl _ _ _ j)
  exact base_at x0 x1 x2 x3 r j

end Cert.Kernel2Ideal.Ffn
-- ==== Proof.FfnArr.lean ====
/-
  The feed-forward block's array after the run, entry by entry.
-/
module

public import proofs.«01_k».proof.Proof.FfnVal

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Row
open Idealize.ShloMosaic.StableHlo

section Blocks
variable {F : FTy → Type} [FloatOps F]
variable (m : (ℓ : Loc nD τ sig) → Buf (Elt F) ℓ)

theorem coord (t : Fin cfg0.N) : (grid0.coords t 0).val = t.val :=
  (by decide +kernel : ∀ t : Fin grid0.N, (grid0.coords t 0).val = t.val) t

theorem lt64 (t : Fin cfg0.N) : t.val < 64 := t.isLt

/-- The weights and gains as the run finds them. -/
theorem V_main_v0 (c : Dev nD) : V m c main_v0 = truncf .bf16 (m ((c : Thread nD τ).loc main_arg3) : FVec F S1024x1024 .f32) bitsLt_bf16_f32 := by
  unfold V hostOps0
  after_results
theorem V_main_v1 (c : Dev nD) : V m c main_v1 = truncf .bf16 (m ((c : Thread nD τ).loc main_arg5) : FVec F S1024x5632 .f32) bitsLt_bf16_f32 := by
  unfold V hostOps0
  after_results
theorem V_main_v2 (c : Dev nD) : V m c main_v2 = truncf .bf16 (m ((c : Thread nD τ).loc main_arg6) : FVec F S2816x1024 .f32) bitsLt_bf16_f32 := by
  unfold V hostOps0
  after_results
theorem V_main_v3 (c : Dev nD) : V m c main_v3 = shapeCast S1x1024 (m ((c : Thread nD τ).loc main_arg4) : FVec F S1024 .f32) shapeCasts_S1024_S1x1024 := by
  unfold V hostOps0
  after_results
  rfl

theorem iblk0_at (c : Dev nD) (t : Fin cfg0.N) (r : Fin 512) (k : Fin 1024) :
    (iblk m c 0 t : S512x1024.Idx → Elt F .f32) (ix2 r k) = V m c main_arg0 (ix2 (⟨512 * t.val + r.val, by have := lt64 t; omega⟩ : Fin 32768) k) := by
  refine congrArg (V m c main_arg0) (funext fun a => Fin.ext ?_)
  have h0 := coord t
  have hlt := lt64 t
  fin_cases a
  · show (BitVec.ofNat 32 (grid0.coords t 0).val).toNat * 512 + 1 * r.val = 512 * t.val + r.val
    rw [h0, BitVec.toNat_ofNat]; omega
  · show 0 * 1024 + 1 * k.val = k.val
    omega

theorem iblk1_at (c : Dev nD) (t : Fin cfg0.N) (r : Fin 512) (k : Fin 512) :
    (iblk m c 1 t : S512x512.Idx → Elt F .bf16) (ix2 r k) = V m c main_arg1 (ix2 (⟨512 * t.val + r.val, by have := lt64 t; omega⟩ : Fin 32768) k) := by
  refine congrArg (V m c main_arg1) (funext fun a => Fin.ext ?_)
  have h0 := coord t
  have hlt := lt64 t
  fin_cases a
  · show (BitVec.ofNat 32 (grid0.coords t 0).val).toNat * 512 + 1 * r.val = 512 * t.val + r.val
    rw [h0, BitVec.toNat_ofNat]; omega
  · show 0 * 512 + 1 * k.val = k.val
    omega

theorem iblk2_at (c : Dev nD) (t : Fin cfg0.N) (r : Fin 512) (k : Fin 512) :
    (iblk m c 2 t : S512x512.Idx → Elt F .bf16) (ix2 r k) = V m c main_arg2 (ix2 (⟨512 * t.val + r.val, by have := lt64 t; omega⟩ : Fin 32768) k) := by
  refine congrArg (V m c main_arg2) (funext fun a => Fin.ext ?_)
  have h0 := coord t
  have hlt := lt64 t
  fin_cases a
  · show (BitVec.ofNat 32 (grid0.coords t 0).val).toNat * 512 + 1 * r.val = 512 * t.val + r.val
    rw [h0, BitVec.toNat_ofNat]; omega
  · show 0 * 512 + 1 * k.val = k.val
    omega

theorem iblk3_at (c : Dev nD) (t : Fin cfg0.N) (k : Fin 1024) (n : Fin 1024) :
    (iblk m c 3 t : S1024x1024.Idx → Elt F .bf16) (ix2 k n) = V m c main_v0 (ix2 k n) := by
  refine congrArg (V m c main_v0) (funext fun a => Fin.ext ?_)
  fin_cases a
  · show 0 * 1024 + 1 * k.val = k.val
    omega
  · show 0 * 1024 + 1 * n.val = n.val
    omega

theorem iblk4_at (c : Dev nD) (t : Fin cfg0.N) (k : Fin 1) (n : Fin 1024) :
    (iblk m c 4 t : S1x1024.Idx → Elt F .f32) (ix2 k n) = V m c main_v3 (ix2 k n) := by
  refine congrArg (V m c main_v3) (funext fun a => Fin.ext ?_)
  fin_cases a
  · show 0 * 1 + 1 * k.val = k.val
    omega
  · show 0 * 1024 + 1 * n.val = n.val
    omega

theorem iblk5_at (c : Dev nD) (t : Fin cfg0.N) (k : Fin 1024) (n : Fin 5632) :
    (iblk m c 5 t : S1024x5632.Idx → Elt F .bf16) (ix2 k n) = V m c main_v1 (ix2 k n) := by
  refine congrArg (V m c main_v1) (funext fun a => Fin.ext ?_)
  fin_cases a
  · show 0 * 1024 + 1 * k.val = k.val
    omega
  · show 0 * 5632 + 1 * n.val = n.val
    omega

theorem iblk6_at (c : Dev nD) (t : Fin cfg0.N) (k : Fin 2816) (n : Fin 1024) :
    (iblk m c 6 t : S2816x1024.Idx → Elt F .bf16) (ix2 k n) = V m c main_v2 (ix2 k n) := by
  refine congrArg (V m c main_v2) (funext fun a => Fin.ext ?_)
  fin_cases a
  · show 0 * 2816 + 1 * k.val = k.val
    omega
  · show 0 * 1024 + 1 * n.val = n.val
    omega

/-- Every point's block is written back. -/
theorem flush7 : ∀ t : Fin cfg0.N, (cfg0.win 7).flush t = true :=
  (by decide +kernel : ∀ t : Fin grid0.N, win0_7.flush t = true)

/-- The point that holds a row. -/
def pointOf (t : Fin 32768) : Fin cfg0.N := ⟨t.val / 512, by have := t.isLt; show t.val / 512 < 64; omega⟩

/-- One entry of the result's array. -/
theorem arr_at (c : Dev nD) (t : Fin 32768) (j : Fin 1024) :
    ((dats m 0 c).arrAt 7 cfg0.N : S32768x1024.Idx → Elt F .f32) (ix2 t j)
      = out0_7 (iblk m c 0 (pointOf t)) (iblk m c 1 (pointOf t)) (iblk m c 2 (pointOf t)) (iblk m c 3 (pointOf t)) (iblk m c 4 (pointOf t)) (iblk m c 5 (pointOf t)) (iblk m c 6 (pointOf t)) (ix2 (⟨t.val % 512, by omega⟩ : Fin 512) j) := by
  have ht := t.isLt
  have c0 := coord (pointOf t)
  have hp : (pointOf t).val = t.val / 512 := rfl
  have h := congrFun ((Value.blocks7 m c (pointOf t) (flush7 _)).trans (Value.flushed7 m c (pointOf t))) (ix2 (⟨t.val % 512, by omega⟩ : Fin 512) j)
  refine Eq.trans (congrArg ((dats m 0 c).arrAt 7 cfg0.N : S32768x1024.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 1024 + 1 * j.val
    omega

end Blocks

/-- The kernel's result, entry by entry. -/
theorem arr_form (m : (ℓ : Loc nD τ sig) → Buf (Elt Ideal) ℓ) (c : Dev nD) (a0 : FVec Ideal S32768x1024 .f32) (a1 a2 : FVec Ideal S32768x512 .bf16) (a3 : FVec Ideal S1024x1024 .f32) (a4 : FVec Ideal S1024 .f32) (a5 : FVec Ideal S1024x5632 .f32) (a6 : FVec Ideal S2816x1024 .f32)
    (h0 : m ((c : Thread nD τ).loc main_arg0) = a0) (h1 : m ((c : Thread nD τ).loc main_arg1) = a1) (h2 : m ((c : Thread nD τ).loc main_arg2) = a2) (h3 : m ((c : Thread nD τ).loc main_arg3) = a3)
    (h4 : m ((c : Thread nD τ).loc main_arg4) = a4) (h5 : m ((c : Thread nD τ).loc main_arg5) = a5) (h6 : m ((c : Thread nD τ).loc main_arg6) = a6) (t : Fin 32768) (j : Fin 1024) :
    ((dats m 0 c).arrAt 7 cfg0.N : S32768x1024.Idx → EReal) (ix2 t j)
      = ffn (mixed (fun j => a0 (ix2 t j)) (fun k => a1 (ix2 t k)) (fun k => a2 (ix2 t k)) (fun k j => a3 (ix2 k j))) (fun k => a4 (ix1 k)) (fun k n => a5 (ix2 k n)) (fun n j => a6 (ix2 n j)) j := by
  have ht := t.isLt
  have hp : (pointOf t).val = t.val / 512 := rfl
  have hr : ∀ h, (⟨512 * (pointOf t).val + t.val % 512, h⟩ : Fin 32768) = t := fun h => Fin.ext (by show 512 * (pointOf t).val + t.val % 512 = t.val; omega)
  refine (arr_at m c t j).trans ((out_at _ _ _ _ _ _ _ _ j).trans ?_)
  have e0 : (fun j : Fin 1024 => iblk m c 0 (pointOf t) (ix2 (⟨t.val % 512, by omega⟩ : Fin 512) j)) = fun j => a0 (ix2 t j) := funext fun j => by
    refine (iblk0_at m c (pointOf t) _ j).trans ?_
    rw [V_main_arg0, h0]
    exact congrArg (fun x => a0 (ix2 x j)) (hr _)
  have e1 : (fun j : Fin 512 => iblk m c 1 (pointOf t) (ix2 (⟨t.val % 512, by omega⟩ : Fin 512) j)) = fun j => a1 (ix2 t j) := funext fun j => by
    refine (iblk1_at m c (pointOf t) _ j).trans ?_
    rw [V_main_arg1, h1]
    exact congrArg (fun x => a1 (ix2 x j)) (hr _)
  have e2 : (fun j : Fin 512 => iblk m c 2 (pointOf t) (ix2 (⟨t.val % 512, by omega⟩ : Fin 512) j)) = fun j => a2 (ix2 t j) := funext fun j => by
    refine (iblk2_at m c (pointOf t) _ j).trans ?_
    rw [V_main_arg2, h2]
    exact congrArg (fun x => a2 (ix2 x j)) (hr _)
  have e3 : (fun (k j : Fin 1024) => iblk m c 3 (pointOf t) (ix2 k j)) = fun k j => a3 (ix2 k j) := funext fun k => funext fun j => by
    refine (iblk3_at m c (pointOf t) k j).trans ?_
    rw [V_main_v0, h3]
    rfl
  have e4 : (fun j : Fin 1024 => iblk m c 4 (pointOf t) (ix2 (0 : Fin 1) j)) = fun j => a4 (ix1 j) := funext fun j => by
    refine (iblk4_at m c (pointOf t) 0 j).trans ?_
    rw [V_main_v3, h4]
    simp only [pointwise]
  have e5 : (fun (k : Fin 1024) (j : Fin 5632) => iblk m c 5 (pointOf t) (ix2 k j)) = fun k j => a5 (ix2 k j) := funext fun k => funext fun j => by
    refine (iblk5_at m c (pointOf t) k j).trans ?_
    rw [V_main_v1, h5]
    rfl
  have e6 : (fun (k : Fin 2816) (j : Fin 1024) => iblk m c 6 (pointOf t) (ix2 k j)) = fun k j => a6 (ix2 k j) := funext fun k => funext fun j => by
    refine (iblk6_at m c (pointOf t) k j).trans ?_
    rw [V_main_v2, h6]
    rfl
  rw [e0, e1, e2, e3, e4, e5, e6]

end Cert.Kernel2Ideal.Ffn
-- ==== Proof.FfnRef.lean ====
/-
  The feed-forward reference's result at one entry.
-/
module

public import proofs.«01_k».proof.Proof.Gen.Reference2Ideal.Run
public import proofs.«01_k».proof.Proof.FfnForm
public import Idealize.ShloMosaic.Lib.Pointwise

@[expose] public section

noncomputable section

namespace Cert.Reference2Ideal.Ffn

open Cert.Reference2Ideal Cert.Reference2Ideal.Gen Cert.Reference2Ideal.Value Idealize.ShloMosaic Idealize.ShloMosaic.TcCoe Idealize.SL.Sem Cert.Row

/-- The mixers' outputs side by side. -/
def catR (a1 a2 : FVec Ideal S32768x512 .bf16) : FVec Ideal S32768x1024 .bf16 :=
  concatenate S32768x1024 1 [⟨S32768x512, a1⟩, ⟨S32768x512, a2⟩] concatenates_S32768x512_S32768x512_S32768x1024_d1

/-- The rows after the mixers' product. -/
def xR (a0 : FVec Ideal S32768x1024 .f32) (a1 a2 : FVec Ideal S32768x512 .bf16) (a3 : FVec Ideal S1024x1024 .f32) : FVec Ideal S32768x1024 .f32 :=
  addf a0 (Host.dotGeneral dot_S32768x1024_S1024x1024_S32768x1024_1_0_0_1_n_n none (extf .f32 (catR a1 a2) bitsLt_bf16_f32) a3)

/-- The rows' sums of squares. -/
def sqR (x : FVec Ideal S32768x1024 .f32) : FVec Ideal S32768 .f32 :=
  Host.reduceAdd (mulf x x) (constant S_ .f32 0x00000000#32) reducesTo_S32768x1024_S32768_d1 h_S_

/-- The rows' scales. -/
def scaleR (x : FVec Ideal S32768x1024 .f32) : FVec Ideal S32768x1 .f32 :=
  Host.rsqrt (addf (Host.divf (broadcastInDim S32768x1 ![0] bcast_S32768_S32768x1_0 (sqR x)) (broadcastInDim S32768x1 ![] bcast_S_S32768x1 (constant S_ .f32 0x44800000#32))) (broadcastInDim S32768x1 ![] bcast_S_S32768x1 (constant S_ .f32 0x358637BD#32)))

/-- The normalized rows. -/
def hR (x : FVec Ideal S32768x1024 .f32) (a4 : FVec Ideal S1024 .f32) : FVec Ideal S32768x1024 .f32 :=
  mulf (mulf x (broadcastInDim S32768x1024 ![0, 1] bcast_S32768x1_S32768x1024_0_1 (scaleR x))) (broadcastInDim S32768x1024 ![0, 1] bcast_S1x1024_S32768x1024_0_1 (broadcastInDim S1x1024 ![1] bcast_S1024_S1x1024_1 a4))

/-- Gates and values. -/
def guR (h : FVec Ideal S32768x1024 .f32) (a5 : FVec Ideal S1024x5632 .f32) : FVec Ideal S32768x5632 .f32 :=
  Host.dotGeneral dot_S32768x1024_S1024x5632_S32768x5632_1_0_0_1_n_n none h a5

/-- The hidden units. -/
def actR (gu : FVec Ideal S32768x5632 .f32) : FVec Ideal S32768x2816 .f32 :=
  mulf (mulf (extractStridedSlice S32768x2816 ![0, 0] gu slices_S32768x5632_S32768x2816_0_0) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (extractStridedSlice S32768x2816 ![0, 0] gu slices_S32768x5632_S32768x2816_0_0)))))) (extractStridedSlice S32768x2816 ![0, 2816] gu slices_S32768x5632_S32768x2816_0_2816)

theorem res_eq (m : (ℓ : Loc nD τ sig) → Buf (Elt Ideal) ℓ) (c : Dev nD) (a0 : FVec Ideal S32768x1024 .f32) (a1 a2 : FVec Ideal S32768x512 .bf16) (a3 : FVec Ideal S1024x1024 .f32) (a4 : FVec Ideal S1024 .f32) (a5 : FVec Ideal S1024x5632 .f32) (a6 : FVec Ideal S2816x1024 .f32)
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5) (h6 : m ((c.tc : Thread nD τ).loc main_arg6) = a6) :
    res_main_v23 m c = addf (xR a0 a1 a2 a3) (Host.dotGeneral dot_S32768x2816_S2816x1024_S32768x1024_1_0_0_1_n_n none (actR (guR (hR (xR a0 a1 a2 a3) a4) a5)) a6) := by
  subst h0 h1 h2 h3 h4 h5 h6
  rfl

theorem one_word : Ideal.ofBits .f32 0x3F800000#32 = (1 : EReal) := by
  simp [Ideal.ofBits, Ideal.ieee]
  rw [← EReal.coe_mul]
  norm_num

theorem catR_at (a1 a2 : FVec Ideal S32768x512 .bf16) (t : Fin 32768) (k : Fin 1024) :
    catR a1 a2 (ix2 t k) = halves (fun k => a1 (ix2 t k)) (fun k => a2 (ix2 t k)) k := by
  unfold catR
  simp only [pointwise, Nat.reduceEqDiff, ↓reduceDIte]
  unfold halves
  split
  · rename_i h
    exact congrArg a1 (funext fun a => Fin.ext (by fin_cases a <;> simp))
  · rename_i h
    exact congrArg a2 (funext fun a => Fin.ext (by fin_cases a <;> simp))

theorem xR_at (a0 : FVec Ideal S32768x1024 .f32) (a1 a2 : FVec Ideal S32768x512 .bf16) (a3 : FVec Ideal S1024x1024 .f32) (t : Fin 32768) (j : Fin 1024) :
    xR a0 a1 a2 a3 (ix2 t j) = mixed (fun j => a0 (ix2 t j)) (fun k => a1 (ix2 t k)) (fun k => a2 (ix2 t k)) (fun k j => a3 (ix2 k j)) j := by
  unfold xR mixed dot
  simp only [pointwise, Nat.reduceEqDiff, ↓reduceDIte, catR_at, zero_add]

theorem sqR_at (x : FVec Ideal S32768x1024 .f32) (t : Fin 32768) :
    sqR x (ix1 t) = ∑ j : Fin 1024, x (ix2 t j) * x (ix2 t j) := by
  unfold sqR
  simp only [pointwise, Nat.reduceEqDiff, ↓reduceDIte, Ideal.ofBits_zero, zero_add]

theorem scaleR_at (x : FVec Ideal S32768x1024 .f32) (t : Fin 32768) :
    scaleR x (ix2 t (0 : Fin 1)) = Ideal.rsqrt (Ideal.div (∑ j : Fin 1024, x (ix2 t j) * x (ix2 t j)) (Ideal.ofBits .f32 0x44800000#32) + Ideal.ofBits .f32 0x358637BD#32) := by
  unfold scaleR
  simp only [pointwise, Nat.reduceEqDiff, ↓reduceDIte, sqR_at]

theorem hR_at (x : FVec Ideal S32768x1024 .f32) (a4 : FVec Ideal S1024 .f32) (t : Fin 32768) (k : Fin 1024) :
    hR x a4 (ix2 t k) = rmsNorm (fun j => x (ix2 t j)) (fun k => a4 (ix1 k)) k := by
  unfold hR
  simp only [pointwise, Nat.reduceEqDiff, ↓reduceDIte, scaleR_at]
  rfl

theorem guR_at (h : FVec Ideal S32768x1024 .f32) (a5 : FVec Ideal S1024x5632 .f32) (t : Fin 32768) (n : Fin 5632) :
    guR h a5 (ix2 t n) = dot (fun k => h (ix2 t k)) (fun k n => a5 (ix2 k n)) n := by
  unfold guR dot
  simp only [pointwise, Nat.reduceEqDiff, ↓reduceDIte, zero_add]

theorem actR_at (gu : FVec Ideal S32768x5632 .f32) (t : Fin 32768) (n : Fin 2816) :
    actR gu (ix2 t n) = gated (gu (ix2 t (⟨n.val, by omega⟩ : Fin 5632))) (gu (ix2 t (⟨2816 + n.val, by omega⟩ : Fin 5632))) := by
  unfold actR gated Ideal.logistic
  simp only [pointwise, Nat.reduceEqDiff, ↓reduceDIte, one_word]
  have e0 : (gu (ix2 t (⟨n.val, by omega⟩ : Fin 5632))) = gu (ix2 (⟨0 + t.val, by omega⟩ : Fin 32768) (⟨0 + n.val, by omega⟩ : Fin 5632)) :=
    congrArg₂ (fun x y => gu (ix2 x y)) (Fin.ext (Nat.zero_add _).symm) (Fin.ext (Nat.zero_add _).symm)
  have e1 : (gu (ix2 t (⟨2816 + n.val, by omega⟩ : Fin 5632))) = gu (ix2 (⟨0 + t.val, by omega⟩ : Fin 32768) (⟨2816 + n.val, by omega⟩ : Fin 5632)) :=
    congrArg (fun x => gu (ix2 x _)) (Fin.ext (Nat.zero_add _).symm)
  rw [e0, e1]
  rfl

/-- The reference's result, entry by entry. -/
theorem res_at (m : (ℓ : Loc nD τ sig) → Buf (Elt Ideal) ℓ) (c : Dev nD) (a0 : FVec Ideal S32768x1024 .f32) (a1 a2 : FVec Ideal S32768x512 .bf16) (a3 : FVec Ideal S1024x1024 .f32) (a4 : FVec Ideal S1024 .f32) (a5 : FVec Ideal S1024x5632 .f32) (a6 : FVec Ideal S2816x1024 .f32)
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5) (h6 : m ((c.tc : Thread nD τ).loc main_arg6) = a6) (t : Fin 32768) (j : Fin 1024) :
    (res_main_v23 m c : S32768x1024.Idx → EReal) (ix2 t j) = ffn (mixed (fun j => a0 (ix2 t j)) (fun k => a1 (ix2 t k)) (fun k => a2 (ix2 t k)) (fun k j => a3 (ix2 k j))) (fun k => a4 (ix1 k)) (fun k n => a5 (ix2 k n)) (fun n j => a6 (ix2 n j)) j := by
  rw [res_eq m c a0 a1 a2 a3 a4 a5 a6 h0 h1 h2 h3 h4 h5 h6]
  simp only [pointwise, Nat.reduceEqDiff, ↓reduceDIte, actR_at, guR_at, hR_at, xR_at, zero_add]
  rfl

end Cert.Reference2Ideal.Ffn
-- ==== Proof.FfnAlg.lean ====
/-
  The feed-forward block and its reference end with equal results.
-/
module

public import proofs.«01_k».proof.Defs
public import proofs.«01_k».proof.Proof.FfnArr
public import proofs.«01_k».proof.Proof.FfnRef
public import Idealize.ShloMosaic.Adequacy

@[expose] public section

noncomputable section

namespace Cert.Kernel2Ideal.Ffn

open Idealize.ShloMosaic Idealize.ShloMosaic.TcCoe Idealize.SL.Sem
open Cert.Kernel2Ideal Cert.Kernel2Ideal.Gen

/-- An index of two coordinates is the pair of them. -/
theorem idx_pair {n p : ℕ} (j : (Shape.mk 2 ![n, p]).Idx) : j = ix2 (j 0 : Fin n) (j 1 : Fin p) :=
  funext fun a => by fin_cases a <;> rfl

/-- Equal arguments give equal results. -/
theorem algebraic : Cert.algebraic_Kernel2Ideal_Reference2Ideal (hKernel2Ideal := Cert.Kernel2Ideal.Gen.facts) (hReference2Ideal := Cert.Reference2Ideal.Gen.facts) :=
  fun m g m' g' _ hagree => ⟨fun c => (dats (F := Ideal) m 0 c).arrAt 7 cfg0.N,
    Value.run_blocks (F := Ideal) m g,
    (θ_run _ _ _).mono (fun r h c => ⟨(h c).1.trans (funext fun j : (Shape.mk 2 ![32768, 1024]).Idx => by
        rw [idx_pair j]
        exact (Cert.Reference2Ideal.Ffn.res_at m' c _ _ _ _ _ _ _ (hagree c).1 (hagree c).2.1 (hagree c).2.2.1 (hagree c).2.2.2.1 (hagree c).2.2.2.2.1 (hagree c).2.2.2.2.2.1 (hagree c).2.2.2.2.2.2 (j 0 : Fin 32768) (j 1 : Fin 1024)).trans
          (arr_form m c _ _ _ _ _ _ _ rfl rfl rfl rfl rfl rfl rfl (j 0 : Fin 32768) (j 1 : Fin 1024)).symm),
      (h c).2⟩) (Cert.Reference2Ideal.Value.run (F := Ideal) m' g')⟩

end Cert.Kernel2Ideal.Ffn
-- ==== Proof.Proj3Val.lean ====
/-
  The even layers' input product, one entry of a point's rows.
-/
module

public import proofs.«01_k».proof.Proof.Gen.Kernel3Ideal.Value
public import proofs.«01_k».proof.Proof.FfnForm
public import Idealize.ShloMosaic.Lib.Pointwise
public import Idealize.ShloMosaic.Lib.KernelVsHost
public import Idealize.ShloMosaic.Lib.Pipeline.ValueKit

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen Cert.Row

section Products
variable {F : FTy → Type} [FloatOps F]

/-- A product with 128 columns of the weights. -/
def mm128 (h : FVec F S512x1024 .bf16) (w : Vec F S1024x128 .bf16) : FVec F S512x128 .f32 :=
  matmul dot_S512x1024_S1024x128_S512x128_1_0_0_1_n_n none h (shapeCast S1024x128 w shapeCasts_S1024x128_S1024x128) (constant S512x128 .f32 0x00000000#32)

/-- A product with 512 columns of the weights. -/
def mm512 (h : FVec F S512x1024 .bf16) (w : Vec F S1024x512 .bf16) : FVec F S512x512 .f32 :=
  matmul dot_S512x1024_S1024x512_S512x512_1_0_0_1_n_n none h (shapeCast S1024x512 w shapeCasts_S1024x512_S1024x512) (constant S512x512 .f32 0x00000000#32)

/-- A product with 1024 columns of the weights. -/
def mm1024 (h : FVec F S512x1024 .bf16) (w : Vec F S1024x1024 .bf16) : FVec F S512x1024 .f32 :=
  matmul dot_S512x1024_S1024x1024_S512x1024_1_0_0_1_n_n none h (shapeCast S1024x1024 w shapeCasts_S1024x1024_S1024x1024) (constant S512x1024 .f32 0x00000000#32)

theorem out_eq3 (x0 : Vec F S512x1024 .f32) (x1 : Vec F S1x1024 .f32) (x2 : Vec F S1024x3200 .bf16) :
    out0_3 x0 x1 x2 = View.canon [⟨r0_0, mm1024 (k0_pay3 (View.ld x0 r0_0) (View.ld x1 r0_1)) (View.ld x2 r0_2)⟩] := rfl

theorem out_eq4 (x0 : Vec F S512x1024 .f32) (x1 : Vec F S1x1024 .f32) (x2 : Vec F S1024x3200 .bf16) :
    out0_4 x0 x1 x2 = View.canon [⟨r0_4, mm512 (k0_pay3 (View.ld x0 r0_0) (View.ld x1 r0_1)) (View.ld x2 r0_3)⟩] := rfl

theorem out_eq5 (x0 : Vec F S512x1024 .f32) (x1 : Vec F S1x1024 .f32) (x2 : Vec F S1024x3200 .bf16) :
    out0_5 x0 x1 x2 = View.canon [⟨r0_4, mm512 (k0_pay3 (View.ld x0 r0_0) (View.ld x1 r0_1)) (View.ld x2 r0_5)⟩] := rfl

theorem out_eq6 (x0 : Vec F S512x1024 .f32) (x1 : Vec F S1x1024 .f32) (x2 : Vec F S1024x3200 .bf16) :
    out0_6 x0 x1 x2 = View.canon [⟨r0_4, mm512 (k0_pay3 (View.ld x0 r0_0) (View.ld x1 r0_1)) (View.ld x2 r0_6)⟩] := rfl

theorem out_eq7 (x0 : Vec F S512x1024 .f32) (x1 : Vec F S1x1024 .f32) (x2 : Vec F S1024x3200 .bf16) :
    out0_7 x0 x1 x2 = View.canon [⟨r0_4, mm512 (k0_pay3 (View.ld x0 r0_0) (View.ld x1 r0_1)) (View.ld x2 r0_7)⟩] := rfl

theorem out_eq8 (x0 : Vec F S512x1024 .f32) (x1 : Vec F S1x1024 .f32) (x2 : Vec F S1024x3200 .bf16) :
    out0_8 x0 x1 x2 = View.canon [⟨r0_9, mm128 (k0_pay3 (View.ld x0 r0_0) (View.ld x1 r0_1)) (View.ld x2 r0_8)⟩] := rfl

end Products

theorem mm128_at (h : FVec Ideal S512x1024 .bf16) (w : Vec Ideal S1024x128 .bf16) (r : Fin 512) (s : Fin 128) :
    mm128 (F := Ideal) h w (ix2 r s) = dot (fun k : Fin 1024 => h (ix2 r k)) (fun k s => w (ix2 k s)) s := by
  unfold mm128 dot
  simp only [pointwise]
  exact zero_add _

theorem mm512_at (h : FVec Ideal S512x1024 .bf16) (w : Vec Ideal S1024x512 .bf16) (r : Fin 512) (s : Fin 512) :
    mm512 (F := Ideal) h w (ix2 r s) = dot (fun k : Fin 1024 => h (ix2 r k)) (fun k s => w (ix2 k s)) s := by
  unfold mm512 dot
  simp only [pointwise]
  exact zero_add _

theorem mm1024_at (h : FVec Ideal S512x1024 .bf16) (w : Vec Ideal S1024x1024 .bf16) (r : Fin 512) (s : Fin 1024) :
    mm1024 (F := Ideal) h w (ix2 r s) = dot (fun k : Fin 1024 => h (ix2 r k)) (fun k s => w (ix2 k s)) s := by
  unfold mm1024 dot
  simp only [pointwise]
  exact zero_add _

theorem rows_at (v0 : Vec Ideal S512x1024 .f32) (g : Vec Ideal S1x1024 .f32) (r : Fin 512) (j : Fin 1024) :
    k0_pay3 (F := Ideal) v0 g (ix2 r j) = rmsNorm (fun j => v0 (ix2 r j)) (fun k => g (ix2 (0 : Fin 1) k)) j := by
  unfold k0_pay3 rmsNorm
  simp only [pointwise, Nat.reduceEqDiff, ↓reduceDIte]

/-- A load of a rectangle reads the buffer at its corner and the index. -/
theorem ld_at {n p n' p' : ℕ} {e : EltTy} (x : (Shape.mk 2 ![n, p]).Idx → Elt Ideal e) (o : Fin 2 → ℕ) (inb) (a : Fin n') (b : Fin p') (ha : o 0 + a.val < n) (hb : o 1 + b.val < p) :
    View.ld (Val := Elt Ideal) (S := Shape.mk 2 ![n, p]) x (Rect.unit (s := Shape.mk 2 ![n, p]) o (![n', p'] : Fin 2 → ℕ) inb) (ix2 a b) = x (ix2 (⟨o 0 + a.val, ha⟩ : Fin n) (⟨o 1 + b.val, hb⟩ : Fin p)) := by
  refine congrArg x (funext fun i => Fin.ext ?_)
  fin_cases i
  · show o 0 + 1 * a.val = o 0 + a.val
    omega
  · show o 1 + 1 * b.val = o 1 + b.val
    omega

theorem rowsAll_at (x0 : Vec Ideal S512x1024 .f32) (x1 : Vec Ideal S1x1024 .f32) (r : Fin 512) (k : Fin 1024) :
    k0_pay3 (F := Ideal) (View.ld x0 r0_0) (View.ld x1 r0_1) (ix2 r k) = rmsNorm (fun j => x0 (ix2 r j)) (fun k => x1 (ix2 (0 : Fin 1) k)) k := by
  rw [rows_at]
  refine congrArg₂ (fun X g => rmsNorm X g k) (funext fun j => ?_) (funext fun j => ?_)
  · exact congrFun (View.ld_unit_lit _ x0 (by decide)) (ix2 r j)
  · exact congrFun (View.ld_unit_lit _ x1 (by decide)) (ix2 (0 : Fin 1) j)

theorem out_at3 (x0 : Vec Ideal S512x1024 .f32) (x1 : Vec Ideal S1x1024 .f32) (x2 : Vec Ideal S1024x3200 .bf16) (r : Fin 512) (j : Fin 1024) :
    out0_3 (F := Ideal) x0 x1 x2 (ix2 r j) = dot (rmsNorm (fun j => x0 (ix2 r j)) (fun k => x1 (ix2 (0 : Fin 1) k))) (fun k n => x2 (ix2 k n)) (⟨0 + j.val, by omega⟩ : Fin 3200) := by
  rw [out_eq3]
  refine (congrFun (View.canon_cons_unit_lit _ _ _ (by decide)) (ix2 r j)).trans ?_
  rw [mm1024_at]
  unfold dot
  refine Finset.sum_congr rfl fun k _ => congrArg₂ (· * ·) (rowsAll_at x0 x1 r k) ?_
  have hj := j.isLt
  have hk := k.isLt
  refine (ld_at x2 ![0, 0] _ k j (by show 0 + k.val < 1024; omega) (by show 0 + j.val < 3200; omega)).trans ?_
  exact congrArg x2 (congrArg₂ ix2 (Fin.ext (by show 0 + k.val = k.val; omega)) rfl)

theorem out_at4 (x0 : Vec Ideal S512x1024 .f32) (x1 : Vec Ideal S1x1024 .f32) (x2 : Vec Ideal S1024x3200 .bf16) (r : Fin 512) (j : Fin 512) :
    out0_4 (F := Ideal) x0 x1 x2 (ix2 r j) = dot (rmsNorm (fun j => x0 (ix2 r j)) (fun k => x1 (ix2 (0 : Fin 1) k))) (fun k n => x2 (ix2 k n)) (⟨1024 + j.val, by omega⟩ : Fin 3200) := by
  rw [out_eq4]
  refine (congrFun (View.canon_cons_unit_lit _ _ _ (by decide)) (ix2 r j)).trans ?_
  rw [mm512_at]
  unfold dot
  refine Finset.sum_congr rfl fun k _ => congrArg₂ (· * ·) (rowsAll_at x0 x1 r k) ?_
  have hj := j.isLt
  have hk := k.isLt
  refine (ld_at x2 ![0, 1024] _ k j (by show 0 + k.val < 1024; omega) (by show 1024 + j.val < 3200; omega)).trans ?_
  exact congrArg x2 (congrArg₂ ix2 (Fin.ext (by show 0 + k.val = k.val; omega)) rfl)

theorem out_at5 (x0 : Vec Ideal S512x1024 .f32) (x1 : Vec Ideal S1x1024 .f32) (x2 : Vec Ideal S1024x3200 .bf16) (r : Fin 512) (j : Fin 512) :
    out0_5 (F := Ideal) x0 x1 x2 (ix2 r j) = dot (rmsNorm (fun j => x0 (ix2 r j)) (fun k => x1 (ix2 (0 : Fin 1) k))) (fun k n => x2 (ix2 k n)) (⟨1536 + j.val, by omega⟩ : Fin 3200) := by
  rw [out_eq5]
  refine (congrFun (View.canon_cons_unit_lit _ _ _ (by decide)) (ix2 r j)).trans ?_
  rw [mm512_at]
  unfold dot
  refine Finset.sum_congr rfl fun k _ => congrArg₂ (· * ·) (rowsAll_at x0 x1 r k) ?_
  have hj := j.isLt
  have hk := k.isLt
  refine (ld_at x2 ![0, 1536] _ k j (by show 0 + k.val < 1024; omega) (by show 1536 + j.val < 3200; omega)).trans ?_
  exact congrArg x2 (congrArg₂ ix2 (Fin.ext (by show 0 + k.val = k.val; omega)) rfl)

theorem out_at6 (x0 : Vec Ideal S512x1024 .f32) (x1 : Vec Ideal S1x1024 .f32) (x2 : Vec Ideal S1024x3200 .bf16) (r : Fin 512) (j : Fin 512) :
    out0_6 (F := Ideal) x0 x1 x2 (ix2 r j) = dot (rmsNorm (fun j => x0 (ix2 r j)) (fun k => x1 (ix2 (0 : Fin 1) k))) (fun k n => x2 (ix2 k n)) (⟨2048 + j.val, by omega⟩ : Fin 3200) := by
  rw [out_eq6]
  refine (congrFun (View.canon_cons_unit_lit _ _ _ (by decide)) (ix2 r j)).trans ?_
  rw [mm512_at]
  unfold dot
  refine Finset.sum_congr rfl fun k _ => congrArg₂ (· * ·) (rowsAll_at x0 x1 r k) ?_
  have hj := j.isLt
  have hk := k.isLt
  refine (ld_at x2 ![0, 2048] _ k j (by show 0 + k.val < 1024; omega) (by show 2048 + j.val < 3200; omega)).trans ?_
  exact congrArg x2 (congrArg₂ ix2 (Fin.ext (by show 0 + k.val = k.val; omega)) rfl)

theorem out_at7 (x0 : Vec Ideal S512x1024 .f32) (x1 : Vec Ideal S1x1024 .f32) (x2 : Vec Ideal S1024x3200 .bf16) (r : Fin 512) (j : Fin 512) :
    out0_7 (F := Ideal) x0 x1 x2 (ix2 r j) = dot (rmsNorm (fun j => x0 (ix2 r j)) (fun k => x1 (ix2 (0 : Fin 1) k))) (fun k n => x2 (ix2 k n)) (⟨2560 + j.val, by omega⟩ : Fin 3200) := by
  rw [out_eq7]
  refine (congrFun (View.canon_cons_unit_lit _ _ _ (by decide)) (ix2 r j)).trans ?_
  rw [mm512_at]
  unfold dot
  refine Finset.sum_congr rfl fun k _ => congrArg₂ (· * ·) (rowsAll_at x0 x1 r k) ?_
  have hj := j.isLt
  have hk := k.isLt
  refine (ld_at x2 ![0, 2560] _ k j (by show 0 + k.val < 1024; omega) (by show 2560 + j.val < 3200; omega)).trans ?_
  exact congrArg x2 (congrArg₂ ix2 (Fin.ext (by show 0 + k.val = k.val; omega)) rfl)

theorem out_at8 (x0 : Vec Ideal S512x1024 .f32) (x1 : Vec Ideal S1x1024 .f32) (x2 : Vec Ideal S1024x3200 .bf16) (r : Fin 512) (j : Fin 128) :
    out0_8 (F := Ideal) x0 x1 x2 (ix2 r j) = dot (rmsNorm (fun j => x0 (ix2 r j)) (fun k => x1 (ix2 (0 : Fin 1) k))) (fun k n => x2 (ix2 k n)) (⟨3072 + j.val, by omega⟩ : Fin 3200) := by
  rw [out_eq8]
  refine (congrFun (View.canon_cons_unit_lit _ _ _ (by decide)) (ix2 r j)).trans ?_
  rw [mm128_at]
  unfold dot
  refine Finset.sum_congr rfl fun k _ => congrArg₂ (· * ·) (rowsAll_at x0 x1 r k) ?_
  have hj := j.isLt
  have hk := k.isLt
  refine (ld_at x2 ![0, 3072] _ k j (by show 0 + k.val < 1024; omega) (by show 3072 + j.val < 3200; omega)).trans ?_
  exact congrArg x2 (congrArg₂ ix2 (Fin.ext (by show 0 + k.val = k.val; omega)) rfl)

end Cert.Kernel3Ideal.Proj
-- ==== Proof.Proj3Arr.lean ====
/-
  The even layers' input product's arrays after the run, entry by entry.
-/
module

public import proofs.«01_k».proof.Proof.Proj3Val

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen Cert.Row
open Idealize.ShloMosaic.StableHlo

section Blocks
variable {F : FTy → Type} [FloatOps F]
variable (m : (ℓ : Loc nD τ sig) → Buf (Elt F) ℓ)

theorem coord (t : Fin cfg0.N) : (grid0.coords t 0).val = t.val :=
  (by decide +kernel : ∀ t : Fin grid0.N, (grid0.coords t 0).val = t.val) t

theorem lt64 (t : Fin cfg0.N) : t.val < 64 := t.isLt

/-- The weights as the run finds them. -/
def wideW (a2 : FVec F S1024x3144 .f32) : FVec F S1024x3200 .bf16 :=
  truncf .bf16 (pad S1024x3200 ![0, 0] ![0, 56] ![0, 0] a2 (sitofp .f32 (constantI S_ 32 0#32)) pads_S1024x3144_S1024x3200_000_0560 h_S_) bitsLt_bf16_f32

theorem V_w (c : Dev nD) : V m c main_v1 = wideW (m ((c : Thread nD τ).loc main_arg2) : FVec F S1024x3144 .f32) := by
  unfold V hostOps0 hostOps0_1 hostOps0_2
  simp only [List.flatten_cons, List.flatten_nil, List.append_nil, List.cons_append, List.nil_append, TRef.binary, TRef.unary, TRef.toBuf, TRef.ofBuf, cast_eq]
  after_results
  try rfl
theorem V_g (c : Dev nD) : V m c main_v2 = shapeCast S1x1024 (m ((c : Thread nD τ).loc main_arg1) : FVec F S1024 .f32) shapeCasts_S1024_S1x1024 := by
  unfold V hostOps0 hostOps0_1 hostOps0_2
  simp only [List.flatten_cons, List.flatten_nil, List.append_nil, List.cons_append, List.nil_append, TRef.binary, TRef.unary, TRef.toBuf, TRef.ofBuf, cast_eq]
  after_results
  rfl

theorem iblk0_at (c : Dev nD) (t : Fin cfg0.N) (r : Fin 512) (k : Fin 1024) :
    (iblk m c 0 t : S512x1024.Idx → Elt F .f32) (ix2 r k) = V m c main_arg0 (ix2 (⟨512 * t.val + r.val, by have := lt64 t; omega⟩ : Fin 32768) k) := by
  refine congrArg (V m c main_arg0) (funext fun a => Fin.ext ?_)
  have h0 := coord t
  have hlt := lt64 t
  fin_cases a
  · show (BitVec.ofNat 32 (grid0.coords t 0).val).toNat * 512 + 1 * r.val = 512 * t.val + r.val
    rw [h0, BitVec.toNat_ofNat]; omega
  · show 0 * 1024 + 1 * k.val = k.val
    omega

theorem iblk1_at (c : Dev nD) (t : Fin cfg0.N) (k : Fin 1) (n : Fin 1024) :
    (iblk m c 1 t : S1x1024.Idx → Elt F .f32) (ix2 k n) = V m c main_v2 (ix2 k n) := by
  refine congrArg (V m c main_v2) (funext fun a => Fin.ext ?_)
  fin_cases a
  · show 0 * 1 + 1 * k.val = k.val
    omega
  · show 0 * 1024 + 1 * n.val = n.val
    omega

theorem iblk2_at (c : Dev nD) (t : Fin cfg0.N) (k : Fin 1024) (n : Fin 3200) :
    (iblk m c 2 t : S1024x3200.Idx → Elt F .bf16) (ix2 k n) = V m c main_v1 (ix2 k n) := by
  refine congrArg (V m c main_v1) (funext fun a => Fin.ext ?_)
  fin_cases a
  · show 0 * 1024 + 1 * k.val = k.val
    omega
  · show 0 * 3200 + 1 * n.val = n.val
    omega

/-- The point that holds a row. -/
def pointOf (t : Fin 32768) : Fin cfg0.N := ⟨t.val / 512, by have := t.isLt; show t.val / 512 < 64; omega⟩

theorem flush3 : ∀ t : Fin cfg0.N, (cfg0.win 3).flush t = true :=
  (by decide +kernel : ∀ t : Fin grid0.N, win0_3.flush t = true)

theorem arr_at3 (c : Dev nD) (t : Fin 32768) (j : Fin 1024) :
    ((dats m 0 c).arrAt 3 cfg0.N : S32768x1024.Idx → Elt F .f32) (ix2 t j)
      = out0_3 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks3 m c (pointOf t) (flush3 _)).trans (Value.flushed3 m c (pointOf t))) (ix2 (⟨t.val % 512, by omega⟩ : Fin 512) j)
  refine Eq.trans (congrArg ((dats m 0 c).arrAt 3 cfg0.N : S32768x1024.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 1024 + 1 * j.val
    omega

theorem flush4 : ∀ t : Fin cfg0.N, (cfg0.win 4).flush t = true :=
  (by decide +kernel : ∀ t : Fin grid0.N, win0_4.flush t = true)

theorem arr_at4 (c : Dev nD) (t : Fin 32768) (j : Fin 512) :
    ((dats m 0 c).arrAt 4 cfg0.N : S32768x512.Idx → Elt F .f32) (ix2 t j)
      = out0_4 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks4 m c (pointOf t) (flush4 _)).trans (Value.flushed4 m c (pointOf t))) (ix2 (⟨t.val % 512, by omega⟩ : Fin 512) j)
  refine Eq.trans (congrArg ((dats m 0 c).arrAt 4 cfg0.N : S32768x512.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 512 + 1 * j.val
    omega

theorem flush5 : ∀ t : Fin cfg0.N, (cfg0.win 5).flush t = true :=
  (by decide +kernel : ∀ t : Fin grid0.N, win0_5.flush t = true)

theorem arr_at5 (c : Dev nD) (t : Fin 32768) (j : Fin 512) :
    ((dats m 0 c).arrAt 5 cfg0.N : S32768x512.Idx → Elt F .f32) (ix2 t j)
      = out0_5 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks5 m c (pointOf t) (flush5 _)).trans (Value.flushed5 m c (pointOf t))) (ix2 (⟨t.val % 512, by omega⟩ : Fin 512) j)
  refine Eq.trans (congrArg ((dats m 0 c).arrAt 5 cfg0.N : S32768x512.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 512 + 1 * j.val
    omega

theorem flush6 : ∀ t : Fin cfg0.N, (cfg0.win 6).flush t = true :=
  (by decide +kernel : ∀ t : Fin grid0.N, win0_6.flush t = true)

theorem arr_at6 (c : Dev nD) (t : Fin 32768) (j : Fin 512) :
    ((dats m 0 c).arrAt 6 cfg0.N : S32768x512.Idx → Elt F .f32) (ix2 t j)
      = out0_6 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks6 m c (pointOf t) (flush6 _)).trans (Value.flushed6 m c (pointOf t))) (ix2 (⟨t.val % 512, by omega⟩ : Fin 512) j)
  refine Eq.trans (congrArg ((dats m 0 c).arrAt 6 cfg0.N : S32768x512.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 512 + 1 * j.val
    omega

theorem flush7 : ∀ t : Fin cfg0.N, (cfg0.win 7).flush t = true :=
  (by decide +kernel : ∀ t : Fin grid0.N, win0_7.flush t = true)

theorem arr_at7 (c : Dev nD) (t : Fin 32768) (j : Fin 512) :
    ((dats m 0 c).arrAt 7 cfg0.N : S32768x512.Idx → Elt F .f32) (ix2 t j)
      = out0_7 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks7 m c (pointOf t) (flush7 _)).trans (Value.flushed7 m c (pointOf t))) (ix2 (⟨t.val % 512, by omega⟩ : Fin 512) j)
  refine Eq.trans (congrArg ((dats m 0 c).arrAt 7 cfg0.N : S32768x512.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 512 + 1 * j.val
    omega

theorem flush8 : ∀ t : Fin cfg0.N, (cfg0.win 8).flush t = true :=
  (by decide +kernel : ∀ t : Fin grid0.N, win0_8.flush t = true)

theorem arr_at8 (c : Dev nD) (t : Fin 32768) (j : Fin 128) :
    ((dats m 0 c).arrAt 8 cfg0.N : S32768x128.Idx → Elt F .f32) (ix2 t j)
      = out0_8 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks8 m c (pointOf t) (flush8 _)).trans (Value.flushed8 m c (pointOf t))) (ix2 (⟨t.val % 512, by omega⟩ : Fin 512) j)
  refine Eq.trans (congrArg ((dats m 0 c).arrAt 8 cfg0.N : S32768x128.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 128 + 1 * j.val
    omega

end Blocks

/-- The weights as the run finds them, column by column. -/
def wideF (w : Fin 1024 → Fin 3144 → EReal) (k : Fin 1024) (n : Fin 3200) : EReal :=
  if h : n.val < 3144 then w k ⟨n.val, h⟩ else 0

theorem zero_word : (sitofp (F := Ideal) .f32 (constantI S_ 32 0#32)) = fun _ => (0 : EReal) := by
  funext i
  show (((0#32 : BitVec 32).toInt : ℝ) : EReal) = 0
  simp

theorem wideW_at (a2 : FVec Ideal S1024x3144 .f32) (k : Fin 1024) (n : Fin 3200) :
    wideW (F := Ideal) a2 (ix2 k n) = wideF (fun k n => a2 (ix2 k n)) k n := by
  have hk := k.isLt
  have hn := n.isLt
  unfold wideW wideF
  rw [zero_word]
  simp only [pointwise, Nat.reduceEqDiff, ↓reduceDIte]
  split
  · rename_i h
    have h1 := (h 1).2.2
    rw [dif_pos (show n.val < 3144 by simpa using h1)]
    exact congrArg a2 (funext fun a => Fin.ext (by fin_cases a <;> simp))
  · rename_i h
    rw [dif_neg]
    intro hlt
    refine h fun a => ?_
    fin_cases a
    · exact ⟨Nat.zero_le _, Nat.mod_one _, by simp⟩
    · exact ⟨Nat.zero_le _, Nat.mod_one _, by simpa using hlt⟩

/-- A row's products with the weights as the run finds them. -/
theorem row_eq (m : (ℓ : Loc nD τ sig) → Buf (Elt Ideal) ℓ) (c : Dev nD) (a0 : FVec Ideal S32768x1024 .f32) (a1 : FVec Ideal S1024 .f32) (a2 : FVec Ideal S1024x3144 .f32)
    (h0 : m ((c : Thread nD τ).loc main_arg0) = a0) (h1 : m ((c : Thread nD τ).loc main_arg1) = a1) (h2 : m ((c : Thread nD τ).loc main_arg2) = a2) (t : Fin 32768) (n : Fin 3200) :
    dot (rmsNorm (fun j => (iblk m c 0 (pointOf t) : S512x1024.Idx → EReal) (ix2 (⟨t.val % 512, by omega⟩ : Fin 512) j)) (fun k => (iblk m c 1 (pointOf t) : S1x1024.Idx → EReal) (ix2 (0 : Fin 1) k))) (fun (k : Fin 1024) n => (iblk m c 2 (pointOf t) : S1024x3200.Idx → EReal) (ix2 k n)) n
      = dot (rmsNorm (fun k => a0 (ix2 t k)) (fun k => a1 (ix1 k))) (wideF fun k n => a2 (ix2 k n)) n := by
  have ht := t.isLt
  have hp : (pointOf t).val = t.val / 512 := rfl
  have hr : ∀ h, (⟨512 * (pointOf t).val + t.val % 512, h⟩ : Fin 32768) = t := fun h => Fin.ext (by show 512 * (pointOf t).val + t.val % 512 = t.val; omega)
  have e0 : (fun j : Fin 1024 => (iblk m c 0 (pointOf t) : S512x1024.Idx → EReal) (ix2 (⟨t.val % 512, by omega⟩ : Fin 512) j)) = fun j => a0 (ix2 t j) := funext fun j => by
    refine (iblk0_at m c (pointOf t) _ j).trans ?_
    rw [V_main_arg0, h0]
    exact congrArg (fun x => a0 (ix2 x j)) (hr _)
  have e1 : (fun j : Fin 1024 => (iblk m c 1 (pointOf t) : S1x1024.Idx → EReal) (ix2 (0 : Fin 1) j)) = fun j => a1 (ix1 j) := funext fun j => by
    refine (iblk1_at m c (pointOf t) 0 j).trans ?_
    rw [V_g, h1]
    simp only [pointwise]
  have e2 : (fun (k : Fin 1024) (j : Fin 3200) => (iblk m c 2 (pointOf t) : S1024x3200.Idx → EReal) (ix2 k j)) = wideF fun k n => a2 (ix2 k n) := funext fun k => funext fun j => by
    refine (iblk2_at m c (pointOf t) k j).trans ?_
    rw [V_w, h2]
    exact wideW_at a2 k j
  rw [e0, e1, e2]

/-- Result 0, entry by entry. -/
theorem arr_form3 (m : (ℓ : Loc nD τ sig) → Buf (Elt Ideal) ℓ) (c : Dev nD) (a0 : FVec Ideal S32768x1024 .f32) (a1 : FVec Ideal S1024 .f32) (a2 : FVec Ideal S1024x3144 .f32)
    (h0 : m ((c : Thread nD τ).loc main_arg0) = a0) (h1 : m ((c : Thread nD τ).loc main_arg1) = a1) (h2 : m ((c : Thread nD τ).loc main_arg2) = a2) (t : Fin 32768) (j : Fin 1024) :
    ((dats m 0 c).arrAt 3 cfg0.N : S32768x1024.Idx → EReal) (ix2 t j) = dot (rmsNorm (fun k => a0 (ix2 t k)) (fun k => a1 (ix1 k))) (fun k n => a2 (ix2 k n)) (⟨0 + j.val, by omega⟩ : Fin 3144) := by
  have hj := j.isLt
  refine (arr_at3 m c t j).trans ((out_at3 _ _ _ _ j).trans ((row_eq m c a0 a1 a2 h0 h1 h2 t _).trans ?_))
  unfold dot
  refine Finset.sum_congr rfl fun k _ => congrArg₂ (· * ·) rfl ?_
  unfold wideF
  rw [dif_pos (show 0 + j.val < 3144 by omega)]

/-- Result 1, entry by entry. -/
theorem arr_form4 (m : (ℓ : Loc nD τ sig) → Buf (Elt Ideal) ℓ) (c : Dev nD) (a0 : FVec Ideal S32768x1024 .f32) (a1 : FVec Ideal S1024 .f32) (a2 : FVec Ideal S1024x3144 .f32)
    (h0 : m ((c : Thread nD τ).loc main_arg0) = a0) (h1 : m ((c : Thread nD τ).loc main_arg1) = a1) (h2 : m ((c : Thread nD τ).loc main_arg2) = a2) (t : Fin 32768) (j : Fin 512) :
    ((dats m 0 c).arrAt 4 cfg0.N : S32768x512.Idx → EReal) (ix2 t j) = dot (rmsNorm (fun k => a0 (ix2 t k)) (fun k => a1 (ix1 k))) (fun k n => a2 (ix2 k n)) (⟨1024 + j.val, by omega⟩ : Fin 3144) := by
  have hj := j.isLt
  refine (arr_at4 m c t j).trans ((out_at4 _ _ _ _ j).trans ((row_eq m c a0 a1 a2 h0 h1 h2 t _).trans ?_))
  unfold dot
  refine Finset.sum_congr rfl fun k _ => congrArg₂ (· * ·) rfl ?_
  unfold wideF
  rw [dif_pos (show 1024 + j.val < 3144 by omega)]

/-- Result 2, entry by entry. -/
theorem arr_form5 (m : (ℓ : Loc nD τ sig) → Buf (Elt Ideal) ℓ) (c : Dev nD) (a0 : FVec Ideal S32768x1024 .f32) (a1 : FVec Ideal S1024 .f32) (a2 : FVec Ideal S1024x3144 .f32)
    (h0 : m ((c : Thread nD τ).loc main_arg0) = a0) (h1 : m ((c : Thread nD τ).loc main_arg1) = a1) (h2 : m ((c : Thread nD τ).loc main_arg2) = a2) (t : Fin 32768) (j : Fin 512) :
    ((dats m 0 c).arrAt 5 cfg0.N : S32768x512.Idx → EReal) (ix2 t j) = dot (rmsNorm (fun k => a0 (ix2 t k)) (fun k => a1 (ix1 k))) (fun k n => a2 (ix2 k n)) (⟨1536 + j.val, by omega⟩ : Fin 3144) := by
  have hj := j.isLt
  refine (arr_at5 m c t j).trans ((out_at5 _ _ _ _ j).trans ((row_eq m c a0 a1 a2 h0 h1 h2 t _).trans ?_))
  unfold dot
  refine Finset.sum_congr rfl fun k _ => congrArg₂ (· * ·) rfl ?_
  unfold wideF
  rw [dif_pos (show 1536 + j.val < 3144 by omega)]

/-- Result 3, entry by entry. -/
theorem arr_form6 (m : (ℓ : Loc nD τ sig) → Buf (Elt Ideal) ℓ) (c : Dev nD) (a0 : FVec Ideal S32768x1024 .f32) (a1 : FVec Ideal S1024 .f32) (a2 : FVec Ideal S1024x3144 .f32)
    (h0 : m ((c : Thread nD τ).loc main_arg0) = a0) (h1 : m ((c : Thread nD τ).loc main_arg1) = a1) (h2 : m ((c : Thread nD τ).loc main_arg2) = a2) (t : Fin 32768) (j : Fin 512) :
    ((dats m 0 c).arrAt 6 cfg0.N : S32768x512.Idx → EReal) (ix2 t j) = dot (rmsNorm (fun k => a0 (ix2 t k)) (fun k => a1 (ix1 k))) (fun k n => a2 (ix2 k n)) (⟨2048 + j.val, by omega⟩ : Fin 3144) := by
  have hj := j.isLt
  refine (arr_at6 m c t j).trans ((out_at6 _ _ _ _ j).trans ((row_eq m c a0 a1 a2 h0 h1 h2 t _).trans ?_))
  unfold dot
  refine Finset.sum_congr rfl fun k _ => congrArg₂ (· * ·) rfl ?_
  unfold wideF
  rw [dif_pos (show 2048 + j.val < 3144 by omega)]

/-- Result 4, entry by entry. -/
theorem arr_form7 (m : (ℓ : Loc nD τ sig) → Buf (Elt Ideal) ℓ) (c : Dev nD) (a0 : FVec Ideal S32768x1024 .f32) (a1 : FVec Ideal S1024 .f32) (a2 : FVec Ideal S1024x3144 .f32)
    (h0 : m ((c : Thread nD τ).loc main_arg0) = a0) (h1 : m ((c : Thread nD τ).loc main_arg1) = a1) (h2 : m ((c : Thread nD τ).loc main_arg2) = a2) (t : Fin 32768) (j : Fin 512) :
    ((dats m 0 c).arrAt 7 cfg0.N : S32768x512.Idx → EReal) (ix2 t j) = dot (rmsNorm (fun k => a0 (ix2 t k)) (fun k => a1 (ix1 k))) (fun k n => a2 (ix2 k n)) (⟨2560 + j.val, by omega⟩ : Fin 3144) := by
  have hj := j.isLt
  refine (arr_at7 m c t j).trans ((out_at7 _ _ _ _ j).trans ((row_eq m c a0 a1 a2 h0 h1 h2 t _).trans ?_))
  unfold dot
  refine Finset.sum_congr rfl fun k _ => congrArg₂ (· * ·) rfl ?_
  unfold wideF
  rw [dif_pos (show 2560 + j.val < 3144 by omega)]

/-- Result 5, entry by entry. -/
theorem arr_form8 (m : (ℓ : Loc nD τ sig) → Buf (Elt Ideal) ℓ) (c : Dev nD) (a0 : FVec Ideal S32768x1024 .f32) (a1 : FVec Ideal S1024 .f32) (a2 : FVec Ideal S1024x3144 .f32)
    (h0 : m ((c : Thread nD τ).loc main_arg0) = a0) (h1 : m ((c : Thread nD τ).loc main_arg1) = a1) (h2 : m ((c : Thread nD τ).loc main_arg2) = a2) (t : Fin 32768) (j : Fin 128) :
    ((dats m 0 c).arrAt 8 cfg0.N : S32768x128.Idx → EReal) (ix2 t j) = (if h : j.val < 72 then dot (rmsNorm (fun k => a0 (ix2 t k)) (fun k => a1 (ix1 k))) (fun k n => a2 (ix2 k n)) (⟨3072 + j.val, by omega⟩ : Fin 3144) else 0) := by
  have hj := j.isLt
  refine (arr_at8 m c t j).trans ((out_at8 _ _ _ _ j).trans ((row_eq m c a0 a1 a2 h0 h1 h2 t _).trans ?_))
  by_cases h : j.val < 72
  · rw [dif_pos h]
    unfold dot
    refine Finset.sum_congr rfl fun k _ => congrArg₂ (· * ·) rfl ?_
    unfold wideF
    rw [dif_pos (show 3072 + j.val < 3144 by omega)]
  · rw [dif_neg h]
    unfold dot
    refine Finset.sum_eq_zero fun k _ => ?_
    unfold wideF
    rw [dif_neg (show ¬ 3072 + j.val < 3144 by omega)]
    exact mul_zero _

end Cert.Kernel3Ideal.Proj
-- ==== Proof.Proj3Ref.lean ====
/-
  The even layers' input product's reference at one entry.
-/
module

public import proofs.«01_k».proof.Proof.Gen.Reference3Ideal.Run
public import proofs.«01_k».proof.Proof.FfnForm
public import Idealize.ShloMosaic.Lib.Pointwise

@[expose] public section

noncomputable section

namespace Cert.Reference3Ideal.Proj

open Cert.Reference3Ideal Cert.Reference3Ideal.Gen Cert.Reference3Ideal.Value Idealize.ShloMosaic Idealize.ShloMosaic.TcCoe Idealize.SL.Sem Cert.Row

/-- The rows' sums of squares. -/
def sqR (x : FVec Ideal S32768x1024 .f32) : FVec Ideal S32768 .f32 :=
  Host.reduceAdd (mulf x x) (constant S_ .f32 0x00000000#32) reducesTo_S32768x1024_S32768_d1 h_S_

/-- The rows' scales. -/
def scaleR (x : FVec Ideal S32768x1024 .f32) : FVec Ideal S32768x1 .f32 :=
  Host.rsqrt (addf (Host.divf (broadcastInDim S32768x1 ![0] bcast_S32768_S32768x1_0 (sqR x)) (broadcastInDim S32768x1 ![] bcast_S_S32768x1 (constant S_ .f32 0x44800000#32))) (broadcastInDim S32768x1 ![] bcast_S_S32768x1 (constant S_ .f32 0x358637BD#32)))

/-- The normalized rows. -/
def hR (x : FVec Ideal S32768x1024 .f32) (a1 : FVec Ideal S1024 .f32) : FVec Ideal S32768x1024 .f32 :=
  mulf (mulf x (broadcastInDim S32768x1024 ![0, 1] bcast_S32768x1_S32768x1024_0_1 (scaleR x))) (broadcastInDim S32768x1024 ![0, 1] bcast_S1x1024_S32768x1024_0_1 (broadcastInDim S1x1024 ![1] bcast_S1024_S1x1024_1 a1))

/-- Their product with the weights. -/
def projR (a0 : FVec Ideal S32768x1024 .f32) (a1 : FVec Ideal S1024 .f32) (a2 : FVec Ideal S1024x3144 .f32) : FVec Ideal S32768x3144 .f32 :=
  Host.dotGeneral dot_S32768x1024_S1024x3144_S32768x3144_1_0_0_1_n_n none (hR a0 a1) a2

theorem sqR_at (x : FVec Ideal S32768x1024 .f32) (t : Fin 32768) :
    sqR x (ix1 t) = ∑ j : Fin 1024, x (ix2 t j) * x (ix2 t j) := by
  unfold sqR
  simp only [pointwise, Nat.reduceEqDiff, ↓reduceDIte, Ideal.ofBits_zero, zero_add]

theorem scaleR_at (x : FVec Ideal S32768x1024 .f32) (t : Fin 32768) :
    scaleR x (ix2 t (0 : Fin 1)) = Ideal.rsqrt (Ideal.div (∑ j : Fin 1024, x (ix2 t j) * x (ix2 t j)) (Ideal.ofBits .f32 0x44800000#32) + Ideal.ofBits .f32 0x358637BD#32) := by
  unfold scaleR
  simp only [pointwise, Nat.reduceEqDiff, ↓reduceDIte, sqR_at]

theorem hR_at (x : FVec Ideal S32768x1024 .f32) (a1 : FVec Ideal S1024 .f32) (t : Fin 32768) (k : Fin 1024) :
    hR x a1 (ix2 t k) = rmsNorm (fun j => x (ix2 t j)) (fun k => a1 (ix1 k)) k := by
  unfold hR
  simp only [pointwise, Nat.reduceEqDiff, ↓reduceDIte, scaleR_at]
  rfl

theorem projR_at (a0 : FVec Ideal S32768x1024 .f32) (a1 : FVec Ideal S1024 .f32) (a2 : FVec Ideal S1024x3144 .f32) (t : Fin 32768) (n : Fin 3144) :
    projR a0 a1 a2 (ix2 t n) = dot (rmsNorm (fun k => a0 (ix2 t k)) (fun k => a1 (ix1 k))) (fun k n => a2 (ix2 k n)) n := by
  unfold projR dot
  simp only [pointwise, Nat.reduceEqDiff, ↓reduceDIte, hR_at, zero_add]

theorem zero_word : (sitofp (F := Ideal) .f32 (constantI S_ 32 0#32)) = fun _ => (0 : EReal) := by
  funext i
  show (((0#32 : BitVec 32).toInt : ℝ) : EReal) = 0
  simp

/-- Result 0, entry by entry. -/
theorem res_at3 (a0 : FVec Ideal S32768x1024 .f32) (a1 : FVec Ideal S1024 .f32) (a2 : FVec Ideal S1024x3144 .f32) (t : Fin 32768) (j : Fin 1024) :
    extractStridedSlice S32768x1024 ![0, 0] (projR a0 a1 a2) slices_S32768x3144_S32768x1024_0_0 (ix2 t j) = dot (rmsNorm (fun k => a0 (ix2 t k)) (fun k => a1 (ix1 k))) (fun k n => a2 (ix2 k n)) (⟨0 + j.val, by omega⟩ : Fin 3144) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 1, entry by entry. -/
theorem res_at4 (a0 : FVec Ideal S32768x1024 .f32) (a1 : FVec Ideal S1024 .f32) (a2 : FVec Ideal S1024x3144 .f32) (t : Fin 32768) (j : Fin 512) :
    extractStridedSlice S32768x512 ![0, 1024] (projR a0 a1 a2) slices_S32768x3144_S32768x512_0_1024 (ix2 t j) = dot (rmsNorm (fun k => a0 (ix2 t k)) (fun k => a1 (ix1 k))) (fun k n => a2 (ix2 k n)) (⟨1024 + j.val, by omega⟩ : Fin 3144) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 2, entry by entry. -/
theorem res_at5 (a0 : FVec Ideal S32768x1024 .f32) (a1 : FVec Ideal S1024 .f32) (a2 : FVec Ideal S1024x3144 .f32) (t : Fin 32768) (j : Fin 512) :
    extractStridedSlice S32768x512 ![0, 1536] (projR a0 a1 a2) slices_S32768x3144_S32768x512_0_1536 (ix2 t j) = dot (rmsNorm (fun k => a0 (ix2 t k)) (fun k => a1 (ix1 k))) (fun k n => a2 (ix2 k n)) (⟨1536 + j.val, by omega⟩ : Fin 3144) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 3, entry by entry. -/
theorem res_at6 (a0 : FVec Ideal S32768x1024 .f32) (a1 : FVec Ideal S1024 .f32) (a2 : FVec Ideal S1024x3144 .f32) (t : Fin 32768) (j : Fin 512) :
    extractStridedSlice S32768x512 ![0, 2048] (projR a0 a1 a2) slices_S32768x3144_S32768x512_0_2048 (ix2 t j) = dot (rmsNorm (fun k => a0 (ix2 t k)) (fun k => a1 (ix1 k))) (fun k n => a2 (ix2 k n)) (⟨2048 + j.val, by omega⟩ : Fin 3144) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 4, entry by entry. -/
theorem res_at7 (a0 : FVec Ideal S32768x1024 .f32) (a1 : FVec Ideal S1024 .f32) (a2 : FVec Ideal S1024x3144 .f32) (t : Fin 32768) (j : Fin 512) :
    extractStridedSlice S32768x512 ![0, 2560] (projR a0 a1 a2) slices_S32768x3144_S32768x512_0_2560 (ix2 t j) = dot (rmsNorm (fun k => a0 (ix2 t k)) (fun k => a1 (ix1 k))) (fun k n => a2 (ix2 k n)) (⟨2560 + j.val, by omega⟩ : Fin 3144) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 5, entry by entry. -/
theorem res_at8 (a0 : FVec Ideal S32768x1024 .f32) (a1 : FVec Ideal S1024 .f32) (a2 : FVec Ideal S1024x3144 .f32) (t : Fin 32768) (j : Fin 128) :
    pad S32768x128 ![0, 0] ![0, 56] ![0, 0] (extractStridedSlice S32768x72 ![0, 3072] (projR a0 a1 a2) slices_S32768x3144_S32768x72_0_3072) (sitofp .f32 (constantI S_ 32 0#32)) pads_S32768x72_S32768x128_000_0560 h_S_ (ix2 t j) = (if h : j.val < 72 then dot (rmsNorm (fun k => a0 (ix2 t k)) (fun k => a1 (ix1 k))) (fun k n => a2 (ix2 k n)) (⟨3072 + j.val, by omega⟩ : Fin 3144) else 0) := by
  have ht := t.isLt
  rw [zero_word, pad_apply]
  split
  · rename_i h
    have hj : j.val < 72 := by simpa using (h 1).2.2
    rw [dif_pos hj]
    refine Eq.trans ?_ (projR_at a0 a1 a2 t _)
    simp only [pointwise, Nat.reduceEqDiff, ↓reduceDIte]
    exact congrArg (projR a0 a1 a2) (funext fun a => Fin.ext (by fin_cases a <;> simp))
  · rename_i h
    rw [dif_neg]
    intro hlt
    refine h fun a => ?_
    fin_cases a
    · exact ⟨Nat.zero_le _, Nat.mod_one _, by simp⟩
    · exact ⟨Nat.zero_le _, Nat.mod_one _, by simpa using hlt⟩

end Cert.Reference3Ideal.Proj
-- ==== Proof.Proj3Alg.lean ====
/-
  The even layers' input product and its reference end with equal results.
-/
module

public import proofs.«01_k».proof.Defs
public import proofs.«01_k».proof.Proof.Proj3Arr
public import proofs.«01_k».proof.Proof.Proj3Ref
public import Idealize.ShloMosaic.Adequacy

@[expose] public section

noncomputable section

namespace Cert.Kernel3Ideal.Proj

open Idealize.ShloMosaic Idealize.ShloMosaic.TcCoe Idealize.SL.Sem
open Cert.Kernel3Ideal Cert.Kernel3Ideal.Gen

/-- An index of two coordinates is the pair of them. -/
theorem idx_pair {n p : ℕ} (j : (Shape.mk 2 ![n, p]).Idx) : j = ix2 (j 0 : Fin n) (j 1 : Fin p) :=
  funext fun a => by fin_cases a <;> rfl

/-- Equal arguments give equal results. -/
theorem algebraic : Cert.algebraic_Kernel3Ideal_Reference3Ideal (hKernel3Ideal := Cert.Kernel3Ideal.Gen.facts) (hReference3Ideal := Cert.Reference3Ideal.Gen.facts) :=
  fun m g m' g' _ hagree => ⟨fun c => (dats (F := Ideal) m 0 c).arrAt 3 cfg0.N, fun c => (dats (F := Ideal) m 0 c).arrAt 4 cfg0.N, fun c => (dats (F := Ideal) m 0 c).arrAt 5 cfg0.N, fun c => (dats (F := Ideal) m 0 c).arrAt 6 cfg0.N, fun c => (dats (F := Ideal) m 0 c).arrAt 7 cfg0.N, fun c => (dats (F := Ideal) m 0 c).arrAt 8 cfg0.N,
    Value.run_blocks (F := Ideal) m g,
    (θ_run _ _ _).mono (fun r h c => ⟨((h c).1).trans (funext fun j : (Shape.mk 2 ![32768, 1024]).Idx => by
        rw [idx_pair j]
        exact ((Cert.Reference3Ideal.Proj.res_at3 _ _ _ (j 0 : Fin 32768) (j 1 : Fin 1024))).trans
          (arr_form3 m c _ _ _ (hagree c).1.symm (hagree c).2.1.symm (hagree c).2.2.symm (j 0 : Fin 32768) (j 1 : Fin 1024)).symm),
      ((h c).2.1).trans (funext fun j : (Shape.mk 2 ![32768, 512]).Idx => by
        rw [idx_pair j]
        exact ((Cert.Reference3Ideal.Proj.res_at4 _ _ _ (j 0 : Fin 32768) (j 1 : Fin 512))).trans
          (arr_form4 m c _ _ _ (hagree c).1.symm (hagree c).2.1.symm (hagree c).2.2.symm (j 0 : Fin 32768) (j 1 : Fin 512)).symm),
      ((h c).2.2.1).trans (funext fun j : (Shape.mk 2 ![32768, 512]).Idx => by
        rw [idx_pair j]
        exact ((Cert.Reference3Ideal.Proj.res_at5 _ _ _ (j 0 : Fin 32768) (j 1 : Fin 512))).trans
          (arr_form5 m c _ _ _ (hagree c).1.symm (hagree c).2.1.symm (hagree c).2.2.symm (j 0 : Fin 32768) (j 1 : Fin 512)).symm),
      ((h c).2.2.2.1).trans (funext fun j : (Shape.mk 2 ![32768, 512]).Idx => by
        rw [idx_pair j]
        exact ((Cert.Reference3Ideal.Proj.res_at6 _ _ _ (j 0 : Fin 32768) (j 1 : Fin 512))).trans
          (arr_form6 m c _ _ _ (hagree c).1.symm (hagree c).2.1.symm (hagree c).2.2.symm (j 0 : Fin 32768) (j 1 : Fin 512)).symm),
      ((h c).2.2.2.2.1).trans (funext fun j : (Shape.mk 2 ![32768, 512]).Idx => by
        rw [idx_pair j]
        exact ((Cert.Reference3Ideal.Proj.res_at7 _ _ _ (j 0 : Fin 32768) (j 1 : Fin 512))).trans
          (arr_form7 m c _ _ _ (hagree c).1.symm (hagree c).2.1.symm (hagree c).2.2.symm (j 0 : Fin 32768) (j 1 : Fin 512)).symm),
      ((h c).2.2.2.2.2.1).trans (funext fun j : (Shape.mk 2 ![32768, 128]).Idx => by
        rw [idx_pair j]
        exact ((Cert.Reference3Ideal.Proj.res_at8 _ _ _ (j 0 : Fin 32768) (j 1 : Fin 128))).trans
          (arr_form8 m c _ _ _ (hagree c).1.symm (hagree c).2.1.symm (hagree c).2.2.symm (j 0 : Fin 32768) (j 1 : Fin 128)).symm),
      (h c).2.2.2.2.2.2⟩) (Cert.Reference3Ideal.Value.run (F := Ideal) m' g')⟩

end Cert.Kernel3Ideal.Proj
-- ==== Proof.Proj4Val.lean ====
/-
  The odd layers' input product, one entry of a point's rows.
-/
module

public import proofs.«01_k».proof.Proof.Gen.Kernel4Ideal.Value
public import proofs.«01_k».proof.Proof.FfnForm
public import Idealize.ShloMosaic.Lib.Pointwise
public import Idealize.ShloMosaic.Lib.KernelVsHost
public import Idealize.ShloMosaic.Lib.Pipeline.ValueKit

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Row

section Products
variable {F : FTy → Type} [FloatOps F]

/-- A product with 128 columns of the weights. -/
def mm128 (h : FVec F S512x1024 .bf16) (w : Vec F S1024x128 .bf16) : FVec F S512x128 .f32 :=
  matmul dot_S512x1024_S1024x128_S512x128_1_0_0_1_n_n none h (shapeCast S1024x128 w shapeCasts_S1024x128_S1024x128) (constant S512x128 .f32 0x00000000#32)

/-- A product with 512 columns of the weights. -/
def mm512 (h : FVec F S512x1024 .bf16) (w : Vec F S1024x512 .bf16) : FVec F S512x512 .f32 :=
  matmul dot_S512x1024_S1024x512_S512x512_1_0_0_1_n_n none h (shapeCast S1024x512 w shapeCasts_S1024x512_S1024x512) (constant S512x512 .f32 0x00000000#32)

/-- A product with 1024 columns of the weights. -/
def mm1024 (h : FVec F S512x1024 .bf16) (w : Vec F S1024x1024 .bf16) : FVec F S512x1024 .f32 :=
  matmul dot_S512x1024_S1024x1024_S512x1024_1_0_0_1_n_n none h (shapeCast S1024x1024 w shapeCasts_S1024x1024_S1024x1024) (constant S512x1024 .f32 0x00000000#32)

theorem out_eq3 (x0 : Vec F S512x1024 .f32) (x1 : Vec F S1x1024 .f32) (x2 : Vec F S1024x2688 .bf16) :
    out0_3 x0 x1 x2 = View.canon [⟨r0_3, mm512 (k0_pay2 (View.ld x0 r0_0) (View.ld x1 r0_1)) (View.ld x2 r0_2)⟩] := rfl

theorem out_eq4 (x0 : Vec F S512x1024 .f32) (x1 : Vec F S1x1024 .f32) (x2 : Vec F S1024x2688 .bf16) :
    out0_4 x0 x1 x2 = View.canon [⟨r0_3, mm512 (k0_pay2 (View.ld x0 r0_0) (View.ld x1 r0_1)) (View.ld x2 r0_4)⟩] := rfl

theorem out_eq5 (x0 : Vec F S512x1024 .f32) (x1 : Vec F S1x1024 .f32) (x2 : Vec F S1024x2688 .bf16) :
    out0_5 x0 x1 x2 = View.canon [⟨r0_3, mm512 (k0_pay2 (View.ld x0 r0_0) (View.ld x1 r0_1)) (View.ld x2 r0_5)⟩] := rfl

theorem out_eq6 (x0 : Vec F S512x1024 .f32) (x1 : Vec F S1x1024 .f32) (x2 : Vec F S1024x2688 .bf16) :
    out0_6 x0 x1 x2 = View.canon [⟨r0_0, mm1024 (k0_pay2 (View.ld x0 r0_0) (View.ld x1 r0_1)) (View.ld x2 r0_6)⟩] := rfl

theorem out_eq7 (x0 : Vec F S512x1024 .f32) (x1 : Vec F S1x1024 .f32) (x2 : Vec F S1024x2688 .bf16) :
    out0_7 x0 x1 x2 = View.canon [⟨r0_8, mm128 (k0_pay2 (View.ld x0 r0_0) (View.ld x1 r0_1)) (View.ld x2 r0_7)⟩] := rfl

end Products

theorem mm128_at (h : FVec Ideal S512x1024 .bf16) (w : Vec Ideal S1024x128 .bf16) (r : Fin 512) (s : Fin 128) :
    mm128 (F := Ideal) h w (ix2 r s) = dot (fun k : Fin 1024 => h (ix2 r k)) (fun k s => w (ix2 k s)) s := by
  unfold mm128 dot
  simp only [pointwise]
  exact zero_add _

theorem mm512_at (h : FVec Ideal S512x1024 .bf16) (w : Vec Ideal S1024x512 .bf16) (r : Fin 512) (s : Fin 512) :
    mm512 (F := Ideal) h w (ix2 r s) = dot (fun k : Fin 1024 => h (ix2 r k)) (fun k s => w (ix2 k s)) s := by
  unfold mm512 dot
  simp only [pointwise]
  exact zero_add _

theorem mm1024_at (h : FVec Ideal S512x1024 .bf16) (w : Vec Ideal S1024x1024 .bf16) (r : Fin 512) (s : Fin 1024) :
    mm1024 (F := Ideal) h w (ix2 r s) = dot (fun k : Fin 1024 => h (ix2 r k)) (fun k s => w (ix2 k s)) s := by
  unfold mm1024 dot
  simp only [pointwise]
  exact zero_add _

theorem rows_at (v0 : Vec Ideal S512x1024 .f32) (g : Vec Ideal S1x1024 .f32) (r : Fin 512) (j : Fin 1024) :
    k0_pay2 (F := Ideal) v0 g (ix2 r j) = rmsNorm (fun j => v0 (ix2 r j)) (fun k => g (ix2 (0 : Fin 1) k)) j := by
  unfold k0_pay2 rmsNorm
  simp only [pointwise, Nat.reduceEqDiff, ↓reduceDIte]

/-- A load of a rectangle reads the buffer at its corner and the index. -/
theorem ld_at {n p n' p' : ℕ} {e : EltTy} (x : (Shape.mk 2 ![n, p]).Idx → Elt Ideal e) (o : Fin 2 → ℕ) (inb) (a : Fin n') (b : Fin p') (ha : o 0 + a.val < n) (hb : o 1 + b.val < p) :
    View.ld (Val := Elt Ideal) (S := Shape.mk 2 ![n, p]) x (Rect.unit (s := Shape.mk 2 ![n, p]) o (![n', p'] : Fin 2 → ℕ) inb) (ix2 a b) = x (ix2 (⟨o 0 + a.val, ha⟩ : Fin n) (⟨o 1 + b.val, hb⟩ : Fin p)) := by
  refine congrArg x (funext fun i => Fin.ext ?_)
  fin_cases i
  · show o 0 + 1 * a.val = o 0 + a.val
    omega
  · show o 1 + 1 * b.val = o 1 + b.val
    omega

theorem rowsAll_at (x0 : Vec Ideal S512x1024 .f32) (x1 : Vec Ideal S1x1024 .f32) (r : Fin 512) (k : Fin 1024) :
    k0_pay2 (F := Ideal) (View.ld x0 r0_0) (View.ld x1 r0_1) (ix2 r k) = rmsNorm (fun j => x0 (ix2 r j)) (fun k => x1 (ix2 (0 : Fin 1) k)) k := by
  rw [rows_at]
  refine congrArg₂ (fun X g => rmsNorm X g k) (funext fun j => ?_) (funext fun j => ?_)
  · exact congrFun (View.ld_unit_lit _ x0 (by decide)) (ix2 r j)
  · exact congrFun (View.ld_unit_lit _ x1 (by decide)) (ix2 (0 : Fin 1) j)

theorem out_at3 (x0 : Vec Ideal S512x1024 .f32) (x1 : Vec Ideal S1x1024 .f32) (x2 : Vec Ideal S1024x2688 .bf16) (r : Fin 512) (j : Fin 512) :
    out0_3 (F := Ideal) x0 x1 x2 (ix2 r j) = dot (rmsNorm (fun j => x0 (ix2 r j)) (fun k => x1 (ix2 (0 : Fin 1) k))) (fun k n => x2 (ix2 k n)) (⟨0 + j.val, by omega⟩ : Fin 2688) := by
  rw [out_eq3]
  refine (congrFun (View.canon_cons_unit_lit _ _ _ (by decide)) (ix2 r j)).trans ?_
  rw [mm512_at]
  unfold dot
  refine Finset.sum_congr rfl fun k _ => congrArg₂ (· * ·) (rowsAll_at x0 x1 r k) ?_
  have hj := j.isLt
  have hk := k.isLt
  refine (ld_at x2 ![0, 0] _ k j (by show 0 + k.val < 1024; omega) (by show 0 + j.val < 2688; omega)).trans ?_
  exact congrArg x2 (congrArg₂ ix2 (Fin.ext (by show 0 + k.val = k.val; omega)) rfl)

theorem out_at4 (x0 : Vec Ideal S512x1024 .f32) (x1 : Vec Ideal S1x1024 .f32) (x2 : Vec Ideal S1024x2688 .bf16) (r : Fin 512) (j : Fin 512) :
    out0_4 (F := Ideal) x0 x1 x2 (ix2 r j) = dot (rmsNorm (fun j => x0 (ix2 r j)) (fun k => x1 (ix2 (0 : Fin 1) k))) (fun k n => x2 (ix2 k n)) (⟨512 + j.val, by omega⟩ : Fin 2688) := by
  rw [out_eq4]
  refine (congrFun (View.canon_cons_unit_lit _ _ _ (by decide)) (ix2 r j)).trans ?_
  rw [mm512_at]
  unfold dot
  refine Finset.sum_congr rfl fun k _ => congrArg₂ (· * ·) (rowsAll_at x0 x1 r k) ?_
  have hj := j.isLt
  have hk := k.isLt
  refine (ld_at x2 ![0, 512] _ k j (by show 0 + k.val < 1024; omega) (by show 512 + j.val < 2688; omega)).trans ?_
  exact congrArg x2 (congrArg₂ ix2 (Fin.ext (by show 0 + k.val = k.val; omega)) rfl)

theorem out_at5 (x0 : Vec Ideal S512x1024 .f32) (x1 : Vec Ideal S1x1024 .f32) (x2 : Vec Ideal S1024x2688 .bf16) (r : Fin 512) (j : Fin 512) :
    out0_5 (F := Ideal) x0 x1 x2 (ix2 r j) = dot (rmsNorm (fun j => x0 (ix2 r j)) (fun k => x1 (ix2 (0 : Fin 1) k))) (fun k n => x2 (ix2 k n)) (⟨1024 + j.val, by omega⟩ : Fin 2688) := by
  rw [out_eq5]
  refine (congrFun (View.canon_cons_unit_lit _ _ _ (by decide)) (ix2 r j)).trans ?_
  rw [mm512_at]
  unfold dot
  refine Finset.sum_congr rfl fun k _ => congrArg₂ (· * ·) (rowsAll_at x0 x1 r k) ?_
  have hj := j.isLt
  have hk := k.isLt
  refine (ld_at x2 ![0, 1024] _ k j (by show 0 + k.val < 1024; omega) (by show 1024 + j.val < 2688; omega)).trans ?_
  exact congrArg x2 (congrArg₂ ix2 (Fin.ext (by show 0 + k.val = k.val; omega)) rfl)

theorem out_at6 (x0 : Vec Ideal S512x1024 .f32) (x1 : Vec Ideal S1x1024 .f32) (x2 : Vec Ideal S1024x2688 .bf16) (r : Fin 512) (j : Fin 1024) :
    out0_6 (F := Ideal) x0 x1 x2 (ix2 r j) = dot (rmsNorm (fun j => x0 (ix2 r j)) (fun k => x1 (ix2 (0 : Fin 1) k))) (fun k n => x2 (ix2 k n)) (⟨1536 + j.val, by omega⟩ : Fin 2688) := by
  rw [out_eq6]
  refine (congrFun (View.canon_cons_unit_lit _ _ _ (by decide)) (ix2 r j)).trans ?_
  rw [mm1024_at]
  unfold dot
  refine Finset.sum_congr rfl fun k _ => congrArg₂ (· * ·) (rowsAll_at x0 x1 r k) ?_
  have hj := j.isLt
  have hk := k.isLt
  refine (ld_at x2 ![0, 1536] _ k j (by show 0 + k.val < 1024; omega) (by show 1536 + j.val < 2688; omega)).trans ?_
  exact congrArg x2 (congrArg₂ ix2 (Fin.ext (by show 0 + k.val = k.val; omega)) rfl)

theorem out_at7 (x0 : Vec Ideal S512x1024 .f32) (x1 : Vec Ideal S1x1024 .f32) (x2 : Vec Ideal S1024x2688 .bf16) (r : Fin 512) (j : Fin 128) :
    out0_7 (F := Ideal) x0 x1 x2 (ix2 r j) = dot (rmsNorm (fun j => x0 (ix2 r j)) (fun k => x1 (ix2 (0 : Fin 1) k))) (fun k n => x2 (ix2 k n)) (⟨2560 + j.val, by omega⟩ : Fin 2688) := by
  rw [out_eq7]
  refine (congrFun (View.canon_cons_unit_lit _ _ _ (by decide)) (ix2 r j)).trans ?_
  rw [mm128_at]
  unfold dot
  refine Finset.sum_congr rfl fun k _ => congrArg₂ (· * ·) (rowsAll_at x0 x1 r k) ?_
  have hj := j.isLt
  have hk := k.isLt
  refine (ld_at x2 ![0, 2560] _ k j (by show 0 + k.val < 1024; omega) (by show 2560 + j.val < 2688; omega)).trans ?_
  exact congrArg x2 (congrArg₂ ix2 (Fin.ext (by show 0 + k.val = k.val; omega)) rfl)

end Cert.Kernel4Ideal.Proj
-- ==== Proof.Proj4Arr.lean ====
/-
  The odd layers' input product's arrays after the run, entry by entry.
-/
module

public import proofs.«01_k».proof.Proof.Proj4Val

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Row
open Idealize.ShloMosaic.StableHlo

section Blocks
variable {F : FTy → Type} [FloatOps F]
variable (m : (ℓ : Loc nD τ sig) → Buf (Elt F) ℓ)

theorem coord (t : Fin cfg0.N) : (grid0.coords t 0).val = t.val :=
  (by decide +kernel : ∀ t : Fin grid0.N, (grid0.coords t 0).val = t.val) t

theorem lt64 (t : Fin cfg0.N) : t.val < 64 := t.isLt

/-- The weights as the run finds them. -/
def wideW (a2 : FVec F S1024x2568 .f32) : FVec F S1024x2688 .bf16 :=
  truncf .bf16 (concatenate S1024x2688 1 [⟨S1024x1536, extractStridedSlice S1024x1536 ![0, 0] a2 slices_S1024x2568_S1024x1536_0_0⟩, ⟨S1024x1024, extractStridedSlice S1024x1024 ![0, 1544] a2 slices_S1024x2568_S1024x1024_0_1544⟩, ⟨S1024x128, pad S1024x128 ![0, 0] ![0, 120] ![0, 0] (extractStridedSlice S1024x8 ![0, 1536] a2 slices_S1024x2568_S1024x8_0_1536) (sitofp .f32 (constantI S_ 32 0#32)) pads_S1024x8_S1024x128_000_01200 h_S_⟩] concatenates_S1024x1536_S1024x1024_S1024x128_S1024x2688_d1) bitsLt_bf16_f32

theorem V_w (c : Dev nD) : V m c main_v5 = wideW (m ((c : Thread nD τ).loc main_arg2) : FVec F S1024x2568 .f32) := by
  unfold V hostOps0 hostOps0_1 hostOps0_2
  simp only [List.flatten_cons, List.flatten_nil, List.append_nil, List.cons_append, List.nil_append, TRef.binary, TRef.unary, TRef.toBuf, TRef.ofBuf, cast_eq]
  after_results
  try rfl
theorem V_g (c : Dev nD) : V m c main_v6 = shapeCast S1x1024 (m ((c : Thread nD τ).loc main_arg1) : FVec F S1024 .f32) shapeCasts_S1024_S1x1024 := by
  unfold V hostOps0 hostOps0_1 hostOps0_2
  simp only [List.flatten_cons, List.flatten_nil, List.append_nil, List.cons_append, List.nil_append, TRef.binary, TRef.unary, TRef.toBuf, TRef.ofBuf, cast_eq]
  after_results
  rfl

theorem iblk0_at (c : Dev nD) (t : Fin cfg0.N) (r : Fin 512) (k : Fin 1024) :
    (iblk m c 0 t : S512x1024.Idx → Elt F .f32) (ix2 r k) = V m c main_arg0 (ix2 (⟨512 * t.val + r.val, by have := lt64 t; omega⟩ : Fin 32768) k) := by
  refine congrArg (V m c main_arg0) (funext fun a => Fin.ext ?_)
  have h0 := coord t
  have hlt := lt64 t
  fin_cases a
  · show (BitVec.ofNat 32 (grid0.coords t 0).val).toNat * 512 + 1 * r.val = 512 * t.val + r.val
    rw [h0, BitVec.toNat_ofNat]; omega
  · show 0 * 1024 + 1 * k.val = k.val
    omega

theorem iblk1_at (c : Dev nD) (t : Fin cfg0.N) (k : Fin 1) (n : Fin 1024) :
    (iblk m c 1 t : S1x1024.Idx → Elt F .f32) (ix2 k n) = V m c main_v6 (ix2 k n) := by
  refine congrArg (V m c main_v6) (funext fun a => Fin.ext ?_)
  fin_cases a
  · show 0 * 1 + 1 * k.val = k.val
    omega
  · show 0 * 1024 + 1 * n.val = n.val
    omega

theorem iblk2_at (c : Dev nD) (t : Fin cfg0.N) (k : Fin 1024) (n : Fin 2688) :
    (iblk m c 2 t : S1024x2688.Idx → Elt F .bf16) (ix2 k n) = V m c main_v5 (ix2 k n) := by
  refine congrArg (V m c main_v5) (funext fun a => Fin.ext ?_)
  fin_cases a
  · show 0 * 1024 + 1 * k.val = k.val
    omega
  · show 0 * 2688 + 1 * n.val = n.val
    omega

/-- The point that holds a row. -/
def pointOf (t : Fin 32768) : Fin cfg0.N := ⟨t.val / 512, by have := t.isLt; show t.val / 512 < 64; omega⟩

theorem flush3 : ∀ t : Fin cfg0.N, (cfg0.win 3).flush t = true :=
  (by decide +kernel : ∀ t : Fin grid0.N, win0_3.flush t = true)

theorem arr_at3 (c : Dev nD) (t : Fin 32768) (j : Fin 512) :
    ((dats m 0 c).arrAt 3 cfg0.N : S32768x512.Idx → Elt F .f32) (ix2 t j)
      = out0_3 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks3 m c (pointOf t) (flush3 _)).trans (Value.flushed3 m c (pointOf t))) (ix2 (⟨t.val % 512, by omega⟩ : Fin 512) j)
  refine Eq.trans (congrArg ((dats m 0 c).arrAt 3 cfg0.N : S32768x512.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 512 + 1 * j.val
    omega

theorem flush4 : ∀ t : Fin cfg0.N, (cfg0.win 4).flush t = true :=
  (by decide +kernel : ∀ t : Fin grid0.N, win0_4.flush t = true)

theorem arr_at4 (c : Dev nD) (t : Fin 32768) (j : Fin 512) :
    ((dats m 0 c).arrAt 4 cfg0.N : S32768x512.Idx → Elt F .f32) (ix2 t j)
      = out0_4 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks4 m c (pointOf t) (flush4 _)).trans (Value.flushed4 m c (pointOf t))) (ix2 (⟨t.val % 512, by omega⟩ : Fin 512) j)
  refine Eq.trans (congrArg ((dats m 0 c).arrAt 4 cfg0.N : S32768x512.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 512 + 1 * j.val
    omega

theorem flush5 : ∀ t : Fin cfg0.N, (cfg0.win 5).flush t = true :=
  (by decide +kernel : ∀ t : Fin grid0.N, win0_5.flush t = true)

theorem arr_at5 (c : Dev nD) (t : Fin 32768) (j : Fin 512) :
    ((dats m 0 c).arrAt 5 cfg0.N : S32768x512.Idx → Elt F .f32) (ix2 t j)
      = out0_5 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks5 m c (pointOf t) (flush5 _)).trans (Value.flushed5 m c (pointOf t))) (ix2 (⟨t.val % 512, by omega⟩ : Fin 512) j)
  refine Eq.trans (congrArg ((dats m 0 c).arrAt 5 cfg0.N : S32768x512.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 512 + 1 * j.val
    omega

theorem flush6 : ∀ t : Fin cfg0.N, (cfg0.win 6).flush t = true :=
  (by decide +kernel : ∀ t : Fin grid0.N, win0_6.flush t = true)

theorem arr_at6 (c : Dev nD) (t : Fin 32768) (j : Fin 1024) :
    ((dats m 0 c).arrAt 6 cfg0.N : S32768x1024.Idx → Elt F .f32) (ix2 t j)
      = out0_6 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks6 m c (pointOf t) (flush6 _)).trans (Value.flushed6 m c (pointOf t))) (ix2 (⟨t.val % 512, by omega⟩ : Fin 512) j)
  refine Eq.trans (congrArg ((dats m 0 c).arrAt 6 cfg0.N : S32768x1024.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 1024 + 1 * j.val
    omega

theorem flush7 : ∀ t : Fin cfg0.N, (cfg0.win 7).flush t = true :=
  (by decide +kernel : ∀ t : Fin grid0.N, win0_7.flush t = true)

theorem arr_at7 (c : Dev nD) (t : Fin 32768) (j : Fin 128) :
    ((dats m 0 c).arrAt 7 cfg0.N : S32768x128.Idx → Elt F .f32) (ix2 t j)
      = out0_7 (iblk m c 0 (pointOf t)) (iblk m c 1 (pointOf t)) (iblk m c 2 (pointOf t)) (ix2 (⟨t.val % 512, by omega⟩ : Fin 512) j) := by
  have ht := t.isLt
  have c0 := coord (pointOf t)
  have hp : (pointOf t).val = t.val / 512 := rfl
  have h := congrFun ((Value.blocks7 m c (pointOf t) (flush7 _)).trans (Value.flushed7 m c (pointOf t))) (ix2 (⟨t.val % 512, by omega⟩ : Fin 512) j)
  refine Eq.trans (congrArg ((dats m 0 c).arrAt 7 cfg0.N : S32768x128.Idx → Elt F .f32) (funext fun a => Fin.ext ?_)) (h.trans rfl)
  fin_cases a
  · show t.val = (BitVec.ofNat 32 (grid0.coords (pointOf t) 0).val).toNat * 512 + 1 * (t.val % 512)
    rw [c0, BitVec.toNat_ofNat]; omega
  · show j.val = 0 * 128 + 1 * j.val
    omega

end Blocks

/-- The weights as the run finds them, column by column. -/
def wideF (w : Fin 1024 → Fin 2568 → EReal) (k : Fin 1024) (n : Fin 2688) : EReal :=
  if h : n.val < 1536 then w k ⟨n.val, by omega⟩ else if h : n.val < 2560 then w k ⟨8 + n.val, by omega⟩ else if h : n.val < 2568 then w k ⟨n.val - 1024, by omega⟩ else 0

theorem zero_word : (sitofp (F := Ideal) .f32 (constantI S_ 32 0#32)) = fun _ => (0 : EReal) := by
  funext i
  show (((0#32 : BitVec 32).toInt : ℝ) : EReal) = 0
  simp

theorem wideW_at (a2 : FVec Ideal S1024x2568 .f32) (k : Fin 1024) (n : Fin 2688) :
    wideW (F := Ideal) a2 (ix2 k n) = wideF (fun k n => a2 (ix2 k n)) k n := by
  have hk := k.isLt
  have hn := n.isLt
  unfold wideW wideF
  rw [zero_word]
  simp only [pointwise, Nat.reduceEqDiff, ↓reduceDIte]
  by_cases h1 : n.val < 1536
  · rw [dif_pos (show n.val < (![1024, 1536] : Fin 2 → ℕ) 1 from h1), dif_pos h1]
    exact congrArg a2 (congrArg₂ ix2 (Fin.ext (by simp)) (Fin.ext (by simp)))
  rw [dif_neg (show ¬ n.val < (![1024, 1536] : Fin 2 → ℕ) 1 from h1), dif_neg h1]
  by_cases h2 : n.val < 2560
  · rw [dif_pos (show n.val - (![1024, 1536] : Fin 2 → ℕ) 1 < (![1024, 1024] : Fin 2 → ℕ) 1 by show n.val - 1536 < 1024; omega), dif_pos h2]
    exact congrArg a2 (congrArg₂ ix2 (Fin.ext (by simp)) (Fin.ext (by show 1544 + (if True then n.val - 1536 else n.val) = 8 + n.val; rw [if_pos trivial]; omega)))
  rw [dif_neg (show ¬ n.val - (![1024, 1536] : Fin 2 → ℕ) 1 < (![1024, 1024] : Fin 2 → ℕ) 1 by show ¬ n.val - 1536 < 1024; omega), dif_neg h2]
  by_cases h3 : n.val < 2568
  · refine Eq.trans (dif_pos ?_) (Eq.trans ?_ (dif_pos h3).symm)
    rotate_left
    · exact congrArg a2 (congrArg₂ ix2 (Fin.ext (by simp)) (Fin.ext (by show 1536 + ((if True then n.val - 1536 - 1024 else n.val) - 0) / (0 + 1) = n.val - 1024; rw [if_pos trivial]; omega)))
    · intro a
      fin_cases a
      · exact ⟨Nat.zero_le _, Nat.mod_one _, by simp⟩
      · refine ⟨Nat.zero_le _, Nat.mod_one _, ?_⟩
        show ((if True then n.val - 1536 - 1024 else n.val) - 0) / (0 + 1) < 8
        rw [if_pos trivial]
        omega
  · refine Eq.trans (dif_neg ?_) (Eq.symm (dif_neg (e := fun _ => (0 : EReal)) h3))
    intro h
    have h4 : ((if True then n.val - 1536 - 1024 else n.val) - 0) / (0 + 1) < 8 := (h 1).2.2
    rw [if_pos trivial] at h4
    omega

/-- A row's products with the weights as the run finds them. -/
theorem row_eq (m : (ℓ : Loc nD τ sig) → Buf (Elt Ideal) ℓ) (c : Dev nD) (a0 : FVec Ideal S32768x1024 .f32) (a1 : FVec Ideal S1024 .f32) (a2 : FVec Ideal S1024x2568 .f32)
    (h0 : m ((c : Thread nD τ).loc main_arg0) = a0) (h1 : m ((c : Thread nD τ).loc main_arg1) = a1) (h2 : m ((c : Thread nD τ).loc main_arg2) = a2) (t : Fin 32768) (n : Fin 2688) :
    dot (rmsNorm (fun j => (iblk m c 0 (pointOf t) : S512x1024.Idx → EReal) (ix2 (⟨t.val % 512, by omega⟩ : Fin 512) j)) (fun k => (iblk m c 1 (pointOf t) : S1x1024.Idx → EReal) (ix2 (0 : Fin 1) k))) (fun (k : Fin 1024) n => (iblk m c 2 (pointOf t) : S1024x2688.Idx → EReal) (ix2 k n)) n
      = dot (rmsNorm (fun k => a0 (ix2 t k)) (fun k => a1 (ix1 k))) (wideF fun k n => a2 (ix2 k n)) n := by
  have ht := t.isLt
  have hp : (pointOf t).val = t.val / 512 := rfl
  have hr : ∀ h, (⟨512 * (pointOf t).val + t.val % 512, h⟩ : Fin 32768) = t := fun h => Fin.ext (by show 512 * (pointOf t).val + t.val % 512 = t.val; omega)
  have e0 : (fun j : Fin 1024 => (iblk m c 0 (pointOf t) : S512x1024.Idx → EReal) (ix2 (⟨t.val % 512, by omega⟩ : Fin 512) j)) = fun j => a0 (ix2 t j) := funext fun j => by
    refine (iblk0_at m c (pointOf t) _ j).trans ?_
    rw [V_main_arg0, h0]
    exact congrArg (fun x => a0 (ix2 x j)) (hr _)
  have e1 : (fun j : Fin 1024 => (iblk m c 1 (pointOf t) : S1x1024.Idx → EReal) (ix2 (0 : Fin 1) j)) = fun j => a1 (ix1 j) := funext fun j => by
    refine (iblk1_at m c (pointOf t) 0 j).trans ?_
    rw [V_g, h1]
    simp only [pointwise]
  have e2 : (fun (k : Fin 1024) (j : Fin 2688) => (iblk m c 2 (pointOf t) : S1024x2688.Idx → EReal) (ix2 k j)) = wideF fun k n => a2 (ix2 k n) := funext fun k => funext fun j => by
    refine (iblk2_at m c (pointOf t) k j).trans ?_
    rw [V_w, h2]
    exact wideW_at a2 k j
  rw [e0, e1, e2]

/-- Result 0, entry by entry. -/
theorem arr_form3 (m : (ℓ : Loc nD τ sig) → Buf (Elt Ideal) ℓ) (c : Dev nD) (a0 : FVec Ideal S32768x1024 .f32) (a1 : FVec Ideal S1024 .f32) (a2 : FVec Ideal S1024x2568 .f32)
    (h0 : m ((c : Thread nD τ).loc main_arg0) = a0) (h1 : m ((c : Thread nD τ).loc main_arg1) = a1) (h2 : m ((c : Thread nD τ).loc main_arg2) = a2) (t : Fin 32768) (j : Fin 512) :
    ((dats m 0 c).arrAt 3 cfg0.N : S32768x512.Idx → EReal) (ix2 t j) = dot (rmsNorm (fun k => a0 (ix2 t k)) (fun k => a1 (ix1 k))) (fun k n => a2 (ix2 k n)) (⟨0 + j.val, by omega⟩ : Fin 2568) := by
  have hj := j.isLt
  refine (arr_at3 m c t j).trans ((out_at3 _ _ _ _ j).trans ((row_eq m c a0 a1 a2 h0 h1 h2 t _).trans ?_))
  unfold dot
  refine Finset.sum_congr rfl fun k _ => congrArg₂ (· * ·) rfl ?_
  unfold wideF
  rw [dif_pos (show 0 + j.val < 1536 by omega)]

/-- Result 1, entry by entry. -/
theorem arr_form4 (m : (ℓ : Loc nD τ sig) → Buf (Elt Ideal) ℓ) (c : Dev nD) (a0 : FVec Ideal S32768x1024 .f32) (a1 : FVec Ideal S1024 .f32) (a2 : FVec Ideal S1024x2568 .f32)
    (h0 : m ((c : Thread nD τ).loc main_arg0) = a0) (h1 : m ((c : Thread nD τ).loc main_arg1) = a1) (h2 : m ((c : Thread nD τ).loc main_arg2) = a2) (t : Fin 32768) (j : Fin 512) :
    ((dats m 0 c).arrAt 4 cfg0.N : S32768x512.Idx → EReal) (ix2 t j) = dot (rmsNorm (fun k => a0 (ix2 t k)) (fun k => a1 (ix1 k))) (fun k n => a2 (ix2 k n)) (⟨512 + j.val, by omega⟩ : Fin 2568) := by
  have hj := j.isLt
  refine (arr_at4 m c t j).trans ((out_at4 _ _ _ _ j).trans ((row_eq m c a0 a1 a2 h0 h1 h2 t _).trans ?_))
  unfold dot
  refine Finset.sum_congr rfl fun k _ => congrArg₂ (· * ·) rfl ?_
  unfold wideF
  rw [dif_pos (show 512 + j.val < 1536 by omega)]

/-- Result 2, entry by entry. -/
theorem arr_form5 (m : (ℓ : Loc nD τ sig) → Buf (Elt Ideal) ℓ) (c : Dev nD) (a0 : FVec Ideal S32768x1024 .f32) (a1 : FVec Ideal S1024 .f32) (a2 : FVec Ideal S1024x2568 .f32)
    (h0 : m ((c : Thread nD τ).loc main_arg0) = a0) (h1 : m ((c : Thread nD τ).loc main_arg1) = a1) (h2 : m ((c : Thread nD τ).loc main_arg2) = a2) (t : Fin 32768) (j : Fin 512) :
    ((dats m 0 c).arrAt 5 cfg0.N : S32768x512.Idx → EReal) (ix2 t j) = dot (rmsNorm (fun k => a0 (ix2 t k)) (fun k => a1 (ix1 k))) (fun k n => a2 (ix2 k n)) (⟨1024 + j.val, by omega⟩ : Fin 2568) := by
  have hj := j.isLt
  refine (arr_at5 m c t j).trans ((out_at5 _ _ _ _ j).trans ((row_eq m c a0 a1 a2 h0 h1 h2 t _).trans ?_))
  unfold dot
  refine Finset.sum_congr rfl fun k _ => congrArg₂ (· * ·) rfl ?_
  unfold wideF
  rw [dif_pos (show 1024 + j.val < 1536 by omega)]

/-- Result 3, entry by entry. -/
theorem arr_form6 (m : (ℓ : Loc nD τ sig) → Buf (Elt Ideal) ℓ) (c : Dev nD) (a0 : FVec Ideal S32768x1024 .f32) (a1 : FVec Ideal S1024 .f32) (a2 : FVec Ideal S1024x2568 .f32)
    (h0 : m ((c : Thread nD τ).loc main_arg0) = a0) (h1 : m ((c : Thread nD τ).loc main_arg1) = a1) (h2 : m ((c : Thread nD τ).loc main_arg2) = a2) (t : Fin 32768) (j : Fin 1024) :
    ((dats m 0 c).arrAt 6 cfg0.N : S32768x1024.Idx → EReal) (ix2 t j) = dot (rmsNorm (fun k => a0 (ix2 t k)) (fun k => a1 (ix1 k))) (fun k n => a2 (ix2 k n)) (⟨1544 + j.val, by omega⟩ : Fin 2568) := by
  have hj := j.isLt
  refine (arr_at6 m c t j).trans ((out_at6 _ _ _ _ j).trans ((row_eq m c a0 a1 a2 h0 h1 h2 t _).trans ?_))
  unfold dot
  refine Finset.sum_congr rfl fun k _ => congrArg₂ (· * ·) rfl ?_
  unfold wideF
  rw [dif_neg (show ¬ 1536 + j.val < 1536 by omega), dif_pos (show 1536 + j.val < 2560 by omega)]
  exact congrArg (fun n => a2 (ix2 k n)) (Fin.ext (by show 8 + (1536 + j.val) = 1544 + j.val; omega))

/-- Result 4, entry by entry. -/
theorem arr_form7 (m : (ℓ : Loc nD τ sig) → Buf (Elt Ideal) ℓ) (c : Dev nD) (a0 : FVec Ideal S32768x1024 .f32) (a1 : FVec Ideal S1024 .f32) (a2 : FVec Ideal S1024x2568 .f32)
    (h0 : m ((c : Thread nD τ).loc main_arg0) = a0) (h1 : m ((c : Thread nD τ).loc main_arg1) = a1) (h2 : m ((c : Thread nD τ).loc main_arg2) = a2) (t : Fin 32768) (j : Fin 128) :
    ((dats m 0 c).arrAt 7 cfg0.N : S32768x128.Idx → EReal) (ix2 t j) = (if h : j.val < 8 then dot (rmsNorm (fun k => a0 (ix2 t k)) (fun k => a1 (ix1 k))) (fun k n => a2 (ix2 k n)) (⟨1536 + j.val, by omega⟩ : Fin 2568) else 0) := by
  have hj := j.isLt
  refine (arr_at7 m c t j).trans ((out_at7 _ _ _ _ j).trans ((row_eq m c a0 a1 a2 h0 h1 h2 t _).trans ?_))
  by_cases h : j.val < 8
  · rw [dif_pos h]
    unfold dot
    refine Finset.sum_congr rfl fun k _ => congrArg₂ (· * ·) rfl ?_
    unfold wideF
    rw [dif_neg (show ¬ 2560 + j.val < 1536 by omega), dif_neg (show ¬ 2560 + j.val < 2560 by omega), dif_pos (show 2560 + j.val < 2568 by omega)]
    exact congrArg (fun n => a2 (ix2 k n)) (Fin.ext (by show 2560 + j.val - 1024 = 1536 + j.val; omega))
  · rw [dif_neg h]
    unfold dot
    refine Finset.sum_eq_zero fun k _ => ?_
    unfold wideF
    rw [dif_neg (show ¬ 2560 + j.val < 1536 by omega), dif_neg (show ¬ 2560 + j.val < 2560 by omega), dif_neg (show ¬ 2560 + j.val < 2568 by omega)]
    exact mul_zero _

end Cert.Kernel4Ideal.Proj
-- ==== Proof.Proj4Ref.lean ====
/-
  The odd layers' input product's reference at one entry.
-/
module

public import proofs.«01_k».proof.Proof.Gen.Reference4Ideal.Run
public import proofs.«01_k».proof.Proof.FfnForm
public import Idealize.ShloMosaic.Lib.Pointwise

@[expose] public section

noncomputable section

namespace Cert.Reference4Ideal.Proj

open Cert.Reference4Ideal Cert.Reference4Ideal.Gen Cert.Reference4Ideal.Value Idealize.ShloMosaic Idealize.ShloMosaic.TcCoe Idealize.SL.Sem Cert.Row

/-- The rows' sums of squares. -/
def sqR (x : FVec Ideal S32768x1024 .f32) : FVec Ideal S32768 .f32 :=
  Host.reduceAdd (mulf x x) (constant S_ .f32 0x00000000#32) reducesTo_S32768x1024_S32768_d1 h_S_

/-- The rows' scales. -/
def scaleR (x : FVec Ideal S32768x1024 .f32) : FVec Ideal S32768x1 .f32 :=
  Host.rsqrt (addf (Host.divf (broadcastInDim S32768x1 ![0] bcast_S32768_S32768x1_0 (sqR x)) (broadcastInDim S32768x1 ![] bcast_S_S32768x1 (constant S_ .f32 0x44800000#32))) (broadcastInDim S32768x1 ![] bcast_S_S32768x1 (constant S_ .f32 0x358637BD#32)))

/-- The normalized rows. -/
def hR (x : FVec Ideal S32768x1024 .f32) (a1 : FVec Ideal S1024 .f32) : FVec Ideal S32768x1024 .f32 :=
  mulf (mulf x (broadcastInDim S32768x1024 ![0, 1] bcast_S32768x1_S32768x1024_0_1 (scaleR x))) (broadcastInDim S32768x1024 ![0, 1] bcast_S1x1024_S32768x1024_0_1 (broadcastInDim S1x1024 ![1] bcast_S1024_S1x1024_1 a1))

/-- Their product with the weights. -/
def projR (a0 : FVec Ideal S32768x1024 .f32) (a1 : FVec Ideal S1024 .f32) (a2 : FVec Ideal S1024x2568 .f32) : FVec Ideal S32768x2568 .f32 :=
  Host.dotGeneral dot_S32768x1024_S1024x2568_S32768x2568_1_0_0_1_n_n none (hR a0 a1) a2

theorem sqR_at (x : FVec Ideal S32768x1024 .f32) (t : Fin 32768) :
    sqR x (ix1 t) = ∑ j : Fin 1024, x (ix2 t j) * x (ix2 t j) := by
  unfold sqR
  simp only [pointwise, Nat.reduceEqDiff, ↓reduceDIte, Ideal.ofBits_zero, zero_add]

theorem scaleR_at (x : FVec Ideal S32768x1024 .f32) (t : Fin 32768) :
    scaleR x (ix2 t (0 : Fin 1)) = Ideal.rsqrt (Ideal.div (∑ j : Fin 1024, x (ix2 t j) * x (ix2 t j)) (Ideal.ofBits .f32 0x44800000#32) + Ideal.ofBits .f32 0x358637BD#32) := by
  unfold scaleR
  simp only [pointwise, Nat.reduceEqDiff, ↓reduceDIte, sqR_at]

theorem hR_at (x : FVec Ideal S32768x1024 .f32) (a1 : FVec Ideal S1024 .f32) (t : Fin 32768) (k : Fin 1024) :
    hR x a1 (ix2 t k) = rmsNorm (fun j => x (ix2 t j)) (fun k => a1 (ix1 k)) k := by
  unfold hR
  simp only [pointwise, Nat.reduceEqDiff, ↓reduceDIte, scaleR_at]
  rfl

theorem projR_at (a0 : FVec Ideal S32768x1024 .f32) (a1 : FVec Ideal S1024 .f32) (a2 : FVec Ideal S1024x2568 .f32) (t : Fin 32768) (n : Fin 2568) :
    projR a0 a1 a2 (ix2 t n) = dot (rmsNorm (fun k => a0 (ix2 t k)) (fun k => a1 (ix1 k))) (fun k n => a2 (ix2 k n)) n := by
  unfold projR dot
  simp only [pointwise, Nat.reduceEqDiff, ↓reduceDIte, hR_at, zero_add]

theorem zero_word : (sitofp (F := Ideal) .f32 (constantI S_ 32 0#32)) = fun _ => (0 : EReal) := by
  funext i
  show (((0#32 : BitVec 32).toInt : ℝ) : EReal) = 0
  simp

/-- Result 0, entry by entry. -/
theorem res_at3 (a0 : FVec Ideal S32768x1024 .f32) (a1 : FVec Ideal S1024 .f32) (a2 : FVec Ideal S1024x2568 .f32) (t : Fin 32768) (j : Fin 512) :
    extractStridedSlice S32768x512 ![0, 0] (projR a0 a1 a2) slices_S32768x2568_S32768x512_0_0 (ix2 t j) = dot (rmsNorm (fun k => a0 (ix2 t k)) (fun k => a1 (ix1 k))) (fun k n => a2 (ix2 k n)) (⟨0 + j.val, by omega⟩ : Fin 2568) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 1, entry by entry. -/
theorem res_at4 (a0 : FVec Ideal S32768x1024 .f32) (a1 : FVec Ideal S1024 .f32) (a2 : FVec Ideal S1024x2568 .f32) (t : Fin 32768) (j : Fin 512) :
    extractStridedSlice S32768x512 ![0, 512] (projR a0 a1 a2) slices_S32768x2568_S32768x512_0_512 (ix2 t j) = dot (rmsNorm (fun k => a0 (ix2 t k)) (fun k => a1 (ix1 k))) (fun k n => a2 (ix2 k n)) (⟨512 + j.val, by omega⟩ : Fin 2568) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 2, entry by entry. -/
theorem res_at5 (a0 : FVec Ideal S32768x1024 .f32) (a1 : FVec Ideal S1024 .f32) (a2 : FVec Ideal S1024x2568 .f32) (t : Fin 32768) (j : Fin 512) :
    extractStridedSlice S32768x512 ![0, 1024] (projR a0 a1 a2) slices_S32768x2568_S32768x512_0_1024 (ix2 t j) = dot (rmsNorm (fun k => a0 (ix2 t k)) (fun k => a1 (ix1 k))) (fun k n => a2 (ix2 k n)) (⟨1024 + j.val, by omega⟩ : Fin 2568) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 3, entry by entry. -/
theorem res_at6 (a0 : FVec Ideal S32768x1024 .f32) (a1 : FVec Ideal S1024 .f32) (a2 : FVec Ideal S1024x2568 .f32) (t : Fin 32768) (j : Fin 1024) :
    extractStridedSlice S32768x1024 ![0, 1544] (projR a0 a1 a2) slices_S32768x2568_S32768x1024_0_1544 (ix2 t j) = dot (rmsNorm (fun k => a0 (ix2 t k)) (fun k => a1 (ix1 k))) (fun k n => a2 (ix2 k n)) (⟨1544 + j.val, by omega⟩ : Fin 2568) := by
  refine Eq.trans ?_ (projR_at a0 a1 a2 t _)
  simp only [pointwise, Nat.reduceEqDiff, ↓reduceDIte]
  exact congrArg (projR a0 a1 a2) (congrArg₂ ix2 (Fin.ext (Nat.zero_add _)) (Fin.ext rfl))

/-- Result 4, entry by entry. -/
theorem res_at7 (a0 : FVec Ideal S32768x1024 .f32) (a1 : FVec Ideal S1024 .f32) (a2 : FVec Ideal S1024x2568 .f32) (t : Fin 32768) (j : Fin 128) :
    pad S32768x128 ![0, 0] ![0, 120] ![0, 0] (extractStridedSlice S32768x8 ![0, 1536] (projR a0 a1 a2) slices_S32768x2568_S32768x8_0_1536) (sitofp .f32 (constantI S_ 32 0#32)) pads_S32768x8_S32768x128_000_01200 h_S_ (ix2 t j) = (if h : j.val < 8 then dot (rmsNorm (fun k => a0 (ix2 t k)) (fun k => a1 (ix1 k))) (fun k n => a2 (ix2 k n)) (⟨1536 + j.val, by omega⟩ : Fin 2568) else 0) := by
  have ht := t.isLt
  rw [zero_word, pad_apply]
  split
  · rename_i h
    have hj : j.val < 8 := by simpa using (h 1).2.2
    rw [dif_pos hj]
    refine Eq.trans ?_ (projR_at a0 a1 a2 t _)
    simp only [pointwise, Nat.reduceEqDiff, ↓reduceDIte]
    exact congrArg (projR a0 a1 a2) (funext fun a => Fin.ext (by fin_cases a <;> simp))
  · rename_i h
    rw [dif_neg]
    intro hlt
    refine h fun a => ?_
    fin_cases a
    · exact ⟨Nat.zero_le _, Nat.mod_one _, by simp⟩
    · exact ⟨Nat.zero_le _, Nat.mod_one _, by simpa using hlt⟩

end Cert.Reference4Ideal.Proj
-- ==== Proof.Proj4Alg.lean ====
/-
  The odd layers' input product and its reference end with equal results.
-/
module

public import proofs.«01_k».proof.Defs
public import proofs.«01_k».proof.Proof.Proj4Arr
public import proofs.«01_k».proof.Proof.Proj4Ref
public import Idealize.ShloMosaic.Adequacy

@[expose] public section

noncomputable section

namespace Cert.Kernel4Ideal.Proj

open Idealize.ShloMosaic Idealize.ShloMosaic.TcCoe Idealize.SL.Sem
open Cert.Kernel4Ideal Cert.Kernel4Ideal.Gen

/-- An index of two coordinates is the pair of them. -/
theorem idx_pair {n p : ℕ} (j : (Shape.mk 2 ![n, p]).Idx) : j = ix2 (j 0 : Fin n) (j 1 : Fin p) :=
  funext fun a => by fin_cases a <;> rfl

/-- Equal arguments give equal results. -/
theorem algebraic : Cert.algebraic_Kernel4Ideal_Reference4Ideal (hKernel4Ideal := Cert.Kernel4Ideal.Gen.facts) (hReference4Ideal := Cert.Reference4Ideal.Gen.facts) :=
  fun m g m' g' _ hagree => ⟨fun c => (dats (F := Ideal) m 0 c).arrAt 3 cfg0.N, fun c => (dats (F := Ideal) m 0 c).arrAt 4 cfg0.N, fun c => (dats (F := Ideal) m 0 c).arrAt 5 cfg0.N, fun c => (dats (F := Ideal) m 0 c).arrAt 6 cfg0.N, fun c => (dats (F := Ideal) m 0 c).arrAt 7 cfg0.N,
    Value.run_blocks (F := Ideal) m g,
    (θ_run _ _ _).mono (fun r h c => ⟨((h c).1).trans (funext fun j : (Shape.mk 2 ![32768, 512]).Idx => by
        rw [idx_pair j]
        exact ((Cert.Reference4Ideal.Proj.res_at3 _ _ _ (j 0 : Fin 32768) (j 1 : Fin 512))).trans
          (arr_form3 m c _ _ _ (hagree c).1.symm (hagree c).2.1.symm (hagree c).2.2.symm (j 0 : Fin 32768) (j 1 : Fin 512)).symm),
      ((h c).2.1).trans (funext fun j : (Shape.mk 2 ![32768, 512]).Idx => by
        rw [idx_pair j]
        exact ((Cert.Reference4Ideal.Proj.res_at4 _ _ _ (j 0 : Fin 32768) (j 1 : Fin 512))).trans
          (arr_form4 m c _ _ _ (hagree c).1.symm (hagree c).2.1.symm (hagree c).2.2.symm (j 0 : Fin 32768) (j 1 : Fin 512)).symm),
      ((h c).2.2.1).trans (funext fun j : (Shape.mk 2 ![32768, 512]).Idx => by
        rw [idx_pair j]
        exact ((Cert.Reference4Ideal.Proj.res_at5 _ _ _ (j 0 : Fin 32768) (j 1 : Fin 512))).trans
          (arr_form5 m c _ _ _ (hagree c).1.symm (hagree c).2.1.symm (hagree c).2.2.symm (j 0 : Fin 32768) (j 1 : Fin 512)).symm),
      ((h c).2.2.2.1).trans (funext fun j : (Shape.mk 2 ![32768, 1024]).Idx => by
        rw [idx_pair j]
        exact ((Cert.Reference4Ideal.Proj.res_at6 _ _ _ (j 0 : Fin 32768) (j 1 : Fin 1024))).trans
          (arr_form6 m c _ _ _ (hagree c).1.symm (hagree c).2.1.symm (hagree c).2.2.symm (j 0 : Fin 32768) (j 1 : Fin 1024)).symm),
      ((h c).2.2.2.2.1).trans (funext fun j : (Shape.mk 2 ![32768, 128]).Idx => by
        rw [idx_pair j]
        exact ((Cert.Reference4Ideal.Proj.res_at7 _ _ _ (j 0 : Fin 32768) (j 1 : Fin 128))).trans
          (arr_form7 m c _ _ _ (hagree c).1.symm (hagree c).2.1.symm (hagree c).2.2.symm (j 0 : Fin 32768) (j 1 : Fin 128)).symm),
      (h c).2.2.2.2.2⟩) (Cert.Reference4Ideal.Value.run (F := Ideal) m' g')⟩

end Cert.Kernel4Ideal.Proj
-- ==== Proof.Att5Step.lean ====
/-
  One key block's step of the masked attention on the eight heads' running maxima and sums.
-/
module

public import proofs.«01_k».proof.Proof.Gen.Kernel5Ideal.Value
public import Idealize.ShloMosaic.Lib.VecWindow
public import Idealize.ShloMosaic.Lib.Pointwise
public import Idealize.ShloMosaic.Lib.Pipeline.ValueKit

@[expose] public section

set_option maxRecDepth 16384

noncomputable section

namespace Cert.Kernel5Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F] [Named F]

/-! ## The state's rows and the blocks a step reads -/

/-- One head's rows of the state. -/
def rowAt (M : S8x256x128.Idx → Elt F .f32) (e : Fin 8) : S1x256x128.Idx → Elt F .f32 := fun y => M (ix3 e (y 1 : Fin 256) (y 2 : Fin 128))

theorem readAt_row (v : View sig .tc .vmem S8x256x128 .f32) (f : v.ty.Contents (Elt F)) (e : ℕ) (he : e < 8)
    (h : ∀ a, (![e, 0, 0] : Fin 3 → ℕ) a + S1x256x128.size a ≤ S8x256x128.size a) :
    v.readAt (Elt F) (Rect.unit (s := S8x256x128) ![e, 0, 0] S1x256x128.size h).toLoadRect f = rowAt (v.read (Elt F) f) ⟨e, he⟩ := by
  funext y
  show v.read (Elt F) f _ = v.read (Elt F) f _
  refine congrArg (v.read (Elt F) f) (funext fun a => Fin.ext ?_)
  have h0 : (y 0).val = 0 := by have : (y 0).val < 1 := (y 0).isLt; omega
  fin_cases a
  · show e + 1 * (y 0).val = e; omega
  · show 0 + 1 * (y 1).val = (y 1).val; omega
  · show 0 + 1 * (y 2).val = (y 2).val; omega

/-- Eight heads' rows written one after another, read back. -/
theorem heads_read (g : Fin 8 → S1x256x128.Idx → Elt F .f32)
    (h0 : ∀ a, (![0, 0, 0] : Fin 3 → ℕ) a + S1x256x128.size a ≤ S8x256x128.size a)
    (h1 : ∀ a, (![1, 0, 0] : Fin 3 → ℕ) a + S1x256x128.size a ≤ S8x256x128.size a)
    (h2 : ∀ a, (![2, 0, 0] : Fin 3 → ℕ) a + S1x256x128.size a ≤ S8x256x128.size a)
    (h3 : ∀ a, (![3, 0, 0] : Fin 3 → ℕ) a + S1x256x128.size a ≤ S8x256x128.size a)
    (h4 : ∀ a, (![4, 0, 0] : Fin 3 → ℕ) a + S1x256x128.size a ≤ S8x256x128.size a)
    (h5 : ∀ a, (![5, 0, 0] : Fin 3 → ℕ) a + S1x256x128.size a ≤ S8x256x128.size a)
    (h6 : ∀ a, (![6, 0, 0] : Fin 3 → ℕ) a + S1x256x128.size a ≤ S8x256x128.size a)
    (h7 : ∀ a, (![7, 0, 0] : Fin 3 → ℕ) a + S1x256x128.size a ≤ S8x256x128.size a)
    (v : View sig .tc .vmem S8x256x128 .f32) (f : v.ty.Contents (Elt F)) (L : List (View.Piece (Elt F) S8x256x128 .f32)) (j : S8x256x128.Idx) :
    v.read (Elt F) (v.writes (Elt F) f (⟨Rect.unit ![7, 0, 0] S1x256x128.size h7, g 7⟩ :: ⟨Rect.unit ![6, 0, 0] S1x256x128.size h6, g 6⟩ :: ⟨Rect.unit ![5, 0, 0] S1x256x128.size h5, g 5⟩ :: ⟨Rect.unit ![4, 0, 0] S1x256x128.size h4, g 4⟩ :: ⟨Rect.unit ![3, 0, 0] S1x256x128.size h3, g 3⟩ :: ⟨Rect.unit ![2, 0, 0] S1x256x128.size h2, g 2⟩ :: ⟨Rect.unit ![1, 0, 0] S1x256x128.size h1, g 1⟩ :: ⟨Rect.unit ![0, 0, 0] S1x256x128.size h0, g 0⟩ :: L)) j
      = g (j 0) (ix3 (0 : Fin 1) (j 1 : Fin 256) (j 2 : Fin 128)) := by
  have e : ∀ (n : ℕ) (hn : (j 0).val = n) (a : Fin 3), (j a).val = (![n, 0, 0] : Fin 3 → ℕ) a + ((ix3 (0 : Fin 1) (j 1 : Fin 256) (j 2 : Fin 128)) a).val := by
    intro n hn a
    fin_cases a
    · exact hn
    · exact (Nat.zero_add _).symm
    · exact (Nat.zero_add _).symm
  have hlt : (j 0).val < 8 := (j 0).isLt
  obtain h | h | h | h | h | h | h | h : (j 0).val = 7 ∨ (j 0).val = 6 ∨ (j 0).val = 5 ∨ (j 0).val = 4 ∨ (j 0).val = 3 ∨ (j 0).val = 2 ∨ (j 0).val = 1 ∨ (j 0).val = 0 := by omega
  · rw [show j 0 = (7 : Fin 8) from Fin.ext h]
    exact View.read_writes_cons_unit_of_mem v f h7 (g 7) _ j _ rfl (e 7 h)
  · rw [show j 0 = (6 : Fin 8) from Fin.ext h]
    rw [View.read_writes_cons_unit_of_not_mem v f h7 (g 7) _ j rfl 0 (Or.inl (by rw [h]; decide))]
    exact View.read_writes_cons_unit_of_mem v f h6 (g 6) _ j _ rfl (e 6 h)
  · rw [show j 0 = (5 : Fin 8) from Fin.ext h]
    rw [View.read_writes_cons_unit_of_not_mem v f h7 (g 7) _ j rfl 0 (Or.inl (by rw [h]; decide))]
    rw [View.read_writes_cons_unit_of_not_mem v f h6 (g 6) _ j rfl 0 (Or.inl (by rw [h]; decide))]
    exact View.read_writes_cons_unit_of_mem v f h5 (g 5) _ j _ rfl (e 5 h)
  · rw [show j 0 = (4 : Fin 8) from Fin.ext h]
    rw [View.read_writes_cons_unit_of_not_mem v f h7 (g 7) _ j rfl 0 (Or.inl (by rw [h]; decide))]
    rw [View.read_writes_cons_unit_of_not_mem v f h6 (g 6) _ j rfl 0 (Or.inl (by rw [h]; decide))]
    rw [View.read_writes_cons_unit_of_not_mem v f h5 (g 5) _ j rfl 0 (Or.inl (by rw [h]; decide))]
    exact View.read_writes_cons_unit_of_mem v f h4 (g 4) _ j _ rfl (e 4 h)
  · rw [show j 0 = (3 : Fin 8) from Fin.ext h]
    rw [View.read_writes_cons_unit_of_not_mem v f h7 (g 7) _ j rfl 0 (Or.inl (by rw [h]; decide))]
    rw [View.read_writes_cons_unit_of_not_mem v f h6 (g 6) _ j rfl 0 (Or.inl (by rw [h]; decide))]
    rw [View.read_writes_cons_unit_of_not_mem v f h5 (g 5) _ j rfl 0 (Or.inl (by rw [h]; decide))]
    rw [View.read_writes_cons_unit_of_not_mem v f h4 (g 4) _ j rfl 0 (Or.inl (by rw [h]; decide))]
    exact View.read_writes_cons_unit_of_mem v f h3 (g 3) _ j _ rfl (e 3 h)
  · rw [show j 0 = (2 : Fin 8) from Fin.ext h]
    rw [View.read_writes_cons_unit_of_not_mem v f h7 (g 7) _ j rfl 0 (Or.inl (by rw [h]; decide))]
    rw [View.read_writes_cons_unit_of_not_mem v f h6 (g 6) _ j rfl 0 (Or.inl (by rw [h]; decide))]
    rw [View.read_writes_cons_unit_of_not_mem v f h5 (g 5) _ j rfl 0 (Or.inl (by rw [h]; decide))]
    rw [View.read_writes_cons_unit_of_not_mem v f h4 (g 4) _ j rfl 0 (Or.inl (by rw [h]; decide))]
    rw [View.read_writes_cons_unit_of_not_mem v f h3 (g 3) _ j rfl 0 (Or.inl (by rw [h]; decide))]
    exact View.read_writes_cons_unit_of_mem v f h2 (g 2) _ j _ rfl (e 2 h)
  · rw [show j 0 = (1 : Fin 8) from Fin.ext h]
    rw [View.read_writes_cons_unit_of_not_mem v f h7 (g 7) _ j rfl 0 (Or.inl (by rw [h]; decide))]
    rw [View.read_writes_cons_unit_of_not_mem v f h6 (g 6) _ j rfl 0 (Or.inl (by rw [h]; decide))]
    rw [View.read_writes_cons_unit_of_not_mem v f h5 (g 5) _ j rfl 0 (Or.inl (by rw [h]; decide))]
    rw [View.read_writes_cons_unit_of_not_mem v f h4 (g 4) _ j rfl 0 (Or.inl (by rw [h]; decide))]
    rw [View.read_writes_cons_unit_of_not_mem v f h3 (g 3) _ j rfl 0 (Or.inl (by rw [h]; decide))]
    rw [View.read_writes_cons_unit_of_not_mem v f h2 (g 2) _ j rfl 0 (Or.inl (by rw [h]; decide))]
    exact View.read_writes_cons_unit_of_mem v f h1 (g 1) _ j _ rfl (e 1 h)
  · rw [show j 0 = (0 : Fin 8) from Fin.ext h]
    rw [View.read_writes_cons_unit_of_not_mem v f h7 (g 7) _ j rfl 0 (Or.inl (by rw [h]; decide))]
    rw [View.read_writes_cons_unit_of_not_mem v f h6 (g 6) _ j rfl 0 (Or.inl (by rw [h]; decide))]
    rw [View.read_writes_cons_unit_of_not_mem v f h5 (g 5) _ j rfl 0 (Or.inl (by rw [h]; decide))]
    rw [View.read_writes_cons_unit_of_not_mem v f h4 (g 4) _ j rfl 0 (Or.inl (by rw [h]; decide))]
    rw [View.read_writes_cons_unit_of_not_mem v f h3 (g 3) _ j rfl 0 (Or.inl (by rw [h]; decide))]
    rw [View.read_writes_cons_unit_of_not_mem v f h2 (g 2) _ j rfl 0 (Or.inl (by rw [h]; decide))]
    rw [View.read_writes_cons_unit_of_not_mem v f h1 (g 1) _ j rfl 0 (Or.inl (by rw [h]; decide))]
    exact View.read_writes_cons_unit_of_mem v f h0 (g 0) _ j _ rfl (e 0 h)

/-- A pair of heads' keys of key block `J`. -/
def ktBlk (x1 : Vec F S1x512x16384 .bf16) (p : Fin 4) (J : Fin 32) : Vec F S1x128x512 .bf16 := fun y =>
  x1 (ix3 (0 : Fin 1) (⟨128 * p.val + (y 1).val, by have : (y 1).val < 128 := (y 1).isLt; have := p.isLt; omega⟩ : Fin 512)
    (⟨512 * J.val + (y 2).val, by have : (y 2).val < 512 := (y 2).isLt; have := J.isLt; omega⟩ : Fin 16384))

/-- A pair of heads' values of key block `J`. -/
def vBlk (x2 : Vec F S1x16384x512 .bf16) (p : Fin 4) (J : Fin 32) : Vec F S1x512x128 .bf16 := fun y =>
  x2 (ix3 (0 : Fin 1) (⟨512 * J.val + (y 1).val, by have : (y 1).val < 512 := (y 1).isLt; have := J.isLt; omega⟩ : Fin 16384)
    (⟨128 * p.val + (y 2).val, by have : (y 2).val < 128 := (y 2).isLt; have := p.isLt; omega⟩ : Fin 512))

/-- The mask of key block `J`. -/
def mBlk (x3 : Vec F S1x256x16384 .i8) (J : Fin 32) : Vec F S1x256x512 .i8 := fun y =>
  x3 (ix3 (0 : Fin 1) (y 1 : Fin 256) (⟨512 * J.val + (y 2).val, by have : (y 2).val < 512 := (y 2).isLt; have := J.isLt; omega⟩ : Fin 16384))

/-- A pair of heads' queries. -/
def qBlk (x0 : Vec F S1x256x512 .bf16) (p : Fin 4) : Vec F S1x256x128 .bf16 := fun y =>
  x0 (ix3 (0 : Fin 1) (y 1 : Fin 256) (⟨128 * p.val + (y 2).val, by have : (y 2).val < 128 := (y 2).isLt; have := p.isLt; omega⟩ : Fin 512))

theorem kt_load (v : Memref sig .tc .vmem S1x512x16384 .bf16) (hv : v.IsWhole) (x : Vec F S1x512x16384 .bf16) (p : Fin 4) (J : Fin 32) (off : Fin 3 → ℕ)
    (hoff : off = ![0, 128 * p.val, 512 * J.val]) (h : ∀ a, off a + S1x128x512.size a ≤ S1x512x16384.size a) :
    v.view.readAt (Elt F) (Rect.unit (s := S1x512x16384) off S1x128x512.size h).toLoadRect (hv.unread x) = ktBlk x p J := by
  subst hoff
  funext y
  show v.view.read (Elt F) (hv.unread x) _ = _
  rw [hv.read_unread]
  refine congrArg x (funext fun a => Fin.ext ?_)
  have h0 : (y 0).val = 0 := by have : (y 0).val < 1 := (y 0).isLt; omega
  fin_cases a
  · show 0 + 1 * (y 0).val = 0; omega
  · show 128 * p.val + 1 * (y 1).val = 128 * p.val + (y 1).val; omega
  · show 512 * J.val + 1 * (y 2).val = 512 * J.val + (y 2).val; omega

theorem v_load (v : Memref sig .tc .vmem S1x16384x512 .bf16) (hv : v.IsWhole) (x : Vec F S1x16384x512 .bf16) (p : Fin 4) (J : Fin 32) (off : Fin 3 → ℕ)
    (hoff : off = ![0, 512 * J.val, 128 * p.val]) (h : ∀ a, off a + S1x512x128.size a ≤ S1x16384x512.size a) :
    v.view.readAt (Elt F) (Rect.unit (s := S1x16384x512) off S1x512x128.size h).toLoadRect (hv.unread x) = vBlk x p J := by
  subst hoff
  funext y
  show v.view.read (Elt F) (hv.unread x) _ = _
  rw [hv.read_unread]
  refine congrArg x (funext fun a => Fin.ext ?_)
  have h0 : (y 0).val = 0 := by have : (y 0).val < 1 := (y 0).isLt; omega
  fin_cases a
  · show 0 + 1 * (y 0).val = 0; omega
  · show 512 * J.val + 1 * (y 1).val = 512 * J.val + (y 1).val; omega
  · show 128 * p.val + 1 * (y 2).val = 128 * p.val + (y 2).val; omega

theorem m_load (v : Memref sig .tc .vmem S1x256x16384 .i8) (hv : v.IsWhole) (x : Vec F S1x256x16384 .i8) (J : Fin 32) (off : Fin 3 → ℕ)
    (hoff : off = ![0, 0, 512 * J.val]) (h : ∀ a, off a + S1x256x512.size a ≤ S1x256x16384.size a) :
    v.view.readAt (Elt F) (Rect.unit (s := S1x256x16384) off S1x256x512.size h).toLoadRect (hv.unread x) = mBlk x J := by
  subst hoff
  funext y
  show v.view.read (Elt F) (hv.unread x) _ = _
  rw [hv.read_unread]
  refine congrArg x (funext fun a => Fin.ext ?_)
  have h0 : (y 0).val = 0 := by have : (y 0).val < 1 := (y 0).isLt; omega
  fin_cases a
  · show 0 + 1 * (y 0).val = 0; omega
  · show 0 + 1 * (y 1).val = (y 1).val; omega
  · show 512 * J.val + 1 * (y 2).val = 512 * J.val + (y 2).val; omega

theorem q_load (v : Memref sig .tc .vmem S1x256x512 .bf16) (hv : v.IsWhole) (x : Vec F S1x256x512 .bf16) (p : Fin 4) (off : Fin 3 → ℕ)
    (hoff : off = ![0, 0, 128 * p.val]) (h : ∀ a, off a + S1x256x128.size a ≤ S1x256x512.size a) :
    v.view.readAt (Elt F) (Rect.unit (s := S1x256x512) off S1x256x128.size h).toLoadRect (hv.unread x) = qBlk x p := by
  subst hoff
  funext y
  show v.view.read (Elt F) (hv.unread x) _ = _
  rw [hv.read_unread]
  refine congrArg x (funext fun a => Fin.ext ?_)
  have h0 : (y 0).val = 0 := by have : (y 0).val < 1 := (y 0).isLt; omega
  fin_cases a
  · show 0 + 1 * (y 0).val = 0; omega
  · show 0 + 1 * (y 1).val = (y 1).val; omega
  · show 128 * p.val + 1 * (y 2).val = 128 * p.val + (y 2).val; omega

/-! ## The step -/

/-- The new running maxima, from a key block's scores. -/
def stepM (S : Fin 8 → FVec F S256x512 .bf16) (M : S8x256x128.Idx → Elt F .f32) : S8x256x128.Idx → Elt F .f32 := fun j =>
  k0_pay23 (S (j 0)) (rowAt M (j 0)) (ix3 (0 : Fin 1) (j 1 : Fin 256) (j 2 : Fin 128))

/-- The new running sums, from a key block's scores and values. -/
def stepA (S : Fin 8 → FVec F S256x512 .bf16) (W : Fin 8 → FVec F S512x128 .bf16) (M A : S8x256x128.Idx → Elt F .f32) : S8x256x128.Idx → Elt F .f32 := fun j =>
  k0_pay60 (W (j 0)) (k0_pay22 (S (j 0)) (rowAt M (j 0))) (k0_pay24 (S (j 0)) (rowAt M (j 0))) (rowAt A (j 0)) (ix3 (0 : Fin 1) (j 1 : Fin 256) (j 2 : Fin 128))

/-- A key block's scores. -/
def scoreB (Q : Fin 8 → FVec F S256x128 .bf16) (x1 : Vec F S1x512x16384 .bf16) (x3 : Vec F S1x256x16384 .i8) (J : Fin 32) : Fin 8 → FVec F S256x512 .bf16 :=
  ![k0_pay3 (Q 0) (mBlk x3 J) (ktBlk x1 0 J), k0_pay3 (Q 1) (mBlk x3 J) (ktBlk x1 0 J), k0_pay3 (Q 2) (mBlk x3 J) (ktBlk x1 1 J), k0_pay3 (Q 3) (mBlk x3 J) (ktBlk x1 1 J), k0_pay3 (Q 4) (mBlk x3 J) (ktBlk x1 2 J), k0_pay3 (Q 5) (mBlk x3 J) (ktBlk x1 2 J), k0_pay3 (Q 6) (mBlk x3 J) (ktBlk x1 3 J), k0_pay3 (Q 7) (mBlk x3 J) (ktBlk x1 3 J)]

/-- A key block's values: a head's half, and one in the other half. -/
def valB (fh : IVec S512x128 1) (one : F .bf16) (x2 : Vec F S1x16384x512 .bf16) (J : Fin 32) : Fin 8 → FVec F S512x128 .bf16 :=
  ![k0_pay4 fh one (vBlk x2 0 J), k0_pay6 fh one (vBlk x2 0 J), k0_pay4 fh one (vBlk x2 1 J), k0_pay6 fh one (vBlk x2 1 J), k0_pay4 fh one (vBlk x2 2 J), k0_pay6 fh one (vBlk x2 2 J), k0_pay4 fh one (vBlk x2 3 J), k0_pay6 fh one (vBlk x2 3 J)]

set_option maxHeartbeats 4000000 in
theorem trip_read (c : Dev nD) (bd : Option Variants.none.V) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (v20 : BitVec 32) (Q : Fin 8 → FVec F S256x128 .bf16) (fh : IVec S512x128 1) (one : F .bf16) (x1 : Vec F S1x512x16384 .bf16) (x2 : Vec F S1x16384x512 .bf16) (x3 : Vec F S1x256x16384 .i8)
    (f7 : BufTy.Contents (Elt F) arg7.view.ty) (f8 : BufTy.Contents (Elt F) arg8.view.ty) (k : Fin (k0_t1_loop i).trips) (J : Fin 32)
    (hJ : (Scalar.muli (Scf.iv 0#32 1#32 k) 512#32).toNat = 512 * J.val) :
    arg7.view.read (Elt F) (arg7.view.writes (Elt F) f7 (tripL_k0_t1 (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) k f7 f8).1)
        = stepM (scoreB Q x1 x3 J) (arg7.view.read (Elt F) f7)
      ∧ arg8.view.read (Elt F) (arg8.view.writes (Elt F) f8 (tripL_k0_t1 (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) k f7 f8).2)
        = stepA (scoreB Q x1 x3 J) (valB fh one x2 J) (arg7.view.read (Elt F) f7) (arg8.view.read (Elt F) f8) := by
  have mk := fun h => m_load arg5 harg5 x3 J (k0_off1 i k) (congrArg (fun n : ℕ => (![0, 0, n] : Fin 3 → ℕ)) hJ) h
  have kt0 := fun h => kt_load arg3 harg3 x1 0 J (k0_off2 i k) (congrArg (fun n : ℕ => (![0, 0, n] : Fin 3 → ℕ)) hJ) h
  have w0 := fun h => v_load arg4 harg4 x2 0 J (k0_off3 i k) (congrArg (fun n : ℕ => (![0, n, 0] : Fin 3 → ℕ)) hJ) h
  have kt1 := fun h => kt_load arg3 harg3 x1 1 J (k0_off4 i k) (congrArg (fun n : ℕ => (![0, 128, n] : Fin 3 → ℕ)) hJ) h
  have w1 := fun h => v_load arg4 harg4 x2 1 J (k0_off5 i k) (congrArg (fun n : ℕ => (![0, n, 128] : Fin 3 → ℕ)) hJ) h
  have kt2 := fun h => kt_load arg3 harg3 x1 2 J (k0_off6 i k) (congrArg (fun n : ℕ => (![0, 256, n] : Fin 3 → ℕ)) hJ) h
  have w2 := fun h => v_load arg4 harg4 x2 2 J (k0_off7 i k) (congrArg (fun n : ℕ => (![0, n, 256] : Fin 3 → ℕ)) hJ) h
  have kt3 := fun h => kt_load arg3 harg3 x1 3 J (k0_off8 i k) (congrArg (fun n : ℕ => (![0, 384, n] : Fin 3 → ℕ)) hJ) h
  have w3 := fun h => v_load arg4 harg4 x2 3 J (k0_off9 i k) (congrArg (fun n : ℕ => (![0, n, 384] : Fin 3 → ℕ)) hJ) h
  have m7 := fun (e : Fin 8) h => readAt_row arg7.view f7 e.val e.isLt h
  have m8 := fun (e : Fin 8) h => readAt_row arg8.view f8 e.val e.isLt h
  have E7 : (tripL_k0_t1 (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) k f7 f8).1
      = [⟨Rect.unit ![7, 0, 0] S1x256x128.size (by decide), k0_pay23 (k0_pay3 (Q 7) (mBlk x3 J) (ktBlk x1 3 J)) (rowAt (arg7.view.read (Elt F) f7) 7)⟩,
        ⟨Rect.unit ![6, 0, 0] S1x256x128.size (by decide), k0_pay23 (k0_pay3 (Q 6) (mBlk x3 J) (ktBlk x1 3 J)) (rowAt (arg7.view.read (Elt F) f7) 6)⟩,
        ⟨Rect.unit ![5, 0, 0] S1x256x128.size (by decide), k0_pay23 (k0_pay3 (Q 5) (mBlk x3 J) (ktBlk x1 2 J)) (rowAt (arg7.view.read (Elt F) f7) 5)⟩,
        ⟨Rect.unit ![4, 0, 0] S1x256x128.size (by decide), k0_pay23 (k0_pay3 (Q 4) (mBlk x3 J) (ktBlk x1 2 J)) (rowAt (arg7.view.read (Elt F) f7) 4)⟩,
        ⟨Rect.unit ![3, 0, 0] S1x256x128.size (by decide), k0_pay23 (k0_pay3 (Q 3) (mBlk x3 J) (ktBlk x1 1 J)) (rowAt (arg7.view.read (Elt F) f7) 3)⟩,
        ⟨Rect.unit ![2, 0, 0] S1x256x128.size (by decide), k0_pay23 (k0_pay3 (Q 2) (mBlk x3 J) (ktBlk x1 1 J)) (rowAt (arg7.view.read (Elt F) f7) 2)⟩,
        ⟨Rect.unit ![1, 0, 0] S1x256x128.size (by decide), k0_pay23 (k0_pay3 (Q 1) (mBlk x3 J) (ktBlk x1 0 J)) (rowAt (arg7.view.read (Elt F) f7) 1)⟩,
        ⟨Rect.unit ![0, 0, 0] S1x256x128.size (by decide), k0_pay23 (k0_pay3 (Q 0) (mBlk x3 J) (ktBlk x1 0 J)) (rowAt (arg7.view.read (Elt F) f7) 0)⟩] := by
    unfold tripL_k0_t1 trip_k0_t1
    rw [← m7 0 (by decide), ← m7 1 (by decide), ← m7 2 (by decide), ← m7 3 (by decide), ← m7 4 (by decide), ← m7 5 (by decide), ← m7 6 (by decide), ← m7 7 (by decide), ← mk (k0_off1_inb i k), ← kt0 (k0_off2_inb i k), ← kt1 (k0_off4_inb i k), ← kt2 (k0_off6_inb i k), ← kt3 (k0_off8_inb i k)]
    rfl
  have E8 : (tripL_k0_t1 (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) k f7 f8).2
      = [⟨Rect.unit ![7, 0, 0] S1x256x128.size (by decide), k0_pay60 (k0_pay6 fh one (vBlk x2 3 J)) (k0_pay22 (k0_pay3 (Q 7) (mBlk x3 J) (ktBlk x1 3 J)) (rowAt (arg7.view.read (Elt F) f7) 7)) (k0_pay24 (k0_pay3 (Q 7) (mBlk x3 J) (ktBlk x1 3 J)) (rowAt (arg7.view.read (Elt F) f7) 7)) (rowAt (arg8.view.read (Elt F) f8) 7)⟩,
        ⟨Rect.unit ![6, 0, 0] S1x256x128.size (by decide), k0_pay60 (k0_pay4 fh one (vBlk x2 3 J)) (k0_pay22 (k0_pay3 (Q 6) (mBlk x3 J) (ktBlk x1 3 J)) (rowAt (arg7.view.read (Elt F) f7) 6)) (k0_pay24 (k0_pay3 (Q 6) (mBlk x3 J) (ktBlk x1 3 J)) (rowAt (arg7.view.read (Elt F) f7) 6)) (rowAt (arg8.view.read (Elt F) f8) 6)⟩,
        ⟨Rect.unit ![5, 0, 0] S1x256x128.size (by decide), k0_pay60 (k0_pay6 fh one (vBlk x2 2 J)) (k0_pay22 (k0_pay3 (Q 5) (mBlk x3 J) (ktBlk x1 2 J)) (rowAt (arg7.view.read (Elt F) f7) 5)) (k0_pay24 (k0_pay3 (Q 5) (mBlk x3 J) (ktBlk x1 2 J)) (rowAt (arg7.view.read (Elt F) f7) 5)) (rowAt (arg8.view.read (Elt F) f8) 5)⟩,
        ⟨Rect.unit ![4, 0, 0] S1x256x128.size (by decide), k0_pay60 (k0_pay4 fh one (vBlk x2 2 J)) (k0_pay22 (k0_pay3 (Q 4) (mBlk x3 J) (ktBlk x1 2 J)) (rowAt (arg7.view.read (Elt F) f7) 4)) (k0_pay24 (k0_pay3 (Q 4) (mBlk x3 J) (ktBlk x1 2 J)) (rowAt (arg7.view.read (Elt F) f7) 4)) (rowAt (arg8.view.read (Elt F) f8) 4)⟩,
        ⟨Rect.unit ![3, 0, 0] S1x256x128.size (by decide), k0_pay60 (k0_pay6 fh one (vBlk x2 1 J)) (k0_pay22 (k0_pay3 (Q 3) (mBlk x3 J) (ktBlk x1 1 J)) (rowAt (arg7.view.read (Elt F) f7) 3)) (k0_pay24 (k0_pay3 (Q 3) (mBlk x3 J) (ktBlk x1 1 J)) (rowAt (arg7.view.read (Elt F) f7) 3)) (rowAt (arg8.view.read (Elt F) f8) 3)⟩,
        ⟨Rect.unit ![2, 0, 0] S1x256x128.size (by decide), k0_pay60 (k0_pay4 fh one (vBlk x2 1 J)) (k0_pay22 (k0_pay3 (Q 2) (mBlk x3 J) (ktBlk x1 1 J)) (rowAt (arg7.view.read (Elt F) f7) 2)) (k0_pay24 (k0_pay3 (Q 2) (mBlk x3 J) (ktBlk x1 1 J)) (rowAt (arg7.view.read (Elt F) f7) 2)) (rowAt (arg8.view.read (Elt F) f8) 2)⟩,
        ⟨Rect.unit ![1, 0, 0] S1x256x128.size (by decide), k0_pay60 (k0_pay6 fh one (vBlk x2 0 J)) (k0_pay22 (k0_pay3 (Q 1) (mBlk x3 J) (ktBlk x1 0 J)) (rowAt (arg7.view.read (Elt F) f7) 1)) (k0_pay24 (k0_pay3 (Q 1) (mBlk x3 J) (ktBlk x1 0 J)) (rowAt (arg7.view.read (Elt F) f7) 1)) (rowAt (arg8.view.read (Elt F) f8) 1)⟩,
        ⟨Rect.unit ![0, 0, 0] S1x256x128.size (by decide), k0_pay60 (k0_pay4 fh one (vBlk x2 0 J)) (k0_pay22 (k0_pay3 (Q 0) (mBlk x3 J) (ktBlk x1 0 J)) (rowAt (arg7.view.read (Elt F) f7) 0)) (k0_pay24 (k0_pay3 (Q 0) (mBlk x3 J) (ktBlk x1 0 J)) (rowAt (arg7.view.read (Elt F) f7) 0)) (rowAt (arg8.view.read (Elt F) f8) 0)⟩] := by
    unfold tripL_k0_t1 trip_k0_t1
    rw [← m7 0 (by decide), ← m7 1 (by decide), ← m7 2 (by decide), ← m7 3 (by decide), ← m7 4 (by decide), ← m7 5 (by decide), ← m7 6 (by decide), ← m7 7 (by decide), ← m8 0 (by decide), ← m8 1 (by decide), ← m8 2 (by decide), ← m8 3 (by decide), ← m8 4 (by decide), ← m8 5 (by decide), ← m8 6 (by decide), ← m8 7 (by decide), ← mk (k0_off1_inb i k), ← kt0 (k0_off2_inb i k), ← kt1 (k0_off4_inb i k), ← kt2 (k0_off6_inb i k), ← kt3 (k0_off8_inb i k), ← w0 (k0_off3_inb i k), ← w1 (k0_off5_inb i k), ← w2 (k0_off7_inb i k), ← w3 (k0_off9_inb i k)]
    rfl
  rw [E7, E8]
  exact ⟨funext fun j => heads_read (fun e => k0_pay23 (scoreB Q x1 x3 J e) (rowAt (arg7.view.read (Elt F) f7) e)) _ _ _ _ _ _ _ _ arg7.view f7 [] j,
    funext fun j => heads_read (fun e => k0_pay60 (valB fh one x2 J e) (k0_pay22 (scoreB Q x1 x3 J e) (rowAt (arg7.view.read (Elt F) f7) e))
      (k0_pay24 (scoreB Q x1 x3 J e) (rowAt (arg7.view.read (Elt F) f7) e)) (rowAt (arg8.view.read (Elt F) f8) e)) _ _ _ _ _ _ _ _ arg8.view f8 [] j⟩

end Cert.Kernel5Ideal.Att

end
-- ==== Proof.Att5Run.lean ====
/-
  The key blocks' loop as an iteration of the step, and the block a grid point writes.
-/
module

public import proofs.«01_k».proof.Proof.Att5Step

@[expose] public section

set_option maxRecDepth 16384

noncomputable section

namespace Cert.Kernel5Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F] [Named F]

/-- The state, running maxima and running sums, after one key block. -/
def step1 (S : Fin 8 → FVec F S256x512 .bf16) (W : Fin 8 → FVec F S512x128 .bf16) (p : (S8x256x128.Idx → Elt F .f32) × (S8x256x128.Idx → Elt F .f32)) :
    (S8x256x128.Idx → Elt F .f32) × (S8x256x128.Idx → Elt F .f32) := (stepM S p.1, stepA S W p.1 p.2)

/-- The state after the first `n` key blocks. -/
def stateAt (Q : Fin 8 → FVec F S256x128 .bf16) (fh : IVec S512x128 1) (one : F .bf16) (x1 : Vec F S1x512x16384 .bf16) (x2 : Vec F S1x16384x512 .bf16) (x3 : Vec F S1x256x16384 .i8) :
    ℕ → (S8x256x128.Idx → Elt F .f32) × (S8x256x128.Idx → Elt F .f32)
  | 0 => (k0_pay132, k0_pay133)
  | n + 1 => step1 (scoreB Q x1 x3 ⟨n % 32, Nat.mod_lt _ (by decide)⟩) (valB fh one x2 ⟨n % 32, Nat.mod_lt _ (by decide)⟩) (stateAt Q fh one x1 x2 x3 n)

theorem off_trip (n : ℕ) (hn : n < 32) : (Scalar.muli (Scf.iv 0#32 1#32 n) 512#32).toNat = 512 * n := by
  unfold Scf.iv Scalar.muli IntOp.muli
  simp
  omega

theorem loop_read (c : Dev nD) (bd : Option Variants.none.V) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (v20 : BitVec 32) (Q : Fin 8 → FVec F S256x128 .bf16) (fh : IVec S512x128 1) (one : F .bf16) (x1 : Vec F S1x512x16384 .bf16) (x2 : Vec F S1x16384x512 .bf16) (x3 : Vec F S1x256x16384 .i8)
    (G7 : BufTy.Contents (Elt F) arg7.view.ty) (G8 : BufTy.Contents (Elt F) arg8.view.ty)
    (h7 : arg7.view.read (Elt F) G7 = k0_pay132) (h8 : arg8.view.read (Elt F) G8 = k0_pay133) (hT : (k0_t1_loop i).trips ≤ 32) (n : ℕ) (hn : n ≤ (k0_t1_loop i).trips) :
    arg7.view.read (Elt F) (arg7.view.writes (Elt F) G7 (pb_k0_t1 (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) G7 G8 n).1) = (stateAt Q fh one x1 x2 x3 n).1
      ∧ arg8.view.read (Elt F) (arg8.view.writes (Elt F) G8 (pb_k0_t1 (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) G7 G8 n).2) = (stateAt Q fh one x1 x2 x3 n).2 := by
  induction n with
  | zero => exact ⟨h7, h8⟩
  | succ n ih =>
    obtain ⟨i7, i8⟩ := ih (by omega)
    have hJ : n % 32 = n := Nat.mod_eq_of_lt (by omega)
    have e := pb_k0_t1_succ (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) G7 G8 ⟨n, by omega⟩
    simp only at e
    rw [e, View.writes_append, View.writes_append]
    have t := trip_read c bd i arg2 harg2 arg3 harg3 arg4 harg4 arg5 harg5 arg6 harg6 arg7 harg7 arg8 harg8 v20 Q fh one x1 x2 x3 (arg7.view.writes (Elt F) G7 (pb_k0_t1 (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) G7 G8 n).1) (arg8.view.writes (Elt F) G8 (pb_k0_t1 (F := F) Variants.none c bd i arg2 harg2 arg3 harg3 arg4 harg4 arg5 harg5 arg6 harg6 arg7 harg7 arg8 harg8 v20 (Q 0) (Q 1) (Q 2) (Q 3) (Q 4) (Q 5) (Q 6) (Q 7) fh one (harg3.unread x1) (harg4.unread x2) (harg5.unread x3) G7 G8 n).2) ⟨n, by omega⟩
      ⟨n % 32, Nat.mod_lt _ (by decide)⟩ (by rw [off_trip _ (by omega)]; show _ = 512 * (n % 32); rw [hJ])
    rw [i7, i8] at t
    exact t

/-! ## The body -/

/-- The eight heads' queries, as loaded: each pair's block, the other head's half zeroed. -/
def qLd (arg2 : Memref sig .tc .vmem S1x256x512 .bf16) (harg2 : arg2.IsWhole) (x0 : Vec F S1x256x512 .bf16) : Fin 8 → FVec F S256x128 .bf16 :=
  ![k0_pay140 (arg2.view.readAt (Elt F) (Rect.unit (s := S1x256x512) ![0, 0, 0] S1x256x128.size (by decide)).toLoadRect (harg2.unread x0)), k0_pay141 (arg2.view.readAt (Elt F) (Rect.unit (s := S1x256x512) ![0, 0, 0] S1x256x128.size (by decide)).toLoadRect (harg2.unread x0)), k0_pay140 (arg2.view.readAt (Elt F) (Rect.unit (s := S1x256x512) ![0, 0, 128] S1x256x128.size (by decide)).toLoadRect (harg2.unread x0)), k0_pay141 (arg2.view.readAt (Elt F) (Rect.unit (s := S1x256x512) ![0, 0, 128] S1x256x128.size (by decide)).toLoadRect (harg2.unread x0)), k0_pay140 (arg2.view.readAt (Elt F) (Rect.unit (s := S1x256x512) ![0, 0, 256] S1x256x128.size (by decide)).toLoadRect (harg2.unread x0)), k0_pay141 (arg2.view.readAt (Elt F) (Rect.unit (s := S1x256x512) ![0, 0, 256] S1x256x128.size (by decide)).toLoadRect (harg2.unread x0)), k0_pay140 (arg2.view.readAt (Elt F) (Rect.unit (s := S1x256x512) ![0, 0, 384] S1x256x128.size (by decide)).toLoadRect (harg2.unread x0)), k0_pay141 (arg2.view.readAt (Elt F) (Rect.unit (s := S1x256x512) ![0, 0, 384] S1x256x128.size (by decide)).toLoadRect (harg2.unread x0))]

/-- The eight heads' queries. -/
def qs (x0 : Vec F S1x256x512 .bf16) : Fin 8 → FVec F S256x128 .bf16 :=
  ![k0_pay140 (qBlk x0 0), k0_pay141 (qBlk x0 0), k0_pay140 (qBlk x0 1), k0_pay141 (qBlk x0 1), k0_pay140 (qBlk x0 2), k0_pay141 (qBlk x0 2), k0_pay140 (qBlk x0 3), k0_pay141 (qBlk x0 3)]

theorem qLd_eq (arg2 : Memref sig .tc .vmem S1x256x512 .bf16) (harg2 : arg2.IsWhole) (x0 : Vec F S1x256x512 .bf16) : qLd arg2 harg2 x0 = qs x0 := by
  have q0 := fun h => q_load arg2 harg2 x0 0 ![0, 0, 0] rfl h
  have q1 := fun h => q_load arg2 harg2 x0 1 ![0, 0, 128] rfl h
  have q2 := fun h => q_load arg2 harg2 x0 2 ![0, 0, 256] rfl h
  have q3 := fun h => q_load arg2 harg2 x0 3 ![0, 0, 384] rfl h
  unfold qLd qs
  rw [q0, q1, q2, q3]

/-- The number of key blocks visited, as a word. -/
def blocksWord (i : grid0.Coords) : BitVec 32 :=
  let v3 : BitVec 32 := Scalar.subi (Scalar.addi (Scalar.addi (Scalar.muli (BitVec.ofNat 32 (i 1).val) 256#32) 256#32) 512#32) 1#32
  Scalar.select (Scalar.andi (Scalar.cmpi .ne (Scalar.subi (Scalar.extui (Scalar.cmpi .sgt v3 0#32)) (Scalar.extui (Scalar.cmpi .slt v3 0#32)))
    (Scalar.subi (Scalar.extui (Scalar.cmpi .sgt 512#32 0#32)) (Scalar.extui (Scalar.cmpi .slt 512#32 0#32)))) (Scalar.cmpi .ne (Scalar.remsi v3 512#32) 0#32))
    (Scalar.subi (Scalar.divsi v3 512#32) 1#32) (Scalar.divsi v3 512#32)

/-- The maxima's and the sums' buffers as first filled. -/
def fill7 (arg7 : Memref sig .tc .vmem S8x256x128 .f32) : BufTy.Contents (Elt F) arg7.view.ty :=
  arg7.view.writes (Elt F) arg7.view.junk [⟨Rect.unit (s := S8x256x128) ![0, 0, 0] S8x256x128.size (by decide), k0_pay132⟩]

def fill8 (arg8 : Memref sig .tc .vmem S8x256x128 .f32) : BufTy.Contents (Elt F) arg8.view.ty :=
  arg8.view.writes (Elt F) arg8.view.junk [⟨Rect.unit (s := S8x256x128) ![0, 0, 0] S8x256x128.size (by decide), k0_pay133⟩]

/-- The loop's writes, from the buffers as first filled. -/
def loopL (c : Dev nD) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (Q : Fin 8 → FVec F S256x128 .bf16) (x1 : Vec F S1x512x16384 .bf16) (x2 : Vec F S1x16384x512 .bf16) (x3 : Vec F S1x256x16384 .i8) : List (View.Piece (Elt F) S8x256x128 .f32) × List (View.Piece (Elt F) S8x256x128 .f32) :=
  pb_k0_t1 (F := F) Variants.none c none i arg2 harg2 arg3 harg3 arg4 harg4 arg5 harg5 arg6 harg6 arg7 harg7 arg8 harg8 (blocksWord i) (Q 0) (Q 1) (Q 2) (Q 3) (Q 4) (Q 5) (Q 6) (Q 7) k0_pay150 (Scalar.ofBits .bf16 0x3F80#16) (harg3.unread x1) (harg4.unread x2) (harg5.unread x3) (fill7 arg7) (fill8 arg8) (k0_t1_loop i).trips

/-- The second loop's writes. -/
def restL (c : Dev nD) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (Q : Fin 8 → FVec F S256x128 .bf16) (x1 : Vec F S1x512x16384 .bf16) (x2 : Vec F S1x16384x512 .bf16) (x3 : Vec F S1x256x16384 .i8) : List (View.Piece (Elt F) S8x256x128 .f32) × List (View.Piece (Elt F) S8x256x128 .f32) :=
  pb_k0_t2 (F := F) Variants.none c none i arg2 harg2 arg3 harg3 arg4 harg4 arg5 harg5 arg6 harg6 arg7 harg7 arg8 harg8 (blocksWord i) (Q 0) (Q 1) (Q 2) (Q 3) (Q 4) (Q 5) (Q 6) (Q 7) k0_pay150 (Scalar.ofBits .bf16 0x3F80#16)
    (Scalar.addi 0#32 (Scalar.muli (Scalar.divsi (Scalar.subi (blocksWord i) 0#32) 1#32) 1#32)) (harg3.unread x1) (harg4.unread x2) (harg5.unread x3)
    (arg7.view.writes (Elt F) arg7.view.junk ((loopL c i arg2 harg2 arg3 harg3 arg4 harg4 arg5 harg5 arg6 harg6 arg7 harg7 arg8 harg8 Q x1 x2 x3).1 ++ [⟨Rect.unit (s := S8x256x128) ![0, 0, 0] S8x256x128.size (by decide), k0_pay132⟩]))
    (arg8.view.writes (Elt F) arg8.view.junk ((loopL c i arg2 harg2 arg3 harg3 arg4 harg4 arg5 harg5 arg6 harg6 arg7 harg7 arg8 harg8 Q x1 x2 x3).2 ++ [⟨Rect.unit (s := S8x256x128) ![0, 0, 0] S8x256x128.size (by decide), k0_pay133⟩])) (k0_t2_loop i).trips

/-- The sums' buffer's writes by the end. -/
def sumsL (c : Dev nD) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (Q : Fin 8 → FVec F S256x128 .bf16) (x1 : Vec F S1x512x16384 .bf16) (x2 : Vec F S1x16384x512 .bf16) (x3 : Vec F S1x256x16384 .i8) : List (View.Piece (Elt F) S8x256x128 .f32) :=
  (restL c i arg2 harg2 arg3 harg3 arg4 harg4 arg5 harg5 arg6 harg6 arg7 harg7 arg8 harg8 Q x1 x2 x3).2 ++ ((loopL c i arg2 harg2 arg3 harg3 arg4 harg4 arg5 harg5 arg6 harg6 arg7 harg7 arg8 harg8 Q x1 x2 x3).2 ++ [⟨Rect.unit (s := S8x256x128) ![0, 0, 0] S8x256x128.size (by decide), k0_pay133⟩])

/-- The output block's writes. -/
def outL (c : Dev nD) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (Q : Fin 8 → FVec F S256x128 .bf16) (x1 : Vec F S1x512x16384 .bf16) (x2 : Vec F S1x16384x512 .bf16) (x3 : Vec F S1x256x16384 .i8) : List (View.Piece (Elt F) S1x256x512 .bf16) :=
  [⟨Rect.unit (s := S1x256x512) ![0, 0, 384] S1x256x128.size (by decide), k0_pay157 (arg8.view.readCov (sumsL c i arg2 harg2 arg3 harg3 arg4 harg4 arg5 harg5 arg6 harg6 arg7 harg7 arg8 harg8 Q x1 x2 x3) (Rect.unit (s := S8x256x128) ![6, 0, 0] S1x256x128.size (by decide)).toLoadRect) (arg8.view.readCov (sumsL c i arg2 harg2 arg3 harg3 arg4 harg4 arg5 harg5 arg6 harg6 arg7 harg7 arg8 harg8 Q x1 x2 x3) (Rect.unit (s := S8x256x128) ![7, 0, 0] S1x256x128.size (by decide)).toLoadRect)⟩,
   ⟨Rect.unit (s := S1x256x512) ![0, 0, 256] S1x256x128.size (by decide), k0_pay157 (arg8.view.readCov (sumsL c i arg2 harg2 arg3 harg3 arg4 harg4 arg5 harg5 arg6 harg6 arg7 harg7 arg8 harg8 Q x1 x2 x3) (Rect.unit (s := S8x256x128) ![4, 0, 0] S1x256x128.size (by decide)).toLoadRect) (arg8.view.readCov (sumsL c i arg2 harg2 arg3 harg3 arg4 harg4 arg5 harg5 arg6 harg6 arg7 harg7 arg8 harg8 Q x1 x2 x3) (Rect.unit (s := S8x256x128) ![5, 0, 0] S1x256x128.size (by decide)).toLoadRect)⟩,
   ⟨Rect.unit (s := S1x256x512) ![0, 0, 128] S1x256x128.size (by decide), k0_pay157 (arg8.view.readCov (sumsL c i arg2 harg2 arg3 harg3 arg4 harg4 arg5 harg5 arg6 harg6 arg7 harg7 arg8 harg8 Q x1 x2 x3) (Rect.unit (s := S8x256x128) ![2, 0, 0] S1x256x128.size (by decide)).toLoadRect) (arg8.view.readCov (sumsL c i arg2 harg2 arg3 harg3 arg4 harg4 arg5 harg5 arg6 harg6 arg7 harg7 arg8 harg8 Q x1 x2 x3) (Rect.unit (s := S8x256x128) ![3, 0, 0] S1x256x128.size (by decide)).toLoadRect)⟩,
   ⟨Rect.unit (s := S1x256x512) ![0, 0, 0] S1x256x128.size (by decide), k0_pay157 (arg8.view.readCov (sumsL c i arg2 harg2 arg3 harg3 arg4 harg4 arg5 harg5 arg6 harg6 arg7 harg7 arg8 harg8 Q x1 x2 x3) (Rect.unit (s := S8x256x128) ![0, 0, 0] S1x256x128.size (by decide)).toLoadRect) (arg8.view.readCov (sumsL c i arg2 harg2 arg3 harg3 arg4 harg4 arg5 harg5 arg6 harg6 arg7 harg7 arg8 harg8 Q x1 x2 x3) (Rect.unit (s := S8x256x128) ![1, 0, 0] S1x256x128.size (by decide)).toLoadRect)⟩]

set_option maxHeartbeats 4000000 in
theorem pieces_A (c : Dev nD) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (x0 : Vec F S1x256x512 .bf16) (x1 : Vec F S1x512x16384 .bf16) (x2 : Vec F S1x16384x512 .bf16) (x3 : Vec F S1x256x16384 .i8) :
    (kernelRun0_A c i arg2 harg2 arg3 harg3 arg4 harg4 arg5 harg5 arg6 harg6 arg7 harg7 arg8 harg8 x0 x1 x2 x3).1 = outL c i arg2 harg2 arg3 harg3 arg4 harg4 arg5 harg5 arg6 harg6 arg7 harg7 arg8 harg8 (qLd arg2 harg2 x0) x1 x2 x3 := rfl

theorem read_fill (v : View sig .tc .vmem S8x256x128 .f32) (f : v.ty.Contents (Elt F)) (w : S8x256x128.Idx → Elt F .f32)
    (h : ∀ a, (![0, 0, 0] : Fin 3 → ℕ) a + S8x256x128.size a ≤ S8x256x128.size a) :
    v.read (Elt F) (v.writes (Elt F) f [⟨Rect.unit (s := S8x256x128) ![0, 0, 0] S8x256x128.size h, w⟩]) = w := by
  funext j
  refine View.read_writes_cons_unit_of_mem v f h w [] j j rfl fun a => ?_
  fin_cases a
  · exact (Nat.zero_add _).symm
  · exact (Nat.zero_add _).symm
  · exact (Nat.zero_add _).symm

theorem sums_read (c : Dev nD) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (Q : Fin 8 → FVec F S256x128 .bf16) (x1 : Vec F S1x512x16384 .bf16) (x2 : Vec F S1x16384x512 .bf16) (x3 : Vec F S1x256x16384 .i8) (hT : (k0_t1_loop i).trips ≤ 32) (hT2 : (k0_t2_loop i).trips = 0) :
    arg8.view.read (Elt F) (arg8.view.writes (Elt F) arg8.view.junk (sumsL c i arg2 harg2 arg3 harg3 arg4 harg4 arg5 harg5 arg6 harg6 arg7 harg7 arg8 harg8 Q x1 x2 x3)) = (stateAt Q k0_pay150 (Scalar.ofBits .bf16 0x3F80#16) x1 x2 x3 (k0_t1_loop i).trips).2 := by
  have hr : (restL c i arg2 harg2 arg3 harg3 arg4 harg4 arg5 harg5 arg6 harg6 arg7 harg7 arg8 harg8 Q x1 x2 x3).2 = [] := by
    unfold restL
    rw [hT2]
    rfl
  unfold sumsL
  rw [hr, List.nil_append, View.writes_append]
  exact (loop_read c none i arg2 harg2 arg3 harg3 arg4 harg4 arg5 harg5 arg6 harg6 arg7 harg7 arg8 harg8 (blocksWord i) Q k0_pay150 (Scalar.ofBits .bf16 0x3F80#16) x1 x2 x3 (fill7 arg7) (fill8 arg8)
    (read_fill arg7.view arg7.view.junk k0_pay132 (by decide)) (read_fill arg8.view arg8.view.junk k0_pay133 (by decide)) hT _ le_rfl).2

/-- The output's block from the sums: two heads to each quarter. -/
def outBlk (A : S8x256x128.Idx → Elt F .f32) : S1x256x512.Idx → Elt F .bf16 := fun j =>
  k0_pay157 (rowAt A (⟨2 * ((j 2).val / 128), by have : (j 2).val < 512 := (j 2).isLt; omega⟩ : Fin 8)) (rowAt A (⟨2 * ((j 2).val / 128) + 1, by have : (j 2).val < 512 := (j 2).isLt; omega⟩ : Fin 8))
    (ix3 (0 : Fin 1) (j 1 : Fin 256) (⟨(j 2).val % 128, by omega⟩ : Fin 128))

theorem out_read (c : Dev nD) (i : grid0.Coords) (arg2 : Memref sig .tc .vmem S1x256x512 .bf16) (harg2 : arg2.IsWhole) (arg3 : Memref sig .tc .vmem S1x512x16384 .bf16) (harg3 : arg3.IsWhole) (arg4 : Memref sig .tc .vmem S1x16384x512 .bf16) (harg4 : arg4.IsWhole) (arg5 : Memref sig .tc .vmem S1x256x16384 .i8) (harg5 : arg5.IsWhole) (arg6 : Memref sig .tc .vmem S1x256x512 .bf16) (harg6 : arg6.IsWhole) (arg7 : Memref sig .tc .vmem S8x256x128 .f32) (harg7 : arg7.IsWhole) (arg8 : Memref sig .tc .vmem S8x256x128 .f32) (harg8 : arg8.IsWhole) (Q : Fin 8 → FVec F S256x128 .bf16) (x1 : Vec F S1x512x16384 .bf16) (x2 : Vec F S1x16384x512 .bf16) (x3 : Vec F S1x256x16384 .i8) (hT : (k0_t1_loop i).trips ≤ 32) (hT2 : (k0_t2_loop i).trips = 0) (v : View sig .tc .vmem S1x256x512 .bf16) (f : v.ty.Contents (Elt F)) :
    v.read (Elt F) (v.writes (Elt F) f (outL c i arg2 harg2 arg3 harg3 arg4 harg4 arg5 harg5 arg6 harg6 arg7 harg7 arg8 harg8 Q x1 x2 x3)) = outBlk (stateAt Q k0_pay150 (Scalar.ofBits .bf16 0x3F80#16) x1 x2 x3 (k0_t1_loop i).trips).2 := by
  have c8 : ∀ (e : Fin 8) (h), arg8.view.readCov (sumsL c i arg2 harg2 arg3 harg3 arg4 harg4 arg5 harg5 arg6 harg6 arg7 harg7 arg8 harg8 Q x1 x2 x3) (Rect.unit (s := S8x256x128) ![e.val, 0, 0] S1x256x128.size h).toLoadRect
      = rowAt (stateAt Q k0_pay150 (Scalar.ofBits .bf16 0x3F80#16) x1 x2 x3 (k0_t1_loop i).trips).2 e := fun e h =>
    (readAt_row arg8.view _ e.val e.isLt h).trans (congrArg (fun A => rowAt A e) (sums_read c i arg2 harg2 arg3 harg3 arg4 harg4 arg5 harg5 arg6 harg6 arg7 harg7 arg8 harg8 Q x1 x2 x3 hT hT2))
  have d0 := c8 0 (by decide)
  have d1 := c8 1 (by decide)
  have d2 := c8 2 (by decide)
  have d3 := c8 3 (by decide)
  have d4 := c8 4 (by decide)
  have d5 := c8 5 (by decide)
  have d6 := c8 6 (by decide)
  have d7 := c8 7 (by decide)
  funext j
  have hj : (j 2).val < 512 := (j 2).isLt
  have h0 : (j 0).val = 0 := by have : (j 0).val < 1 := (j 0).isLt; omega
  unfold outL
  obtain h | h | h | h : (j 2).val / 128 = 3 ∨ (j 2).val / 128 = 2 ∨ (j 2).val / 128 = 1 ∨ (j 2).val / 128 = 0 := by omega
  · refine (View.read_writes_cons_unit_of_mem v f _ _ _ j (ix3 (0 : Fin 1) (j 1 : Fin 256) (⟨(j 2).val % 128, by omega⟩ : Fin 128)) rfl fun a => ?_).trans ?_
    · fin_cases a
      · exact h0
      · exact (Nat.zero_add _).symm
      · show (j 2).val = 384 + (j 2).val % 128; omega
    · refine (congrArg₂ (fun a b => k0_pay157 a b (ix3 (0 : Fin 1) (j 1 : Fin 256) (⟨(j 2).val % 128, by omega⟩ : Fin 128))) d6 d7).trans ?_
      have e0 : (⟨2 * ((j 2).val / 128), by omega⟩ : Fin 8) = 6 := Fin.ext (by show 2 * ((j 2).val / 128) = 6; omega)
      have e1 : (⟨2 * ((j 2).val / 128) + 1, by omega⟩ : Fin 8) = 7 := Fin.ext (by show 2 * ((j 2).val / 128) + 1 = 7; omega)
      unfold outBlk
      rw [e0, e1]
  · rw [View.read_writes_cons_unit_of_not_mem v f _ _ _ j rfl 2 (Or.inl (by show (j 2).val < 384; omega))]
    refine (View.read_writes_cons_unit_of_mem v f _ _ _ j (ix3 (0 : Fin 1) (j 1 : Fin 256) (⟨(j 2).val % 128, by omega⟩ : Fin 128)) rfl fun a => ?_).trans ?_
    · fin_cases a
      · exact h0
      · exact (Nat.zero_add _).symm
      · show (j 2).val = 256 + (j 2).val % 128; omega
    · refine (congrArg₂ (fun a b => k0_pay157 a b (ix3 (0 : Fin 1) (j 1 : Fin 256) (⟨(j 2).val % 128, by omega⟩ : Fin 128))) d4 d5).trans ?_
      have e0 : (⟨2 * ((j 2).val / 128), by omega⟩ : Fin 8) = 4 := Fin.ext (by show 2 * ((j 2).val / 128) = 4; omega)
      have e1 : (⟨2 * ((j 2).val / 128) + 1, by omega⟩ : Fin 8) = 5 := Fin.ext (by show 2 * ((j 2).val / 128) + 1 = 5; omega)
      unfold outBlk
      rw [e0, e1]
  · rw [View.read_writes_cons_unit_of_not_mem v f _ _ _ j rfl 2 (Or.inl (by show (j 2).val < 384; omega))]
    rw [View.read_writes_cons_unit_of_not_mem v f _ _ _ j rfl 2 (Or.inl (by show (j 2).val < 256; omega))]
    refine (View.read_writes_cons_unit_of_mem v f _ _ _ j (ix3 (0 : Fin 1) (j 1 : Fin 256) (⟨(j 2).val % 128, by omega⟩ : Fin 128)) rfl fun a => ?_).trans ?_
    · fin_cases a
      · exact h0
      · exact (Nat.zero_add _).symm
      · show (j 2).val = 128 + (j 2).val % 128; omega
    · refine (congrArg₂ (fun a b => k0_pay157 a b (ix3 (0 : Fin 1) (j 1 : Fin 256) (⟨(j 2).val % 128, by omega⟩ : Fin 128))) d2 d3).trans ?_
      have e0 : (⟨2 * ((j 2).val / 128), by omega⟩ : Fin 8) = 2 := Fin.ext (by show 2 * ((j 2).val / 128) = 2; omega)
      have e1 : (⟨2 * ((j 2).val / 128) + 1, by omega⟩ : Fin 8) = 3 := Fin.ext (by show 2 * ((j 2).val / 128) + 1 = 3; omega)
      unfold outBlk
      rw [e0, e1]
  · rw [View.read_writes_cons_unit_of_not_mem v f _ _ _ j rfl 2 (Or.inl (by show (j 2).val < 384; omega))]
    rw [View.read_writes_cons_unit_of_not_mem v f _ _ _ j rfl 2 (Or.inl (by show (j 2).val < 256; omega))]
    rw [View.read_writes_cons_unit_of_not_mem v f _ _ _ j rfl 2 (Or.inl (by show (j 2).val < 128; omega))]
    refine (View.read_writes_cons_unit_of_mem v f _ _ _ j (ix3 (0 : Fin 1) (j 1 : Fin 256) (⟨(j 2).val % 128, by omega⟩ : Fin 128)) rfl fun a => ?_).trans ?_
    · fin_cases a
      · exact h0
      · exact (Nat.zero_add _).symm
      · show (j 2).val = 0 + (j 2).val % 128; omega
    · refine (congrArg₂ (fun a b => k0_pay157 a b (ix3 (0 : Fin 1) (j 1 : Fin 256) (⟨(j 2).val % 128, by omega⟩ : Fin 128))) d0 d1).trans ?_
      have e0 : (⟨2 * ((j 2).val / 128), by omega⟩ : Fin 8) = 0 := Fin.ext (by show 2 * ((j 2).val / 128) = 0; omega)
      have e1 : (⟨2 * ((j 2).val / 128) + 1, by omega⟩ : Fin 8) = 1 := Fin.ext (by show 2 * ((j 2).val / 128) + 1 = 1; omega)
      unfold outBlk
      rw [e0, e1]

end Cert.Kernel5Ideal.Att

end
-- ==== Proof.Att5Soft.lean ====
/-
  The masked attention's step over the extended reals, and its running maximum and sums as the whole row's.
-/
module

public import proofs.«01_k».proof.Proof.Att5Run
public import proofs.«01_k».proof.Proof.FoxSoft

@[expose] public section

set_option maxRecDepth 16384

noncomputable section

namespace Cert.Kernel5Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

open Cert.Form
open Cert.KernelIdeal.Fox (exp2_rescale accOn_union sup_all accOn_all span blkEmb span_zero span_succ span_disjoint idx2 idx3 sup_lanes)

/-! ## Constants -/

theorem mask_eq : Named.named (F := Ideal) (φ := .f32) κ "mask" 0xF1800000#32 = (⊥ : EReal) :=
  IdealRules.named_const.ideal_named_scalar κ "mask" _ ⊥ rfl

theorem bits_neg_inf : Ideal.ofBits .bf16 0xFF80#16 = (⊥ : EReal) := by simp [Ideal.ofBits, Ideal.ieee]

theorem bits_zero : Ideal.ofBits .bf16 0x0000#16 = (0 : EReal) := by simp [Ideal.ofBits, Ideal.ieee]

theorem bits_one : Ideal.ofBits .bf16 0x3F80#16 = (1 : EReal) := by
  simp [Ideal.ofBits, Ideal.ieee]
  try (rw [← EReal.coe_mul]; norm_num)

/-- A positive mask, as a word. -/
theorem mask_pos (w : BitVec 8) : IntOp.cmpi .sgt (w.signExtend 32) 0#32 = if 0 < w.toInt then 1#1 else 0#1 := by
  revert w; decide

/-! ## The step at one row -/

theorem pay2_at (m : Vec Ideal S1x256x512 .i8) (r : Fin 256) (s : Fin 512) :
    k0_pay2 (F := Ideal) m (ix2 r s) = if 0 < (m (ix3 (0 : Fin 1) r s)).toInt then (0 : EReal) else ⊥ := by
  unfold k0_pay2
  simp only [pointwise]
  rw [mask_eq]
  rw [mask_pos, select_ite]

theorem pay3_at (q : FVec Ideal S256x128 .bf16) (m : Vec Ideal S1x256x512 .i8) (kt : Vec Ideal S1x128x512 .bf16) (r : Fin 256) (s : Fin 512) :
    k0_pay3 (F := Ideal) q m kt (ix2 r s) = (∑ k : Fin 128, q (ix2 r k) * kt (ix3 (0 : Fin 1) k s)) + if 0 < (m (ix3 (0 : Fin 1) r s)).toInt then (0 : EReal) else ⊥ := by
  unfold k0_pay3
  simp only [pointwise]
  exact congrArg₂ (· + ·) (zero_add _) (pay2_at m r s)

theorem pay4_at (v : Vec Ideal S1x512x128 .bf16) (s : Fin 512) (l : Fin 128) :
    k0_pay4 (F := Ideal) k0_pay150 (Scalar.ofBits .bf16 0x3F80#16) v (ix2 s l) = if l.val < 64 then v (ix3 (0 : Fin 1) s l) else (1 : EReal) := by
  have hl := l.isLt
  unfold k0_pay4 k0_pay150
  simp only [pointwise]
  have e1 : List.foldl (fun n (a : Fin 2) => n * (![512, 128] : Fin 2 → ℕ) a + (ix2 s l a).val) 0 [1] = l.val := Nat.zero_add _
  refine Eq.trans (congrArg (fun n => Scalar.select (IntOp.cmpi .slt (BitVec.ofNat 32 n) 64#32) _ _) e1) ?_
  rw [word_lt _ 64 (by omega) (by omega), select_ite]

theorem pay6_at (v : Vec Ideal S1x512x128 .bf16) (s : Fin 512) (l : Fin 128) :
    k0_pay6 (F := Ideal) k0_pay150 (Scalar.ofBits .bf16 0x3F80#16) v (ix2 s l) = if l.val < 64 then (1 : EReal) else v (ix3 (0 : Fin 1) s l) := by
  have hl := l.isLt
  unfold k0_pay6 k0_pay150
  simp only [pointwise]
  have e1 : List.foldl (fun n (a : Fin 2) => n * (![512, 128] : Fin 2 → ℕ) a + (ix2 s l a).val) 0 [1] = l.val := Nat.zero_add _
  refine Eq.trans (congrArg (fun n => Scalar.select (IntOp.cmpi .slt (BitVec.ofNat 32 n) 64#32) _ _) e1) ?_
  rw [word_lt _ 64 (by omega) (by omega), select_ite]

theorem pay140_at (q : Vec Ideal S1x256x128 .bf16) (r : Fin 256) (l : Fin 128) :
    k0_pay140 (F := Ideal) q (ix2 r l) = if l.val < 64 then q (ix3 (0 : Fin 1) r l) else (0 : EReal) := by
  have hl := l.isLt
  unfold k0_pay140 k0_pay138 k0_pay139
  simp only [pointwise]
  have e1 : List.foldl (fun n (a : Fin 2) => n * (![256, 128] : Fin 2 → ℕ) a + (ix2 r l a).val) 0 [1] = l.val := Nat.zero_add _
  refine Eq.trans (congrArg (fun n => Scalar.select (IntOp.cmpi .slt (BitVec.ofNat 32 n) 64#32) _ _) e1) ?_
  rw [word_lt _ 64 (by omega) (by omega), select_ite]

theorem pay141_at (q : Vec Ideal S1x256x128 .bf16) (r : Fin 256) (l : Fin 128) :
    k0_pay141 (F := Ideal) q (ix2 r l) = if 64 ≤ l.val then q (ix3 (0 : Fin 1) r l) else (0 : EReal) := by
  have hl := l.isLt
  unfold k0_pay141 k0_pay138 k0_pay139
  simp only [pointwise]
  have e1 : List.foldl (fun n (a : Fin 2) => n * (![256, 128] : Fin 2 → ℕ) a + (ix2 r l a).val) 0 [1] = l.val := Nat.zero_add _
  refine Eq.trans (congrArg (fun n => Scalar.select (IntOp.cmpi .sge (BitVec.ofNat 32 n) 64#32) _ _) e1) ?_
  rw [word_ge _ 64 (by omega) (by omega), select_ite]

theorem pay21_at (S : FVec Ideal S256x512 .bf16) (m : Vec Ideal S1x256x128 .f32) (r : Fin 256) (l : Fin 128) :
    k0_pay21 (F := Ideal) S m (ix2 r l) = max (m (ix3 (0 : Fin 1) r l)) (Finset.univ.sup fun s : Fin 512 => S (ix2 r s)) := by
  unfold k0_pay21 k0_pay20
  simp only [pointwise]
  rw [bits_neg_inf, fold_max_eq_sup, ← sup_lanes]
  refine congrArg (max _) (congrArg (Finset.univ.sup) (funext fun k => ?_))
  refine congrArg₂ max (congrArg₂ max (congrArg₂ max (idx2 S ?_ ?_) (idx2 S ?_ ?_)) (idx2 S ?_ ?_)) (idx2 S ?_ ?_) <;> simp

theorem pay23_at (S : FVec Ideal S256x512 .bf16) (m : Vec Ideal S1x256x128 .f32) (r : Fin 256) (l : Fin 128) :
    k0_pay23 (F := Ideal) S m (ix3 (0 : Fin 1) r l) = max (m (ix3 (0 : Fin 1) r l)) (Finset.univ.sup fun s : Fin 512 => S (ix2 r s)) := by
  unfold k0_pay23
  simp only [pointwise]
  exact pay21_at S m r l

theorem pay22_at (S : FVec Ideal S256x512 .bf16) (m : Vec Ideal S1x256x128 .f32) (r : Fin 256) (s : Fin 512) :
    k0_pay22 (F := Ideal) S m (ix2 r s) = Ideal.exp2 (S (ix2 r s) - k0_pay21 (F := Ideal) S m (ix2 r (⟨s.val % 128, by omega⟩ : Fin 128))) := by
  have hs := s.isLt
  unfold k0_pay22
  simp only [pointwise]
  refine congrArg (fun x => Ideal.exp2 (S (ix2 r s) - x)) ?_
  have e : (![256, 128] : Fin 2 → ℕ) 1 = 128 := rfl
  simp only [e]
  split
  · exact idx2 _ (by simp) (by simp; omega)
  · split
    · exact idx2 _ (by simp) (by simp; omega)
    · split
      · exact idx2 _ (by simp) (by simp; omega)
      · exact idx2 _ (by simp) (by simp; omega)

theorem pay24_at (S : FVec Ideal S256x512 .bf16) (m : Vec Ideal S1x256x128 .f32) (r : Fin 256) (l : Fin 128) :
    k0_pay24 (F := Ideal) S m (ix2 r l) = Ideal.exp2 (m (ix3 (0 : Fin 1) r l) - k0_pay21 (F := Ideal) S m (ix2 r l)) := by
  unfold k0_pay24 k0_pay20
  simp only [pointwise]
  rfl

theorem pay60_at (W : FVec Ideal S512x128 .bf16) (P : FVec Ideal S256x512 .bf16) (α : FVec Ideal S256x128 .f32) (A : Vec Ideal S1x256x128 .f32) (r : Fin 256) (l : Fin 128) :
    k0_pay60 (F := Ideal) W P α A (ix3 (0 : Fin 1) r l) = α (ix2 r l) * A (ix3 (0 : Fin 1) r l) + ∑ s : Fin 512, P (ix2 r s) * W (ix2 s l) := by
  unfold k0_pay60
  simp only [pointwise]
  exact congrArg _ (zero_add _)

theorem pay157_at (a b : Vec Ideal S1x256x128 .f32) (r : Fin 256) (l : Fin 128) :
    k0_pay157 (F := Ideal) a b (ix3 (0 : Fin 1) r l) = if h : l.val < 64 then Ideal.div (a (ix3 (0 : Fin 1) r l)) (a (ix3 (0 : Fin 1) r (⟨l.val + 64, by omega⟩ : Fin 128)))
      else Ideal.div (b (ix3 (0 : Fin 1) r l)) (b (ix3 (0 : Fin 1) r (⟨l.val - 64, by omega⟩ : Fin 128))) := by
  have hl := l.isLt
  have hr := r.isLt
  unfold k0_pay157
  simp only [pointwise]
  have e1 : List.foldl (fun n (a : Fin 2) => n * (![256, 128] : Fin 2 → ℕ) a + (ix2 r l a).val) 0 [1] = l.val := Nat.zero_add _
  refine Eq.trans (congrArg (fun n => Scalar.select (IntOp.cmpi .slt (BitVec.ofNat 32 n) 64#32) _ _) e1) ?_
  rw [word_lt _ 64 (by omega) (by omega), select_ite]
  have e : (![256, 128] : Fin 2 → ℕ) 1 = 128 := rfl
  have e' : (64#32).toNat = 64 := rfl
  by_cases h : l.val < 64
  · rw [if_pos h, dif_pos h]
    refine congrArg (Ideal.div _) (idx3 a ?_ ?_)
    · simp
    · simp [e, e']; omega
  · rw [if_neg h, dif_neg h]
    refine congrArg (Ideal.div _) (idx3 b ?_ ?_)
    · simp
    · simp [e, e']; omega

theorem pay132_at (j : S8x256x128.Idx) : k0_pay132 (F := Ideal) j = (⊥ : EReal) := by
  unfold k0_pay132
  rw [shapeCast_id]
  exact mask_eq

theorem pay133_at (j : S8x256x128.Idx) : k0_pay133 (F := Ideal) j = (0 : EReal) := by
  unfold k0_pay133
  rw [shapeCast_id]
  exact Ideal.ofBits_zero_f32

/-! ## The state, row by row -/

theorem stepM_at (S : Fin 8 → FVec Ideal S256x512 .bf16) (M : S8x256x128.Idx → Elt Ideal .f32) (e : Fin 8) (r : Fin 256) (l : Fin 128) :
    stepM S M (ix3 e r l) = max (M (ix3 e r l)) (Finset.univ.sup fun s : Fin 512 => S e (ix2 r s)) := pay23_at (S e) (rowAt M e) r l

theorem stepA_at (S : Fin 8 → FVec Ideal S256x512 .bf16) (W : Fin 8 → FVec Ideal S512x128 .bf16) (M A : S8x256x128.Idx → Elt Ideal .f32) (e : Fin 8) (r : Fin 256) (l : Fin 128)
    (μ : EReal) (hM : ∀ l, M (ix3 e r l) = μ) :
    stepA S W M A (ix3 e r l) = Ideal.exp2 (μ - max μ (Finset.univ.sup fun s : Fin 512 => S e (ix2 r s))) * A (ix3 e r l)
      + ∑ s : Fin 512, Ideal.exp2 (S e (ix2 r s) - max μ (Finset.univ.sup fun s : Fin 512 => S e (ix2 r s))) * W e (ix2 s l) := by
  have h15 : ∀ l : Fin 128, k0_pay21 (F := Ideal) (S e) (rowAt M e) (ix2 r l) = max μ (Finset.univ.sup fun s : Fin 512 => S e (ix2 r s)) := fun l =>
    (pay21_at (S e) (rowAt M e) r l).trans (congrArg (fun x => max x _) (hM l))
  refine (pay60_at (W e) _ _ (rowAt A e) r l).trans ?_
  refine congrArg₂ (· + ·) (congrArg₂ (· * ·) ?_ rfl) (Finset.sum_congr rfl fun s _ => congrArg₂ (· * ·) ?_ rfl)
  · refine (pay24_at (S e) (rowAt M e) r l).trans ?_
    rw [h15]; exact congrArg (fun x => Ideal.exp2 (x - _)) (hM l)
  · refine (pay22_at (S e) (rowAt M e) r s).trans ?_
    rw [h15]

/-- A row's logits: the scores of the positions its mask keeps, up to the row's own key block, the rest masked. -/
def logitB (x0 : Vec Ideal S1x256x512 .bf16) (x1 : Vec Ideal S1x512x16384 .bf16) (x3 : Vec Ideal S1x256x16384 .i8) (B : ℕ) (e : Fin 8) (r : Fin 256) (s : Fin 16384) : EReal :=
  if 0 < (x3 (ix3 (0 : Fin 1) r s)).toInt ∧ s.val / 512 ≤ B then
    ∑ k : Fin 64, x0 (ix3 (0 : Fin 1) r (⟨64 * e.val + k.val, by omega⟩ : Fin 512)) * x1 (ix3 (0 : Fin 1) (⟨64 * e.val + k.val, by omega⟩ : Fin 512) s) else ⊥

/-- A value column: one half of the lanes a head's values, the other half ones. -/
def colB (x2 : Vec Ideal S1x16384x512 .bf16) (e : Fin 8) (l : Fin 128) (s : Fin 16384) : EReal :=
  if (l.val < 64 ↔ e.val % 2 = 0) then x2 (ix3 (0 : Fin 1) s (⟨128 * (e.val / 2) + l.val, by omega⟩ : Fin 512)) else 1

theorem half_lo (a b : Fin 128 → EReal) : (∑ k : Fin 128, (if k.val < 64 then a k else 0) * b k) = ∑ k : Fin 64, a ⟨k.val, by omega⟩ * b ⟨k.val, by omega⟩ := by
  refine (Fin.sum_univ_add (a := 64) (b := 64) (fun k : Fin (64 + 64) => (if k.val < 64 then a k else 0) * b k)).trans ?_
  have h : (∑ k : Fin 64, (if (Fin.natAdd 64 k : Fin (64 + 64)).val < 64 then a (Fin.natAdd 64 k) else 0) * b (Fin.natAdd 64 k)) = 0 :=
    Finset.sum_eq_zero fun k _ => by rw [if_neg (by show ¬ 64 + k.val < 64; omega), zero_mul]
  rw [h, add_zero]
  exact Finset.sum_congr rfl fun k _ => by rw [if_pos (show (Fin.castAdd 64 k : Fin (64 + 64)).val < 64 from k.isLt)]; rfl

theorem half_hi (a b : Fin 128 → EReal) : (∑ k : Fin 128, (if 64 ≤ k.val then a k else 0) * b k) = ∑ k : Fin 64, a ⟨64 + k.val, by omega⟩ * b ⟨64 + k.val, by omega⟩ := by
  refine (Fin.sum_univ_add (a := 64) (b := 64) (fun k : Fin (64 + 64) => (if 64 ≤ k.val then a k else 0) * b k)).trans ?_
  have h : (∑ k : Fin 64, (if 64 ≤ (Fin.castAdd 64 k : Fin (64 + 64)).val then a (Fin.castAdd 64 k) else 0) * b (Fin.castAdd 64 k)) = 0 :=
    Finset.sum_eq_zero fun k _ => by rw [if_neg (by show ¬ 64 ≤ k.val; omega), zero_mul]
  rw [h, zero_add]
  exact Finset.sum_congr rfl fun k _ => by rw [if_pos (show 64 ≤ (Fin.natAdd 64 k : Fin (64 + 64)).val from Nat.le_add_right _ _)]; rfl

theorem score_even (x0 : Vec Ideal S1x256x512 .bf16) (x1 : Vec Ideal S1x512x16384 .bf16) (x3 : Vec Ideal S1x256x16384 .i8) (J B : ℕ) (hJ : J < 32) (hB : J ≤ B) (p : Fin 4) (e : Fin 8) (he : e.val = 2 * p.val) (r : Fin 256) (s : Fin 512) :
    k0_pay3 (F := Ideal) (k0_pay140 (qBlk x0 p)) (mBlk x3 ⟨J, hJ⟩) (ktBlk x1 p ⟨J, hJ⟩) (ix2 r s) = logitB x0 x1 x3 B e r (blkEmb J hJ s) := by
  have hs := s.isLt
  have h : (blkEmb J hJ s).val = 512 * J + s.val := rfl
  refine (pay3_at _ _ _ r s).trans ?_
  have e1 : (∑ k : Fin 128, k0_pay140 (F := Ideal) (qBlk x0 p) (ix2 r k) * ktBlk x1 p ⟨J, hJ⟩ (ix3 (0 : Fin 1) k s))
      = ∑ k : Fin 64, x0 (ix3 (0 : Fin 1) r (⟨64 * e.val + k.val, by omega⟩ : Fin 512)) * x1 (ix3 (0 : Fin 1) (⟨64 * e.val + k.val, by omega⟩ : Fin 512) (blkEmb J hJ s)) := by
    refine (Finset.sum_congr rfl fun k _ => congrArg₂ (· * ·) (pay140_at (qBlk x0 p) r k) rfl).trans ?_
    refine (half_lo _ _).trans (Finset.sum_congr rfl fun k _ => ?_)
    refine congrArg₂ (· * ·) (congrArg x0 (congrArg (ix3 (0 : Fin 1) r) (Fin.ext ?_))) (congrArg x1 (congrArg₂ (ix3 (0 : Fin 1)) (Fin.ext ?_) rfl))
    · show 128 * p.val + k.val = 64 * e.val + k.val; omega
    · show 128 * p.val + k.val = 64 * e.val + k.val; omega
  unfold logitB
  have hm : mBlk x3 ⟨J, hJ⟩ (ix3 (0 : Fin 1) r s) = x3 (ix3 (0 : Fin 1) r (blkEmb J hJ s)) := rfl
  rw [e1, hm]
  by_cases hk : 0 < (x3 (ix3 (0 : Fin 1) r (blkEmb J hJ s))).toInt
  · rw [if_pos hk, if_pos ⟨hk, by omega⟩, add_zero]
  · rw [if_neg hk, if_neg (fun h => hk h.1), EReal.add_bot]

theorem score_odd (x0 : Vec Ideal S1x256x512 .bf16) (x1 : Vec Ideal S1x512x16384 .bf16) (x3 : Vec Ideal S1x256x16384 .i8) (J B : ℕ) (hJ : J < 32) (hB : J ≤ B) (p : Fin 4) (e : Fin 8) (he : e.val = 2 * p.val + 1) (r : Fin 256) (s : Fin 512) :
    k0_pay3 (F := Ideal) (k0_pay141 (qBlk x0 p)) (mBlk x3 ⟨J, hJ⟩) (ktBlk x1 p ⟨J, hJ⟩) (ix2 r s) = logitB x0 x1 x3 B e r (blkEmb J hJ s) := by
  have hs := s.isLt
  have h : (blkEmb J hJ s).val = 512 * J + s.val := rfl
  refine (pay3_at _ _ _ r s).trans ?_
  have e1 : (∑ k : Fin 128, k0_pay141 (F := Ideal) (qBlk x0 p) (ix2 r k) * ktBlk x1 p ⟨J, hJ⟩ (ix3 (0 : Fin 1) k s))
      = ∑ k : Fin 64, x0 (ix3 (0 : Fin 1) r (⟨64 * e.val + k.val, by omega⟩ : Fin 512)) * x1 (ix3 (0 : Fin 1) (⟨64 * e.val + k.val, by omega⟩ : Fin 512) (blkEmb J hJ s)) := by
    refine (Finset.sum_congr rfl fun k _ => congrArg₂ (· * ·) (pay141_at (qBlk x0 p) r k) rfl).trans ?_
    refine (half_hi _ _).trans (Finset.sum_congr rfl fun k _ => ?_)
    refine congrArg₂ (· * ·) (congrArg x0 (congrArg (ix3 (0 : Fin 1) r) (Fin.ext ?_))) (congrArg x1 (congrArg₂ (ix3 (0 : Fin 1)) (Fin.ext ?_) rfl))
    · show 128 * p.val + (64 + k.val) = 64 * e.val + k.val; omega
    · show 128 * p.val + (64 + k.val) = 64 * e.val + k.val; omega
  unfold logitB
  have hm : mBlk x3 ⟨J, hJ⟩ (ix3 (0 : Fin 1) r s) = x3 (ix3 (0 : Fin 1) r (blkEmb J hJ s)) := rfl
  rw [e1, hm]
  by_cases hk : 0 < (x3 (ix3 (0 : Fin 1) r (blkEmb J hJ s))).toInt
  · rw [if_pos hk, if_pos ⟨hk, by omega⟩, add_zero]
  · rw [if_neg hk, if_neg (fun h => hk h.1), EReal.add_bot]

theorem scoreB_at (x0 : Vec Ideal S1x256x512 .bf16) (x1 : Vec Ideal S1x512x16384 .bf16) (x3 : Vec Ideal S1x256x16384 .i8) (J B : ℕ) (hJ : J < 32) (hB : J ≤ B) (e : Fin 8) (r : Fin 256) (s : Fin 512) :
    scoreB (qs x0) x1 x3 ⟨J, hJ⟩ e (ix2 r s) = logitB x0 x1 x3 B e r (blkEmb J hJ s) := by
  fin_cases e
  · exact score_even x0 x1 x3 J B hJ hB 0 0 rfl r s
  · exact score_odd x0 x1 x3 J B hJ hB 0 1 rfl r s
  · exact score_even x0 x1 x3 J B hJ hB 1 2 rfl r s
  · exact score_odd x0 x1 x3 J B hJ hB 1 3 rfl r s
  · exact score_even x0 x1 x3 J B hJ hB 2 4 rfl r s
  · exact score_odd x0 x1 x3 J B hJ hB 2 5 rfl r s
  · exact score_even x0 x1 x3 J B hJ hB 3 6 rfl r s
  · exact score_odd x0 x1 x3 J B hJ hB 3 7 rfl r s

theorem valB_at (x2 : Vec Ideal S1x16384x512 .bf16) (J : ℕ) (hJ : J < 32) (e : Fin 8) (s : Fin 512) (l : Fin 128) :
    valB k0_pay150 (Scalar.ofBits .bf16 0x3F80#16) x2 ⟨J, hJ⟩ e (ix2 s l) = colB x2 e l (blkEmb J hJ s) := by
  have ev : ∀ (p : Fin 4) (e : Fin 8) (he : e.val = 2 * p.val), k0_pay4 (F := Ideal) k0_pay150 (Scalar.ofBits .bf16 0x3F80#16) (vBlk x2 p ⟨J, hJ⟩) (ix2 s l) = colB x2 e l (blkEmb J hJ s) := by
    intro p e he
    refine (pay4_at _ s l).trans ?_
    unfold colB
    by_cases h : l.val < 64
    · rw [if_pos h, if_pos (by omega)]
      exact congrArg x2 (congrArg (ix3 (0 : Fin 1) (blkEmb J hJ s)) (Fin.ext (by show 128 * p.val + l.val = 128 * (e.val / 2) + l.val; omega)))
    · rw [if_neg h, if_neg (by omega)]
  have od : ∀ (p : Fin 4) (e : Fin 8) (he : e.val = 2 * p.val + 1), k0_pay6 (F := Ideal) k0_pay150 (Scalar.ofBits .bf16 0x3F80#16) (vBlk x2 p ⟨J, hJ⟩) (ix2 s l) = colB x2 e l (blkEmb J hJ s) := by
    intro p e he
    refine (pay6_at _ s l).trans ?_
    unfold colB
    by_cases h : l.val < 64
    · rw [if_pos h, if_neg (by omega)]
    · rw [if_neg h, if_pos (by omega)]
      exact congrArg x2 (congrArg (ix3 (0 : Fin 1) (blkEmb J hJ s)) (Fin.ext (by show 128 * p.val + l.val = 128 * (e.val / 2) + l.val; omega)))
  fin_cases e
  · exact ev 0 0 rfl
  · exact od 0 1 rfl
  · exact ev 1 2 rfl
  · exact od 1 3 rfl
  · exact ev 2 4 rfl
  · exact od 2 5 rfl
  · exact ev 3 6 rfl
  · exact od 3 7 rfl

theorem state_at (x0 : Vec Ideal S1x256x512 .bf16) (x1 : Vec Ideal S1x512x16384 .bf16) (x2 : Vec Ideal S1x16384x512 .bf16) (x3 : Vec Ideal S1x256x16384 .i8) (B : ℕ) (hB : B < 32) (e : Fin 8) (r : Fin 256) (n : ℕ) (h : n ≤ B + 1) :
    (∀ l, (stateAt (qs x0) k0_pay150 (Scalar.ofBits .bf16 0x3F80#16) x1 x2 x3 n).1 (ix3 e r l) = (span 0 n).sup (logitB x0 x1 x3 B e r))
    ∧ ∀ l : Fin 128, (stateAt (qs x0) k0_pay150 (Scalar.ofBits .bf16 0x3F80#16) x1 x2 x3 n).2 (ix3 e r l) = accOn (span 0 n) (logitB x0 x1 x3 B e r) (colB x2 e l) ((span 0 n).sup (logitB x0 x1 x3 B e r)) := by
  induction n with
  | zero =>
    rw [span_zero]
    exact ⟨fun l => pay132_at (ix3 e r l), fun l => (pay133_at (ix3 e r l)).trans (by unfold accOn; simp)⟩
  | succ n ih =>
    obtain ⟨i1, i2⟩ := ih (by omega)
    have hn : 0 + n < 32 := by omega
    have hm : (⟨n % 32, Nat.mod_lt _ (by decide)⟩ : Fin 32) = ⟨0 + n, hn⟩ := Fin.ext (by show n % 32 = 0 + n; omega)
    have hsup : (Finset.univ.sup fun s : Fin 512 => scoreB (qs x0) x1 x3 ⟨0 + n, hn⟩ e (ix2 r s)) = (Finset.univ.map (blkEmb (0 + n) hn)).sup (logitB x0 x1 x3 B e r) := by
      rw [Finset.sup_map]
      exact congrArg (Finset.univ.sup) (funext fun s => scoreB_at x0 x1 x3 (0 + n) B hn (by omega) e r s)
    have e1 : stateAt (qs x0) k0_pay150 (Scalar.ofBits .bf16 0x3F80#16) x1 x2 x3 (n + 1) = step1 (scoreB (qs x0) x1 x3 ⟨0 + n, hn⟩) (valB k0_pay150 (Scalar.ofBits .bf16 0x3F80#16) x2 ⟨0 + n, hn⟩) (stateAt (qs x0) k0_pay150 (Scalar.ofBits .bf16 0x3F80#16) x1 x2 x3 n) := by
      show step1 _ _ _ = _
      rw [hm]
    rw [e1, span_succ 0 n hn]
    constructor
    · intro l
      refine (stepM_at _ _ e r l).trans ?_
      rw [hsup, i1 l, Finset.sup_union]
    · intro l
      refine (stepA_at _ _ _ _ e r l _ i1).trans ?_
      rw [hsup, i2 l, ← accOn_union _ _ (span_disjoint 0 n hn)]
      refine congrArg₂ (· + ·) rfl ?_
      conv_rhs => unfold accOn
      rw [Finset.sum_map]
      refine Finset.sum_congr rfl fun s _ => ?_
      rw [scoreB_at x0 x1 x3 (0 + n) B hn (by omega) e r s, valB_at]

/-- The sums after the last key block are those of the whole row. -/
theorem sums_at (x0 : Vec Ideal S1x256x512 .bf16) (x1 : Vec Ideal S1x512x16384 .bf16) (x2 : Vec Ideal S1x16384x512 .bf16) (x3 : Vec Ideal S1x256x16384 .i8) (B : ℕ) (hB : B < 32) (e : Fin 8) (r : Fin 256) (l : Fin 128) :
    (stateAt (qs x0) k0_pay150 (Scalar.ofBits .bf16 0x3F80#16) x1 x2 x3 (B + 1)).2 (ix3 e r l)
      = accOn Finset.univ (logitB x0 x1 x3 B e r) (colB x2 e l) (Finset.univ.sup (logitB x0 x1 x3 B e r)) := by
  have hout : ∀ s, s ∉ span 0 (B + 1) → logitB x0 x1 x3 B e r s = ⊥ := by
    intro s hs
    unfold span at hs
    simp only [Finset.mem_filter, Finset.mem_univ, true_and] at hs
    unfold logitB
    exact if_neg (by omega)
  rw [← accOn_all (span 0 (B + 1)) _ _ _ hout, ← sup_all (span 0 (B + 1)) _ hout]
  exact (state_at x0 x1 x2 x3 B hB e r (B + 1) le_rfl).2 l

end Cert.Kernel5Ideal.Att

end
-- ==== Proof.Att5Form.lean ====
/-
  The masked attention's result at one entry, in the form both programs' results are brought to.
-/
module

public import proofs.«01_k».proof.Proof.FoxForm

@[expose] public section

noncomputable section

namespace Cert.Form.Att

open Idealize.ShloMosaic

variable (q : Fin 2 → Fin 16384 → Fin 512 → EReal) (kt : Fin 2 → Fin 512 → Fin 16384 → EReal) (v : Fin 2 → Fin 16384 → Fin 512 → EReal)
  (w : Fin 2 → Fin 16384 → Fin 16384 → BitVec 8)

/-- A query's logit at one key: its score where the mask keeps it and its block is not later than the query's. -/
def logit (b : Fin 2) (h : Fin 8) (t s : Fin 16384) : EReal :=
  if 0 < (w b t s).toInt ∧ s.val / 512 ≤ t.val / 512 then ∑ k : Fin 64, q b t (⟨64 * h.val + k.val, by omega⟩ : Fin 512) * kt b (⟨64 * h.val + k.val, by omega⟩ : Fin 512) s else ⊥

/-- The weighted sum of a column. -/
def acc (b : Fin 2) (h : Fin 8) (t : Fin 16384) (V : Fin 16384 → EReal) : EReal :=
  accOn Finset.univ (logit q kt w b h t) V (Finset.univ.sup (logit q kt w b h t))

/-- The result. -/
def out (b : Fin 2) (t : Fin 16384) (c : Fin 512) : EReal :=
  Ideal.div (acc q kt w b (⟨c.val / 64, by omega⟩ : Fin 8) t (fun s => v b s c)) (acc q kt w b (⟨c.val / 64, by omega⟩ : Fin 8) t (fun _ => 1))

end Cert.Form.Att

end
-- ==== Proof.Att5Arr.lean ====
/-
  The masked attention's result, entry by entry, from its arguments.
-/
module

public import proofs.«01_k».proof.Proof.Att5Soft
public import proofs.«01_k».proof.Proof.Att5Form
public import Idealize.ShloMosaic.Lib.Pipeline.ValueKit

@[expose] public section

set_option maxRecDepth 16384

noncomputable section

namespace Cert.Kernel5Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

open Cert.Kernel5Ideal.Value (flushed4 blocks4)

section Blocks

variable {F : FTy → Type} [FloatOps F] [Named F]
variable (m : (ℓ : Loc nD τ sig) → Buf (Elt F) ℓ)

theorem coord0 (t : Fin cfg0.N) : (grid0.coords t 0).val = t.val / 64 := by
  have ht : t.val < 128 := Nat.lt_of_lt_of_eq t.isLt N_0
  have e0 : (grid0.coords t 0).val = t.val / 64 % 2 := Pipeline.Grid.coords_val t 0 (by decide) rfl
  omega

theorem coord1 (t : Fin cfg0.N) : (grid0.coords t 1).val = t.val % 64 := by
  have e2 : (grid0.coords t 1).val = t.val / 1 % 64 := Pipeline.Grid.coords_val t 1 (by decide) rfl
  omega

theorem lt64 (t : Fin cfg0.N) : t.val / 64 < 2 := by
  have ht : t.val < 128 := Nat.lt_of_lt_of_eq t.isLt N_0
  omega

theorem flush4 : ∀ t : Fin cfg0.N, (cfg0.win 4).flush t = true :=
  (by decide +kernel : ∀ t : Fin grid0.N, win0_4.flush t = true)

/-- Key blocks visited at a grid point: up to the queries' own. -/
theorem trips1 : ∀ t : Fin cfg0.N, (k0_t1_loop (grid0.coords t)).trips = (grid0.coords t 1).val / 2 + 1 :=
  (by decide +kernel : ∀ t : Fin grid0.N, (k0_t1_loop (grid0.coords t)).trips = (grid0.coords t 1).val / 2 + 1)

/-- The second loop has no trips. -/
theorem trips2 : ∀ t : Fin cfg0.N, (k0_t2_loop (grid0.coords t)).trips = 0 :=
  (by decide +kernel : ∀ t : Fin grid0.N, (k0_t2_loop (grid0.coords t)).trips = 0)

theorem outs_eq (c : Dev nD) (t : Fin cfg0.N) :
    outsAt0 m c t = outBlk (stateAt (qs (iblk m c 0 t)) k0_pay150 (Scalar.ofBits .bf16 0x3F80#16) (iblk m c 1 t) (iblk m c 2 t) (iblk m c 3 t) (t.val % 64 / 2 + 1)).2 := by
  have h1 := trips1 t
  rw [coord1 t] at h1
  unfold outsAt0 out0_A_4
  rw [pieces_A, qLd_eq]
  refine (out_read c (grid0.coords t) _ _ _ _ _ _ _ _ _ _ _ _ _ _ (qs (iblk m c 0 t)) (iblk m c 1 t) (iblk m c 2 t) (iblk m c 3 t) (by omega) (trips2 t) VO0_4 _).trans ?_
  rw [h1]

/-- The point whose block holds an entry. -/
def pointOf (b : Fin 2) (t : Fin 16384) : Fin cfg0.N := ⟨64 * b.val + t.val / 256, Nat.lt_of_lt_of_eq (by omega) N_0.symm⟩

/-- An entry of the final array is its point's. -/
theorem arr_at (c : Dev nD) (b : Fin 2) (t : Fin 16384) (l : Fin 512) :
    ((dats m 0 c).arrAt 4 cfg0.N : S2x16384x512.Idx → Elt F .bf16) (ix3 b t l)
      = outsAt0 m c (pointOf b t) (ix3 (0 : Fin 1) (⟨t.val % 256, by omega⟩ : Fin 256) l) := by
  have h := congrFun ((blocks4 m c (pointOf b t) (flush4 _)).trans (flushed4 m c (pointOf b t))) (ix3 (0 : Fin 1) (⟨t.val % 256, by omega⟩ : Fin 256) l)
  refine Eq.trans ?_ (h.trans ?_)
  · refine congrArg ((dats m 0 c).arrAt 4 cfg0.N) (funext fun a => Fin.ext ?_)
    have c0 := coord0 (pointOf b t); have c1 := coord1 (pointOf b t)
    have hp : (pointOf b t).val = 64 * b.val + t.val / 256 := rfl
    have hb := b.isLt; have ht := t.isLt; have hl := l.isLt
    fin_cases a
    · show b.val = (BitVec.ofNat 32 (grid0.coords (pointOf b t) 0).val).toNat * 1 + 1 * 0
      rw [c0, BitVec.toNat_ofNat]; omega
    · show t.val = (BitVec.ofNat 32 (grid0.coords (pointOf b t) 1).val).toNat * 256 + 1 * (t.val % 256)
      rw [c1, BitVec.toNat_ofNat]; omega
    · show l.val = 0 * 512 + 1 * l.val
      omega
  · rfl

theorem iblk0_at (c : Dev nD) (t : Fin cfg0.N) (j : S1x256x512.Idx) :
    (iblk m c 0 t : S1x256x512.Idx → Elt F .bf16) j = V m c main_arg0 (ix3 (⟨t.val / 64, lt64 t⟩ : Fin 2) (⟨256 * (t.val % 64) + (j 1).val, by have : (j 1).val < 256 := (j 1).isLt; omega⟩ : Fin 16384) (j 2 : Fin 512)) := by
  refine congrArg (V m c main_arg0) (funext fun a => Fin.ext ?_)
  have h0 := coord0 t; have h1 := coord1 t
  have hlt := lt64 t
  have hj0 : (j 0).val = 0 := by have : (j 0).val < 1 := (j 0).isLt; omega
  fin_cases a
  · show (BitVec.ofNat 32 (grid0.coords t 0).val).toNat * 1 + 1 * (j 0).val = t.val / 64
    rw [h0, BitVec.toNat_ofNat]; omega
  · show (BitVec.ofNat 32 (grid0.coords t 1).val).toNat * 256 + 1 * (j 1).val = 256 * (t.val % 64) + (j 1).val
    rw [h1, BitVec.toNat_ofNat]; omega
  · show 0 * 512 + 1 * (j 2).val = (j 2).val
    omega

theorem iblk1_at (c : Dev nD) (t : Fin cfg0.N) (j : S1x512x16384.Idx) :
    (iblk m c 1 t : S1x512x16384.Idx → Elt F .bf16) j = V m c main_arg1 (ix3 (⟨t.val / 64, lt64 t⟩ : Fin 2) (j 1 : Fin 512) (j 2 : Fin 16384)) := by
  refine congrArg (V m c main_arg1) (funext fun a => Fin.ext ?_)
  have h0 := coord0 t; have h1 := coord1 t
  have hlt := lt64 t
  have hj0 : (j 0).val = 0 := by have : (j 0).val < 1 := (j 0).isLt; omega
  fin_cases a
  · show (BitVec.ofNat 32 (grid0.coords t 0).val).toNat * 1 + 1 * (j 0).val = t.val / 64
    rw [h0, BitVec.toNat_ofNat]; omega
  · show 0 * 512 + 1 * (j 1).val = (j 1).val
    omega
  · show 0 * 16384 + 1 * (j 2).val = (j 2).val
    omega

theorem iblk2_at (c : Dev nD) (t : Fin cfg0.N) (j : S1x16384x512.Idx) :
    (iblk m c 2 t : S1x16384x512.Idx → Elt F .bf16) j = V m c main_arg2 (ix3 (⟨t.val / 64, lt64 t⟩ : Fin 2) (j 1 : Fin 16384) (j 2 : Fin 512)) := by
  refine congrArg (V m c main_arg2) (funext fun a => Fin.ext ?_)
  have h0 := coord0 t; have h1 := coord1 t
  have hlt := lt64 t
  have hj0 : (j 0).val = 0 := by have : (j 0).val < 1 := (j 0).isLt; omega
  fin_cases a
  · show (BitVec.ofNat 32 (grid0.coords t 0).val).toNat * 1 + 1 * (j 0).val = t.val / 64
    rw [h0, BitVec.toNat_ofNat]; omega
  · show 0 * 16384 + 1 * (j 1).val = (j 1).val
    omega
  · show 0 * 512 + 1 * (j 2).val = (j 2).val
    omega

theorem iblk3_at (c : Dev nD) (t : Fin cfg0.N) (j : S1x256x16384.Idx) :
    (iblk m c 3 t : S1x256x16384.Idx → Elt F .i8) j = V m c main_arg3 (ix3 (⟨t.val / 64, lt64 t⟩ : Fin 2) (⟨256 * (t.val % 64) + (j 1).val, by have : (j 1).val < 256 := (j 1).isLt; omega⟩ : Fin 16384) (j 2 : Fin 16384)) := by
  refine congrArg (V m c main_arg3) (funext fun a => Fin.ext ?_)
  have h0 := coord0 t; have h1 := coord1 t
  have hlt := lt64 t
  have hj0 : (j 0).val = 0 := by have : (j 0).val < 1 := (j 0).isLt; omega
  fin_cases a
  · show (BitVec.ofNat 32 (grid0.coords t 0).val).toNat * 1 + 1 * (j 0).val = t.val / 64
    rw [h0, BitVec.toNat_ofNat]; omega
  · show (BitVec.ofNat 32 (grid0.coords t 1).val).toNat * 256 + 1 * (j 1).val = 256 * (t.val % 64) + (j 1).val
    rw [h1, BitVec.toNat_ofNat]; omega
  · show 0 * 16384 + 1 * (j 2).val = (j 2).val
    omega

end Blocks

/-- The output's block, entry by entry: a head's sums over its weights' sum. -/
theorem outBlk_at (A : S8x256x128.Idx → EReal) (r : Fin 256) (l : Fin 512) :
    outBlk (F := Ideal) A (ix3 (0 : Fin 1) r l)
      = Ideal.div (A (ix3 (⟨l.val / 64, by omega⟩ : Fin 8) r (⟨l.val % 128, by omega⟩ : Fin 128))) (A (ix3 (⟨l.val / 64, by omega⟩ : Fin 8) r (⟨(l.val + 64) % 128, by omega⟩ : Fin 128))) := by
  have hl := l.isLt
  have e3 : ∀ {a a' : Fin 8} {d d' : Fin 128}, a.val = a'.val → d.val = d'.val → A (ix3 a r d) = A (ix3 a' r d') := fun ha hd => by rw [Fin.ext ha, Fin.ext hd]
  refine (pay157_at _ _ r (⟨l.val % 128, by omega⟩ : Fin 128)).trans ?_
  by_cases h : l.val % 128 < 64
  · refine (dif_pos (show (⟨l.val % 128, by omega⟩ : Fin 128).val < 64 from h)).trans ?_
    exact congrArg₂ Ideal.div (e3 (by show 2 * (l.val / 128) = l.val / 64; omega) rfl) (e3 (by show 2 * (l.val / 128) = l.val / 64; omega) (by show l.val % 128 + 64 = (l.val + 64) % 128; omega))
  · refine (dif_neg (show ¬(⟨l.val % 128, by omega⟩ : Fin 128).val < 64 from h)).trans ?_
    exact congrArg₂ Ideal.div (e3 (by show 2 * (l.val / 128) + 1 = l.val / 64; omega) rfl) (e3 (by show 2 * (l.val / 128) + 1 = l.val / 64; omega) (by show l.val % 128 - 64 = (l.val + 64) % 128; omega))

/-- The kernel's result, entry by entry. -/
theorem arr_form (m : (ℓ : Loc nD τ sig) → Buf (Elt Ideal) ℓ) (c : Dev nD) (a0 : FVec Ideal S2x16384x512 .bf16) (a1 : FVec Ideal S2x512x16384 .bf16) (a2 : FVec Ideal S2x16384x512 .bf16) (a3 : IVec S2x16384x16384 8)
    (h0 : m ((c : Thread nD τ).loc main_arg0) = a0) (h1 : m ((c : Thread nD τ).loc main_arg1) = a1) (h2 : m ((c : Thread nD τ).loc main_arg2) = a2) (h3 : m ((c : Thread nD τ).loc main_arg3) = a3)
    (b : Fin 2) (t : Fin 16384) (l : Fin 512) :
    ((dats m 0 c).arrAt 4 cfg0.N : S2x16384x512.Idx → EReal) (ix3 b t l)
      = Cert.Form.Att.out (fun b t k => a0 (ix3 b t k)) (fun b k s => a1 (ix3 b k s)) (fun b s k => a2 (ix3 b s k)) (fun b t s => a3 (ix3 b t s)) b t l := by
  have hb := b.isLt; have ht := t.isLt; have hl := l.isLt
  have hp : (pointOf b t).val = 64 * b.val + t.val / 256 := rfl
  have v0 : V m c main_arg0 = a0 := (V_main_arg0 m c).trans h0
  have v1 : V m c main_arg1 = a1 := (V_main_arg1 m c).trans h1
  have v2 : V m c main_arg2 = a2 := (V_main_arg2 m c).trans h2
  have v3 : V m c main_arg3 = a3 := (V_main_arg3 m c).trans h3
  have i3 : ∀ {n p q : ℕ} {α : Type} (f : (Shape.mk 3 ![n, p, q]).Idx → α) {x x' : Fin n} {y y' : Fin p} {z z' : Fin q},
      x.val = x'.val → y.val = y'.val → z.val = z'.val → f (ix3 x y z) = f (ix3 x' y' z') := by
    intro n p q α f x x' y y' z z' hx hy hz
    rw [Fin.ext hx, Fin.ext hy, Fin.ext hz]
  have b0 : ∀ k : Fin 512, iblk m c 0 (pointOf b t) (ix3 (0 : Fin 1) (⟨t.val % 256, by omega⟩ : Fin 256) k) = a0 (ix3 b t k) := by
    intro k
    refine (iblk0_at m c (pointOf b t) _).trans ?_
    rw [v0]
    exact i3 a0 (by show (pointOf b t).val / 64 = b.val; omega) (by show 256 * ((pointOf b t).val % 64) + t.val % 256 = t.val; omega) rfl
  have b1 : ∀ (k : Fin 512) (s : Fin 16384), iblk m c 1 (pointOf b t) (ix3 (0 : Fin 1) k s) = a1 (ix3 b k s) := by
    intro k s
    refine (iblk1_at m c (pointOf b t) _).trans ?_
    rw [v1]
    exact i3 a1 (by show (pointOf b t).val / 64 = b.val; omega) rfl rfl
  have b2 : ∀ (s : Fin 16384) (k : Fin 512), iblk m c 2 (pointOf b t) (ix3 (0 : Fin 1) s k) = a2 (ix3 b s k) := by
    intro s k
    refine (iblk2_at m c (pointOf b t) _).trans ?_
    rw [v2]
    exact i3 a2 (by show (pointOf b t).val / 64 = b.val; omega) rfl rfl
  have b3 : ∀ s : Fin 16384, iblk m c 3 (pointOf b t) (ix3 (0 : Fin 1) (⟨t.val % 256, by omega⟩ : Fin 256) s) = a3 (ix3 b t s) := by
    intro s
    refine (iblk3_at m c (pointOf b t) _).trans ?_
    rw [v3]
    exact i3 a3 (by show (pointOf b t).val / 64 = b.val; omega) (by show 256 * ((pointOf b t).val % 64) + t.val % 256 = t.val; omega) rfl
  have hB : (pointOf b t).val % 64 / 2 < 32 := by omega
  have hlog : ∀ e : Fin 8, logitB (iblk m c 0 (pointOf b t)) (iblk m c 1 (pointOf b t)) (iblk m c 3 (pointOf b t)) ((pointOf b t).val % 64 / 2) e (⟨t.val % 256, by omega⟩ : Fin 256)
      = Cert.Form.Att.logit (fun b t k => a0 (ix3 b t k)) (fun b k s => a1 (ix3 b k s)) (fun b t s => a3 (ix3 b t s)) b e t := by
    intro e
    funext s
    unfold logitB Cert.Form.Att.logit
    refine if_congr (and_congr (by rw [b3]) (by omega)) (Finset.sum_congr rfl fun k _ => ?_) rfl
    rw [b0, b1]
  have hS := fun (e : Fin 8) (d : Fin 128) => (sums_at (iblk m c 0 (pointOf b t)) (iblk m c 1 (pointOf b t)) (iblk m c 2 (pointOf b t)) (iblk m c 3 (pointOf b t)) ((pointOf b t).val % 64 / 2) hB e (⟨t.val % 256, by omega⟩ : Fin 256) d).trans
    (by rw [hlog e])
  refine (arr_at m c b t l).trans ?_
  rw [outs_eq]
  refine (outBlk_at _ _ l).trans ?_
  unfold Cert.Form.Att.out Cert.Form.Att.acc
  refine congrArg₂ Ideal.div ((hS _ _).trans (congrArg (fun V => Cert.Form.accOn Finset.univ _ V _) (funext fun s => ?_))) ((hS _ _).trans (congrArg (fun V => Cert.Form.accOn Finset.univ _ V _) (funext fun s => ?_)))
  · unfold colB
    refine (if_pos (by show l.val % 128 < 64 ↔ l.val / 64 % 2 = 0; omega)).trans ?_
    refine (b2 s _).trans (congrArg a2 (congrArg (ix3 b s) (Fin.ext ?_)))
    show 128 * (l.val / 64 / 2) + l.val % 128 = l.val
    omega
  · unfold colB
    exact if_neg (by show ¬((l.val + 64) % 128 < 64 ↔ l.val / 64 % 2 = 0); omega)

end Cert.Kernel5Ideal.Att

end
-- ==== Proof.Att5Ref.lean ====
/-
  The masked attention's reference at one entry.
-/
module

public import proofs.«01_k».proof.Proof.Gen.Reference5Ideal.Run
public import proofs.«01_k».proof.Proof.Att5Form
public import Idealize.ShloMosaic.Lib.Pointwise
public import Idealize.ShloMosaic.Lib.Routing.Words

@[expose] public section

noncomputable section

namespace Cert.Reference5Ideal.Att

open Cert.Reference5Ideal Cert.Reference5Ideal.Gen Cert.Reference5Ideal.Value Idealize.ShloMosaic Idealize.ShloMosaic.TcCoe Idealize.SL.Sem

/-! ## The block of a position -/

/-- The sign of a word. -/
def sgnW (x : BitVec 32) : BitVec 32 := if x = 0 then 0 else if x.msb then -1 else 1

/-- A word divided by the block length, rounded down. -/
def floorW (x : BitVec 32) : BitVec 32 :=
  Scalar.select (IntOp.andi (IntOp.cmpi .ne (sgnW x) (sgnW 512#32)) (IntOp.cmpi .ne (IntOp.remsi .host x 512#32) 0#32)) (IntOp.subi (IntOp.divsi .host x 512#32) 1#32) (IntOp.divsi .host x 512#32)

theorem floorW_at (n : ℕ) (hn : n < 16384) : floorW (BitVec.ofNat 32 n) = BitVec.ofNat 32 (n / 512) := by
  have hd : IntOp.divsi .host (BitVec.ofNat 32 n) 512#32 = BitVec.ofNat 32 (n / 512) := Routing.divsi_word .host (by omega) (by decide) (by decide)
  have hr : IntOp.remsi .host (BitVec.ofNat 32 n) 512#32 = BitVec.ofNat 32 (n % 512) := Routing.remsi_word .host (by omega) (by decide) (by decide)
  unfold floorW
  rw [hd, hr]
  rcases Nat.eq_zero_or_pos n with rfl | h
  · rfl
  · have hs : sgnW (BitVec.ofNat 32 n) = 1 := by
      have hnat : (BitVec.ofNat 32 n).toNat = n := by rw [BitVec.toNat_ofNat]; omega
      have h0 : BitVec.ofNat 32 n ≠ 0 := fun e => by
        have := congrArg BitVec.toNat e
        rw [hnat] at this
        exact absurd this (by show n ≠ 0; omega)
      have hm : (BitVec.ofNat 32 n).msb = false := BitVec.msb_eq_false_iff_two_mul_lt.mpr (by omega)
      unfold sgnW
      rw [if_neg h0, hm]
      rfl
    have hs' : sgnW 512#32 = 1 := by decide
    rw [hs, hs']
    have e : ∀ b : BitVec 1, IntOp.andi (IntOp.cmpi .ne (1 : BitVec 32) 1) b = 0#1 := by decide
    rw [e]
    rfl

/-- The keys' blocks. -/
def rowR : IVec S1x16384 32 :=
  select (andi (cmpi .ne (signi (broadcastInDim S1x16384 ![1] bcast_S16384_S1x16384_1 (iotaInDim S16384 32 0))) (broadcastInDim S1x16384 ![] bcast_S_S1x16384 (signi (id (constantI S_ 32 512#32))))) (cmpi .ne (Host.remsi (broadcastInDim S1x16384 ![1] bcast_S16384_S1x16384_1 (iotaInDim S16384 32 0)) (broadcastInDim S1x16384 ![] bcast_S_S1x16384 (id (constantI S_ 32 512#32)))) (broadcastInDim S1x16384 ![] bcast_S_S1x16384 (constantI S_ 32 0#32)))) (subi (Host.divsi (broadcastInDim S1x16384 ![1] bcast_S16384_S1x16384_1 (iotaInDim S16384 32 0)) (broadcastInDim S1x16384 ![] bcast_S_S1x16384 (id (constantI S_ 32 512#32)))) (broadcastInDim S1x16384 ![] bcast_S_S1x16384 (constantI S_ 32 1#32))) (Host.divsi (broadcastInDim S1x16384 ![1] bcast_S16384_S1x16384_1 (iotaInDim S16384 32 0)) (broadcastInDim S1x16384 ![] bcast_S_S1x16384 (id (constantI S_ 32 512#32))))

/-- The queries' blocks. -/
def colR : IVec S16384x1 32 :=
  select (andi (cmpi .ne (signi (broadcastInDim S16384x1 ![0] bcast_S16384_S16384x1_0 (iotaInDim S16384 32 0))) (broadcastInDim S16384x1 ![] bcast_S_S16384x1 (signi (id (constantI S_ 32 512#32))))) (cmpi .ne (Host.remsi (broadcastInDim S16384x1 ![0] bcast_S16384_S16384x1_0 (iotaInDim S16384 32 0)) (broadcastInDim S16384x1 ![] bcast_S_S16384x1 (id (constantI S_ 32 512#32)))) (broadcastInDim S16384x1 ![] bcast_S_S16384x1 (constantI S_ 32 0#32)))) (subi (Host.divsi (broadcastInDim S16384x1 ![0] bcast_S16384_S16384x1_0 (iotaInDim S16384 32 0)) (broadcastInDim S16384x1 ![] bcast_S_S16384x1 (id (constantI S_ 32 512#32)))) (broadcastInDim S16384x1 ![] bcast_S_S16384x1 (constantI S_ 32 1#32))) (Host.divsi (broadcastInDim S16384x1 ![0] bcast_S16384_S16384x1_0 (iotaInDim S16384 32 0)) (broadcastInDim S16384x1 ![] bcast_S_S16384x1 (id (constantI S_ 32 512#32))))

theorem rowR_at (s : Fin 16384) : rowR (ix2 (0 : Fin 1) s) = BitVec.ofNat 32 (s.val / 512) := by
  have e : broadcastInDim S1x16384 ![1] bcast_S16384_S1x16384_1 (iotaInDim S16384 32 0) (ix2 (0 : Fin 1) s) = BitVec.ofNat 32 s.val :=
    broadcastInDim_apply _ _ _ _ (ix1 s) (fun a => by fin_cases a <;> rfl)
  refine Eq.trans ?_ (floorW_at s.val s.isLt)
  rw [← e]
  rfl

theorem colR_at (t : Fin 16384) : colR (ix2 t (0 : Fin 1)) = BitVec.ofNat 32 (t.val / 512) := by
  have e : broadcastInDim S16384x1 ![0] bcast_S16384_S16384x1_0 (iotaInDim S16384 32 0) (ix2 t (0 : Fin 1)) = BitVec.ofNat 32 t.val :=
    broadcastInDim_apply _ _ _ _ (ix1 t) (fun a => by fin_cases a <;> rfl)
  refine Eq.trans ?_ (floorW_at t.val t.isLt)
  rw [← e]
  rfl

/-- Which key blocks are not later than a query's. -/
def causalR : IVec S16384x16384 1 :=
  cmpi .sle (broadcastInDim S16384x16384 ![0, 1] bcast_S1x16384_S16384x16384_0_1 rowR) (broadcastInDim S16384x16384 ![0, 1] bcast_S16384x1_S16384x16384_0_1 colR)

/-- Which keys a query attends to. -/
def keepR (a3 : IVec S2x16384x16384 8) : IVec S2x16384x16384 1 :=
  andi (cmpi .sgt a3 (broadcastInDim S2x16384x16384 ![] bcast_S_S2x16384x16384 (constantI S_ 8 0#8))) (broadcastInDim S2x16384x16384 ![0, 1, 2] bcast_S1x16384x16384_S2x16384x16384_0_1_2 (broadcastInDim S1x16384x16384 ![1, 2] bcast_S16384x16384_S1x16384x16384_1_2 causalR))

/-- The scores. -/
def scoreR (a0 : FVec Ideal S2x16384x512 .bf16) (a1 : FVec Ideal S2x512x16384 .bf16) : FVec Ideal S2x8x16384x16384 .f32 :=
  Host.dotGeneral dot_S2x16384x8x64_S2x8x64x16384_S2x8x16384x16384_3_2_1_3_02_01 none (shapeCast _ (extf .f32 a0 bitsLt_bf16_f32) shapeCasts_S2x16384x512_S2x16384x8x64) (shapeCast _ (extf .f32 a1 bitsLt_bf16_f32) shapeCasts_S2x512x16384_S2x8x64x16384)

/-- The logits. -/
def logitR (a0 : FVec Ideal S2x16384x512 .bf16) (a1 : FVec Ideal S2x512x16384 .bf16) (a3 : IVec S2x16384x16384 8) : FVec Ideal S2x8x16384x16384 .f32 :=
  select (broadcastInDim S2x8x16384x16384 ![0, 1, 2, 3] bcast_S2x1x16384x16384_S2x8x16384x16384_0_1_2_3 (broadcastInDim S2x1x16384x16384 ![0, 2, 3] bcast_S2x16384x16384_S2x1x16384x16384_0_2_3 (keepR a3))) (scoreR a0 a1) (broadcastInDim S2x8x16384x16384 ![] bcast_S_S2x8x16384x16384 (id (constant S_ .f32 0xFF800000#32)))

/-- Their maxima. -/
def maxR (a0 : FVec Ideal S2x16384x512 .bf16) (a1 : FVec Ideal S2x512x16384 .bf16) (a3 : IVec S2x16384x16384 8) : FVec Ideal S2x8x16384 .f32 :=
  Host.reduce FloatOps.maximumf (logitR a0 a1 a3) (constant S_ .f32 0xFF800000#32) reducesTo_S2x8x16384x16384_S2x8x16384_d3 h_S_

/-- The weights. -/
def probR (a0 : FVec Ideal S2x16384x512 .bf16) (a1 : FVec Ideal S2x512x16384 .bf16) (a3 : IVec S2x16384x16384 8) : FVec Ideal S2x8x16384x16384 .f32 :=
  Host.powf (broadcastInDim S2x8x16384x16384 ![] bcast_S_S2x8x16384x16384 (constant S_ .f32 0x40000000#32)) (subf (logitR a0 a1 a3) (broadcastInDim S2x8x16384x16384 ![0, 1, 2, 3] bcast_S2x8x16384x1_S2x8x16384x16384_0_1_2_3 (broadcastInDim S2x8x16384x1 ![0, 1, 2] bcast_S2x8x16384_S2x8x16384x1_0_1_2 (maxR a0 a1 a3))))

/-- The weighted sums. -/
def accR (a0 : FVec Ideal S2x16384x512 .bf16) (a1 : FVec Ideal S2x512x16384 .bf16) (a2 : FVec Ideal S2x16384x512 .bf16) (a3 : IVec S2x16384x16384 8) : FVec Ideal S2x8x64x16384 .f32 :=
  Host.dotGeneral dot_S2x16384x8x64_S2x8x16384x16384_S2x8x64x16384_1_3_3_2_02_01 none (shapeCast _ (extf .f32 a2 bitsLt_bf16_f32) shapeCasts_S2x16384x512_S2x16384x8x64) (probR a0 a1 a3)

/-- The weights' sums. -/
def sumR (a0 : FVec Ideal S2x16384x512 .bf16) (a1 : FVec Ideal S2x512x16384 .bf16) (a3 : IVec S2x16384x16384 8) : FVec Ideal S2x8x16384 .f32 :=
  Host.reduceAdd (probR a0 a1 a3) (constant S_ .f32 0x00000000#32) reducesTo_S2x8x16384x16384_S2x8x16384_d3 h_S_

theorem res_eq (m : (ℓ : Loc nD τ sig) → Buf (Elt Ideal) ℓ) (c : Dev nD) (a0 : FVec Ideal S2x16384x512 .bf16) (a1 : FVec Ideal S2x512x16384 .bf16) (a2 : FVec Ideal S2x16384x512 .bf16) (a3 : IVec S2x16384x16384 8)
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3) :
    res_main_v36 m c = truncf .bf16 (shapeCast _ (Host.divf (transpose S2x16384x8x64 [0, 3, 1, 2] (accR a0 a1 a2 a3) transposes_S2x8x64x16384_S2x16384x8x64_0_3_1_2)
      (broadcastInDim S2x16384x8x64 ![0, 1, 2, 3] bcast_S2x16384x8x1_S2x16384x8x64_0_1_2_3 (broadcastInDim S2x16384x8x1 ![0, 1, 2] bcast_S2x16384x8_S2x16384x8x1_0_1_2 (transpose S2x16384x8 [0, 2, 1] (sumR a0 a1 a3) transposes_S2x8x16384_S2x16384x8_0_2_1)))) shapeCasts_S2x16384x8x64_S2x16384x512) bitsLt_bf16_f32 := by
  subst h0 h1 h2 h3
  rfl

/-- The arguments by their coordinates. -/
abbrev qF (a0 : FVec Ideal S2x16384x512 .bf16) : Fin 2 → Fin 16384 → Fin 512 → EReal := fun b t k => a0 (ix3 b t k)
abbrev kF (a1 : FVec Ideal S2x512x16384 .bf16) : Fin 2 → Fin 512 → Fin 16384 → EReal := fun b k s => a1 (ix3 b k s)
abbrev wF (a3 : IVec S2x16384x16384 8) : Fin 2 → Fin 16384 → Fin 16384 → BitVec 8 := fun b t s => a3 (ix3 b t s)

theorem causalR_at (t s : Fin 16384) : causalR (ix2 t s) = if s.val / 512 ≤ t.val / 512 then 1#1 else 0#1 := by
  have ht := t.isLt
  have hs := s.isLt
  have e1 := rowR_at s
  have e2 := colR_at t
  unfold causalR
  generalize rowR = w1 at e1 ⊢
  generalize colR = w2 at e2 ⊢
  rw [cmpi_apply]
  rw [broadcastInDim_apply _ _ _ _ (ix2 (0 : Fin 1) s) (fun a => by fin_cases a <;> rfl)]
  rw [broadcastInDim_apply _ _ _ _ (ix2 t (0 : Fin 1)) (fun a => by fin_cases a <;> rfl)]
  rw [e1, e2]
  exact Cert.Form.word_le _ _ (by omega) (by omega)

theorem mask_pos (w : BitVec 8) : IntOp.cmpi .sgt w 0#8 = if 0 < w.toInt then 1#1 else 0#1 := by
  revert w; decide

theorem keepR_at (a3 : IVec S2x16384x16384 8) (b : Fin 2) (t s : Fin 16384) :
    keepR a3 (ix3 b t s) = if 0 < (a3 (ix3 b t s)).toInt ∧ s.val / 512 ≤ t.val / 512 then 1#1 else 0#1 := by
  have e := causalR_at t s
  unfold keepR
  generalize causalR = w at e ⊢
  show IntOp.andi (IntOp.cmpi .sgt (a3 (ix3 b t s)) 0#8) (broadcastInDim S2x16384x16384 ![0, 1, 2] bcast_S1x16384x16384_S2x16384x16384_0_1_2 (broadcastInDim S1x16384x16384 ![1, 2] bcast_S16384x16384_S1x16384x16384_1_2 w) (ix3 b t s)) = _
  rw [broadcastInDim_apply _ _ _ _ (ix3 (0 : Fin 1) t s) (fun a => by fin_cases a <;> rfl)]
  rw [broadcastInDim_apply _ _ _ _ (ix2 t s) (fun a => by fin_cases a <;> rfl)]
  rw [e, mask_pos, Cert.Form.and_ite]

theorem scoreR_at (a0 : FVec Ideal S2x16384x512 .bf16) (a1 : FVec Ideal S2x512x16384 .bf16) (b : Fin 2) (h : Fin 8) (t s : Fin 16384) :
    scoreR a0 a1 (ix4 b h t s) = ∑ k : Fin 64, a0 (ix3 b t (⟨64 * h.val + k.val, by omega⟩ : Fin 512)) * a1 (ix3 b (⟨64 * h.val + k.val, by omega⟩ : Fin 512) s) := by
  unfold scoreR
  simp only [pointwise]
  refine (zero_add _).trans (Finset.sum_congr rfl fun k _ => ?_)
  refine congrArg₂ (· * ·) (congrArg a0 ?_) (congrArg a1 ?_)
  · congr 1 <;> exact Fin.ext (by simp; try omega)
  · congr 1 <;> exact Fin.ext (by simp; try omega)

theorem logitR_at (a0 : FVec Ideal S2x16384x512 .bf16) (a1 : FVec Ideal S2x512x16384 .bf16) (a3 : IVec S2x16384x16384 8) (b : Fin 2) (h : Fin 8) (t s : Fin 16384) :
    logitR a0 a1 a3 (ix4 b h t s) = Cert.Form.Att.logit (qF a0) (kF a1) (wF a3) b h t s := by
  have e1 := keepR_at a3 b t s
  have e3 := scoreR_at a0 a1 b h t s
  unfold logitR
  generalize keepR a3 = w1 at e1 ⊢
  generalize scoreR a0 a1 = w3 at e3 ⊢
  show Scalar.select (broadcastInDim S2x8x16384x16384 ![0, 1, 2, 3] bcast_S2x1x16384x16384_S2x8x16384x16384_0_1_2_3 (broadcastInDim S2x1x16384x16384 ![0, 2, 3] bcast_S2x16384x16384_S2x1x16384x16384_0_2_3 w1) (ix4 b h t s)) (w3 (ix4 b h t s)) (Ideal.ofBits .f32 0xFF800000#32) = _
  rw [broadcastInDim_apply _ _ _ _ (ix4 b (0 : Fin 1) t s) (fun a => by fin_cases a <;> rfl)]
  rw [broadcastInDim_apply _ _ _ _ (ix3 b t s) (fun a => by fin_cases a <;> rfl)]
  rw [e1, e3, Cert.Form.ofBits_neg_inf, Cert.Form.select_ite]
  rfl

theorem maxR_at (a0 : FVec Ideal S2x16384x512 .bf16) (a1 : FVec Ideal S2x512x16384 .bf16) (a3 : IVec S2x16384x16384 8) (b : Fin 2) (h : Fin 8) (t : Fin 16384) :
    maxR a0 a1 a3 (ix3 b h t) = Finset.univ.sup (Cert.Form.Att.logit (qF a0) (kF a1) (wF a3) b h t) := by
  unfold maxR
  simp only [pointwise]
  rw [Cert.Form.ofBits_neg_inf, Cert.Form.fold_max_eq_sup]
  exact congrArg (Finset.univ.sup) (funext fun s => logitR_at a0 a1 a3 b h t s)

theorem probR_at (a0 : FVec Ideal S2x16384x512 .bf16) (a1 : FVec Ideal S2x512x16384 .bf16) (a3 : IVec S2x16384x16384 8) (b : Fin 2) (h : Fin 8) (t s : Fin 16384) :
    probR a0 a1 a3 (ix4 b h t s) = Ideal.exp2 (Cert.Form.Att.logit (qF a0) (kF a1) (wF a3) b h t s - Finset.univ.sup (Cert.Form.Att.logit (qF a0) (kF a1) (wF a3) b h t)) := by
  unfold probR
  simp only [pointwise, Nat.reduceEqDiff, ↓reduceDIte, logitR_at, maxR_at]
  exact Cert.Form.pow_two_eq _

theorem accR_at (a0 : FVec Ideal S2x16384x512 .bf16) (a1 : FVec Ideal S2x512x16384 .bf16) (a2 : FVec Ideal S2x16384x512 .bf16) (a3 : IVec S2x16384x16384 8) (b : Fin 2) (h : Fin 8) (d : Fin 64) (t : Fin 16384) :
    accR a0 a1 a2 a3 (ix4 b h d t) = Cert.Form.Att.acc (qF a0) (kF a1) (wF a3) b h t (fun s => a2 (ix3 b s (⟨64 * h.val + d.val, by omega⟩ : Fin 512))) := by
  unfold accR
  simp only [pointwise, probR_at]
  refine (zero_add _).trans ?_
  unfold Cert.Form.Att.acc Cert.Form.accOn
  refine Finset.sum_congr rfl fun s _ => ?_
  refine (mul_comm _ _).trans (congrArg₂ (· * ·) rfl (congrArg a2 ?_))
  congr 1 <;> exact Fin.ext (by simp; try omega)

theorem sumR_at (a0 : FVec Ideal S2x16384x512 .bf16) (a1 : FVec Ideal S2x512x16384 .bf16) (a3 : IVec S2x16384x16384 8) (b : Fin 2) (h : Fin 8) (t : Fin 16384) :
    sumR a0 a1 a3 (ix3 b h t) = Cert.Form.Att.acc (qF a0) (kF a1) (wF a3) b h t (fun _ => 1) := by
  unfold sumR
  simp only [pointwise, probR_at]
  refine (zero_add _).trans ?_
  unfold Cert.Form.Att.acc Cert.Form.accOn
  exact Finset.sum_congr rfl fun s _ => (mul_one _).symm

theorem res_at (m : (ℓ : Loc nD τ sig) → Buf (Elt Ideal) ℓ) (c : Dev nD) (a0 : FVec Ideal S2x16384x512 .bf16) (a1 : FVec Ideal S2x512x16384 .bf16) (a2 : FVec Ideal S2x16384x512 .bf16) (a3 : IVec S2x16384x16384 8)
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3) (b : Fin 2) (t : Fin 16384) (l : Fin 512) :
    (res_main_v36 m c : S2x16384x512.Idx → EReal) (ix3 b t l) = Cert.Form.Att.out (qF a0) (kF a1) (qF a2) (wF a3) b t l := by
  rw [res_eq m c a0 a1 a2 a3 h0 h1 h2 h3]
  simp only [pointwise, Nat.reduceEqDiff, ↓reduceDIte, accR_at, sumR_at]
  unfold Cert.Form.Att.out
  have hl := l.isLt
  refine congrArg₂ Ideal.div ?_ ?_
  · refine congrArg (fun V => Cert.Form.Att.acc (qF a0) (kF a1) (wF a3) b _ t V) (funext fun s => congrArg a2 ?_)
    congr 1
    exact Fin.ext (by simp; omega)
  · rfl

end Cert.Reference5Ideal.Att

end
-- ==== Proof.Att5Alg.lean ====
/-
  The masked attention and its reference give equal results.
-/
module

public import proofs.«01_k».proof.Defs
public import proofs.«01_k».proof.Proof.Att5Arr
public import proofs.«01_k».proof.Proof.Att5Ref

@[expose] public section

noncomputable section

namespace Cert.Kernel5Ideal.Att

open Idealize.ShloMosaic Idealize.ShloMosaic.TcCoe Idealize.SL.Sem
open Cert.Kernel5Ideal Cert.Kernel5Ideal.Gen

/-- An index of three coordinates is the triple of them. -/
theorem idx_triple {n p q : ℕ} (j : (Shape.mk 3 ![n, p, q]).Idx) : j = ix3 (j 0 : Fin n) (j 1 : Fin p) (j 2 : Fin q) :=
  funext fun a => by fin_cases a <;> rfl

/-- Equal arguments give equal results. -/
theorem algebraic : Cert.algebraic_Kernel5Ideal_Reference5Ideal (hKernel5Ideal := Cert.Kernel5Ideal.Gen.facts) (hReference5Ideal := Cert.Reference5Ideal.Gen.facts) :=
  fun m g m' g' _ hagree => ⟨fun c => (dats (F := Ideal) m 0 c).arrAt 4 cfg0.N,
    Cert.Kernel5Ideal.Value.run_blocks (F := Ideal) m g,
    (θ_run _ _ _).mono (fun r h c => ⟨(h c).1.trans (funext fun j : (Shape.mk 3 ![2, 16384, 512]).Idx => by
        rw [idx_triple j]
        exact (Cert.Reference5Ideal.Att.res_at m' c _ _ _ _ (hagree c).1 (hagree c).2.1 (hagree c).2.2.1 (hagree c).2.2.2 (j 0 : Fin 2) (j 1 : Fin 16384) (j 2 : Fin 512)).trans
          (arr_form m c _ _ _ _ rfl rfl rfl rfl (j 0 : Fin 2) (j 1 : Fin 16384) (j 2 : Fin 512)).symm),
      (h c).2⟩) (Cert.Reference5Ideal.Value.run (F := Ideal) m' g')⟩

end Cert.Kernel5Ideal.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.FoxFrame
public import proofs.«01_k».proof.Proof.KFoxFrame
public import proofs.«01_k».proof.Proof.FoxAlg
public import proofs.«01_k».proof.Proof.FfnAlg
public import proofs.«01_k».proof.Proof.Proj3Alg
public import proofs.«01_k».proof.Proof.Proj4Alg
public import proofs.«01_k».proof.Proof.Att5Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Fox.frame m ρ, fun m ρ _ => Cert.KernelIdeal.Fox.frame m ρ,
  fun m ρ _ => (θ_run _ _ _).mono (fun r h => ⟨fun c => (h c).2, Idealize.ShloMosaic.sem_eq_zero_of_no_sems (by decide) r.2⟩) (Cert.ReferenceIdeal.Value.run (F := Ideal) m ρ),
  fun m ρ _ => Cert.Kernel2.Gen.frame m ρ, fun m ρ _ => Cert.Kernel2Ideal.Gen.frame m ρ,
  fun m ρ _ => (θ_run _ _ _).mono (fun r h => ⟨fun c => (h c).2, Idealize.ShloMosaic.sem_eq_zero_of_no_sems (by decide) r.2⟩) (Cert.Reference2Ideal.Value.run (F := Ideal) m ρ),
  fun m ρ _ => Cert.Kernel3.Gen.frame m ρ, fun m ρ _ => Cert.Kernel3Ideal.Gen.frame m ρ,
  fun m ρ _ => (θ_run _ _ _).mono (fun r h => ⟨fun c => (h c).2.2.2.2.2.2, Idealize.ShloMosaic.sem_eq_zero_of_no_sems (by decide) r.2⟩) (Cert.Reference3Ideal.Value.run (F := Ideal) m ρ),
  fun m ρ _ => Cert.Kernel4.Gen.frame m ρ, fun m ρ _ => Cert.Kernel4Ideal.Gen.frame m ρ,
  fun m ρ _ => (θ_run _ _ _).mono (fun r h => ⟨fun c => (h c).2.2.2.2.2, Idealize.ShloMosaic.sem_eq_zero_of_no_sems (by decide) r.2⟩) (Cert.Reference4Ideal.Value.run (F := Ideal) m ρ),
  fun m ρ _ => Cert.Kernel5.Gen.frame m ρ, fun m ρ _ => Cert.Kernel5Ideal.Gen.frame m ρ,
  fun m ρ _ => (θ_run _ _ _).mono (fun r h => ⟨fun c => (h c).2, Idealize.ShloMosaic.sem_eq_zero_of_no_sems (by decide) r.2⟩) (Cert.Reference5Ideal.Value.run (F := Ideal) m ρ),
  IdealRules.named_const.statement _ _ _ _ _ rfl,
  Cert.KernelIdeal.Fox.algebraic,
  trivial,
  Cert.Kernel2Ideal.Ffn.algebraic,
  trivial,
  Cert.Kernel3Ideal.Proj.algebraic,
  trivial,
  Cert.Kernel4Ideal.Proj.algebraic,
  IdealRules.named_const.statement _ _ _ _ _ rfl,
  Cert.Kernel5Ideal.Att.algebraic⟩

end Cert.Proof

end
